-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "dead" .f32 0xC2D00000#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v18) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)) (v1 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_v12) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v7)) (v1 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_v9) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v75)) (v1 : (c : Dev Cert.Kernel10Ideal.nD) → Buf (Elt Ideal) ((c.tc : Thread Cert.Kernel10Ideal.nD Cert.Kernel10Ideal.τ).loc Cert.Kernel10Ideal.main_v76)) (v2 : (c : Dev Cert.Kernel10Ideal.nD) → Buf (Elt Ideal) ((c.tc : Thread Cert.Kernel10Ideal.nD Cert.Kernel10Ideal.τ).loc Cert.Kernel10Ideal.main_v77)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v75) = v0 c
          ∧ r.2.mem ((c.tc : Thread Cert.Kernel10Ideal.nD Cert.Kernel10Ideal.τ).loc Cert.Kernel10Ideal.main_v76) = v1 c
          ∧ r.2.mem ((c.tc : Thread Cert.Kernel10Ideal.nD Cert.Kernel10Ideal.τ).loc Cert.Kernel10Ideal.main_v77) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v51) = v1 c
          ∧ r.2.mem ((c.tc : Thread Cert.Reference10Ideal.nD Cert.Reference10Ideal.τ).loc Cert.Reference10Ideal.main_v53) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_args.lean ====
abbrev S2x8208x1024 : Shape := ⟨3, ![2, 8208, 1024]⟩
abbrev S_ : Shape := ⟨0, ![]⟩

class Facts : Prop where
  bcast_S_S2x8208x1024 : S_.BroadcastsInDim S2x8208x1024 (![] : Fin 0 → Fin S2x8208x1024.rank)

variable [Facts]

def fn {F : FTy → Type} [FloatOps F] (main_arg0 : FVec F S2x8208x1024 .bf16) (main_arg1 : FVec F S2x8208x1024 .bf16) (main_arg2 : FVec F S2x8208x1024 .bf16) : IVec S2x8208x1024 1 :=
  let main_v0 : FVec F S2x8208x1024 .bf16 := Host.absf main_arg0
  let main_cst : FVec F S_ .bf16 := constant S_ .bf16 0x7F80#16
  let main_v1 : FVec F S2x8208x1024 .bf16 := broadcastInDim S2x8208x1024 ![] bcast_S_S2x8208x1024 main_cst
  let main_v2 : IVec S2x8208x1024 1 := cmpf .olt main_v0 main_v1
  let main_v3 : FVec F S2x8208x1024 .bf16 := Host.absf main_arg1
  let main_cst_0 : FVec F S_ .bf16 := constant S_ .bf16 0x7F80#16
  let main_v4 : FVec F S2x8208x1024 .bf16 := broadcastInDim S2x8208x1024 ![] bcast_S_S2x8208x1024 main_cst_0
  let main_v5 : IVec S2x8208x1024 1 := cmpf .olt main_v3 main_v4
  let main_v6 : IVec S2x8208x1024 1 := andi main_v2 main_v5
  let main_v7 : FVec F S2x8208x1024 .bf16 := Host.absf main_arg2
  let main_cst_1 : FVec F S_ .bf16 := constant S_ .bf16 0x7F80#16
  let main_v8 : FVec F S2x8208x1024 .bf16 := broadcastInDim S2x8208x1024 ![] bcast_S_S2x8208x1024 main_cst_1
  let main_v9 : IVec S2x8208x1024 1 := cmpf .olt main_v7 main_v8
  let main_v10 : IVec S2x8208x1024 1 := andi main_v6 main_v9
  main_v10
-- ==== Kernel.lean ====
abbrev S2x8208x1024 : Shape := ⟨3, ![2, 8208, 1024]⟩
abbrev S_ : Shape := ⟨0, ![]⟩
abbrev S2x8448x1024 : Shape := ⟨3, ![2, 8448, 1024]⟩
abbrev S66x256x1024 : Shape := ⟨3, ![66, 256, 1024]⟩
abbrev S66x1024x256 : Shape := ⟨3, ![66, 1024, 256]⟩
abbrev S16896x1024 : Shape := ⟨2, ![16896, 1024]⟩
abbrev S1x512x256 : Shape := ⟨3, ![1, 512, 256]⟩
abbrev S33x256x512 : Shape := ⟨3, ![33, 256, 512]⟩
abbrev S33x512x256 : Shape := ⟨3, ![33, 512, 256]⟩
abbrev S256x512 : Shape := ⟨2, ![256, 512]⟩
abbrev S4x128x256 : Shape := ⟨3, ![4, 128, 256]⟩
abbrev S4x256x256 : Shape := ⟨3, ![4, 256, 256]⟩
abbrev S256x256 : Shape := ⟨2, ![256, 256]⟩
abbrev S1x256 : Shape := ⟨2, ![1, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S1x256x256 : Shape := ⟨3, ![1, 256, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 19
  | .vmem => 10
  | .smem => 0
  | _ => 0

abbrev bufTy : (tb : Table) → Fin (tcTables nBuf tb) → BufTy
  | .hbm, ⟨0, _⟩ => ⟨S2x8208x1024, .bf16⟩
  | .hbm, ⟨1, _⟩ => ⟨S2x8208x1024, .bf16⟩
  | .hbm, ⟨2, _⟩ => ⟨S2x8208x1024, .bf16⟩
  | .hbm, ⟨3, _⟩ => ⟨S_, .bf16⟩
  | .hbm, ⟨4, _⟩ => ⟨S2x8448x1024, .bf16⟩
  | .hbm, ⟨5, _⟩ => ⟨S66x256x1024, .bf16⟩
  | .hbm, ⟨6, _⟩ => ⟨S66x1024x256, .bf16⟩
  | .hbm, ⟨7, _⟩ => ⟨S_, .bf16⟩
  | .hbm, ⟨8, _⟩ => ⟨S2x8448x1024, .bf16⟩
  | .hbm, ⟨9, _⟩ => ⟨S66x256x1024, .bf16⟩
  | .hbm, ⟨10, _⟩ => ⟨S16896x1024, .bf16⟩
  | .hbm, ⟨11, _⟩ => ⟨S_, .bf16⟩
  | .hbm, ⟨12, _⟩ => ⟨S2x8448x1024, .bf16⟩
  | .hbm, ⟨13, _⟩ => ⟨S66x256x1024, .bf16⟩
  | .hbm, ⟨14, _⟩ => ⟨S66x1024x256, .bf16⟩
  | .hbm, ⟨15, _⟩ => ⟨S66x256x1024, .bf16⟩
  | .hbm, ⟨16, _⟩ => ⟨S16896x1024, .bf16⟩
  | .hbm, ⟨17, _⟩ => ⟨S2x8448x1024, .bf16⟩
  | .hbm, ⟨18, _⟩ => ⟨S2x8208x1024, .bf16⟩
  | .local _ .vmem, ⟨0, _⟩ => ⟨S1x512x256, .bf16⟩
  | .local _ .vmem, ⟨1, _⟩ => ⟨S1x512x256, .bf16⟩
  | .local _ .vmem, ⟨2, _⟩ => ⟨S33x256x512, .bf16⟩
  | .local _ .vmem, ⟨3, _⟩ => ⟨S33x256x512, .bf16⟩
  | .local _ .vmem, ⟨4, _⟩ => ⟨S33x512x256, .bf16⟩
  | .local _ .vmem, ⟨5, _⟩ => ⟨S33x512x256, .bf16⟩
  | .local _ .vmem, ⟨6, _⟩ => ⟨S256x512, .bf16⟩
  | .local _ .vmem, ⟨7, _⟩ => ⟨S256x512, .bf16⟩
  | .local _ .vmem, ⟨8, _⟩ => ⟨S4x128x256, .f32⟩
  | .local _ .vmem, ⟨9, _⟩ => ⟨S4x256x256, .f32⟩
  | _, _ => ⟨S2x8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 33], ![false, false, false]⟩

def k0_off1 (i : grid0.Coords) : Fin 3 → Nat :=
  let arg2 : BitVec 32 := BitVec.ofNat 32 (i 2).val
  let v16 : Index := Scalar.indexCast arg2
  let c0_8 : Index := 0#32
  let c0_9 : Index := 0#32
  ![v16.toNat, 0, 0]
def k0_off2 (i : grid0.Coords) : Fin 3 → Nat :=
  let arg2 : BitVec 32 := BitVec.ofNat 32 (i 2).val
  let v25 : Index := Scalar.indexCast arg2
  let c0_17 : Index := 0#32
  let c128 : Index := 128#32
  ![v25.toNat, 0, 128]
def k0_off3 (i : grid0.Coords) : Fin 3 → Nat :=
  let arg2 : BitVec 32 := BitVec.ofNat 32 (i 2).val
  let v34 : Index := Scalar.indexCast arg2
  let c0_24 : Index := 0#32
  let c256 : Index := 256#32
  ![v34.toNat, 0, 256]
def k0_off4 (i : grid0.Coords) : Fin 3 → Nat :=
  let arg2 : BitVec 32 := BitVec.ofNat 32 (i 2).val
  let v43 : Index := Scalar.indexCast arg2
  let c0_31 : Index := 0#32
  let c384 : Index := 384#32
  ![v43.toNat, 0, 384]
def k0_off5 (i : grid0.Coords) : Fin 3 → Nat :=
  let arg2 : BitVec 32 := BitVec.ofNat 32 (i 2).val
  let v189 : Index := Scalar.indexCast arg2
  let c0_97 : Index := 0#32
  let c0_98 : Index := 0#32
  ![v189.toNat, 0, 0]
def k0_off6 (i : grid0.Coords) : Fin 3 → Nat :=
  let arg2 : BitVec 32 := BitVec.ofNat 32 (i 2).val
  let v207 : Index := Scalar.indexCast arg2
  let c128_110 : Index := 128#32
  let c0_111 : Index := 0#32
  ![v207.toNat, 128, 0]
def k0_off7 (i : grid0.Coords) : Fin 3 → Nat :=
  let arg2 : BitVec 32 := BitVec.ofNat 32 (i 2).val
  let v225 : Index := Scalar.indexCast arg2
  let c256_123 : Index := 256#32
  let c0_124 : Index := 0#32
  ![v225.toNat, 256, 0]
def k0_off8 (i : grid0.Coords) : Fin 3 → Nat :=
  let arg2 : BitVec 32 := BitVec.ofNat 32 (i 2).val
  let v243 : Index := Scalar.indexCast arg2
  let c384_136 : Index := 384#32
  let c0_137 : Index := 0#32
  ![v243.toNat, 384, 0]
def k0_off9 (arg9 : BitVec 32) : Fin 3 → Nat :=
  let v276 : Index := Scalar.indexCast arg9
  let c0_163 : Index := 0#32
  let c0_164 : Index := 0#32
  ![v276.toNat, 0, 0]

def k0_off10 (arg9 : BitVec 32) : Fin 3 → Nat :=
  let v285 : Index := Scalar.indexCast arg9
  let c0_172 : Index := 0#32
  let c128_173 : Index := 128#32
  ![v285.toNat, 0, 128]
def k0_off11 (arg9 : BitVec 32) : Fin 3 → Nat :=
  let v294 : Index := Scalar.indexCast arg9
  let c0_181 : Index := 0#32
  let c256_182 : Index := 256#32
  ![v294.toNat, 0, 256]
def k0_off12 (arg9 : BitVec 32) : Fin 3 → Nat :=
  let v303 : Index := Scalar.indexCast arg9
  let c0_190 : Index := 0#32
  let c384_191 : Index := 384#32
  ![v303.toNat, 0, 384]
def k0_off13 (arg9 : BitVec 32) : Fin 3 → Nat :=
  let v439 : Index := Scalar.indexCast arg9
  let c0_253 : Index := 0#32
  let c0_254 : Index := 0#32
  ![v439.toNat, 0, 0]
def k0_off14 (arg9 : BitVec 32) : Fin 3 → Nat :=
  let v455 : Index := Scalar.indexCast arg9
  let c128_265 : Index := 128#32
  let c0_266 : Index := 0#32
  ![v455.toNat, 128, 0]
def k0_off15 (arg9 : BitVec 32) : Fin 3 → Nat :=
  let v471 : Index := Scalar.indexCast arg9
  let c256_277 : Index := 256#32
  let c0_278 : Index := 0#32
  ![v471.toNat, 256, 0]
def k0_off16 (arg9 : BitVec 32) : Fin 3 → Nat :=
  let v487 : Index := Scalar.indexCast arg9
  let c384_289 : Index := 384#32
  let c0_290 : Index := 0#32
  ![v487.toNat, 384, 0]

def k0_chk1 (arg9 : BitVec 32) : Prop :=
  (∀ a, (k0_off9 arg9) a + S1x256x128.size a ≤ S33x256x512.size a) ∧
  (∀ a, (k0_off10 arg9) a + S1x256x128.size a ≤ S33x256x512.size a) ∧
  (∀ a, (k0_off11 arg9) a + S1x256x128.size a ≤ S33x256x512.size a) ∧
  (∀ a, (k0_off12 arg9) a + S1x256x128.size a ≤ S33x256x512.size a) ∧
  (∀ a, (k0_off13 arg9) a + S1x128x256.size a ≤ S33x512x256.size a) ∧
  (∀ a, (k0_off14 arg9) a + S1x128x256.size a ≤ S33x512x256.size a) ∧
  (∀ a, (k0_off15 arg9) a + S1x128x256.size a ≤ S33x512x256.size a) ∧
  (∀ a, (k0_off16 arg9) a + S1x128x256.size a ≤ S33x512x256.size a)
theorem k0_off9_inb : ∀ (arg9 : BitVec 32) (k0_hw1 : k0_chk1 arg9), ∀ a, (k0_off9 arg9) a + S1x256x128.size a ≤ S33x256x512.size a := fun arg9 k0_hw1 => k0_hw1.1
theorem k0_off10_inb : ∀ (arg9 : BitVec 32) (k0_hw1 : k0_chk1 arg9), ∀ a, (k0_off10 arg9) a + S1x256x128.size a ≤ S33x256x512.size a := fun arg9 k0_hw1 => k0_hw1.2.1
theorem k0_off11_inb : ∀ (arg9 : BitVec 32) (k0_hw1 : k0_chk1 arg9), ∀ a, (k0_off11 arg9) a + S1x256x128.size a ≤ S33x256x512.size a := fun arg9 k0_hw1 => k0_hw1.2.2.1
theorem k0_off12_inb : ∀ (arg9 : BitVec 32) (k0_hw1 : k0_chk1 arg9), ∀ a, (k0_off12 arg9) a + S1x256x128.size a ≤ S33x256x512.size a := fun arg9 k0_hw1 => k0_hw1.2.2.2.1
theorem k0_off13_inb : ∀ (arg9 : BitVec 32) (k0_hw1 : k0_chk1 arg9), ∀ a, (k0_off13 arg9) a + S1x128x256.size a ≤ S33x512x256.size a := fun arg9 k0_hw1 => k0_hw1.2.2.2.2.1
theorem k0_off14_inb : ∀ (arg9 : BitVec 32) (k0_hw1 : k0_chk1 arg9), ∀ a, (k0_off14 arg9) a + S1x128x256.size a ≤ S33x512x256.size a := fun arg9 k0_hw1 => k0_hw1.2.2.2.2.2.1
theorem k0_off15_inb : ∀ (arg9 : BitVec 32) (k0_hw1 : k0_chk1 arg9), ∀ a, (k0_off15 arg9) a + S1x128x256.size a ≤ S33x512x256.size a := fun arg9 k0_hw1 => k0_hw1.2.2.2.2.2.2.1
theorem k0_off16_inb : ∀ (arg9 : BitVec 32) (k0_hw1 : k0_chk1 arg9), ∀ a, (k0_off16 arg9) a + S1x128x256.size a ≤ S33x512x256.size a := fun arg9 k0_hw1 => k0_hw1.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S33x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S33x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead" => some ⊥
  | _ => none
-- ==== ReferenceIdeal.lean ====
abbrev S2x8208x1024 : Shape := ⟨3, ![2, 8208, 1024]⟩
abbrev S2x8208x8x128 : Shape := ⟨4, ![2, 8208, 8, 128]⟩
abbrev S2x8x8208x128 : Shape := ⟨4, ![2, 8, 8208, 128]⟩
abbrev S8208 : Shape := ⟨1, ![8208]⟩
abbrev S2x8x8208x8208 : Shape := ⟨4, ![2, 8, 8208, 8208]⟩
abbrev S_ : Shape := ⟨0, ![]⟩
abbrev S1x8208 : Shape := ⟨2, ![1, 8208]⟩
abbrev S8208x1 : Shape := ⟨2, ![8208, 1]⟩
abbrev S8208x8208 : Shape := ⟨2, ![8208, 8208]⟩

abbrev nBuf : Space → Nat
  | .hbm => 75
  | .vmem => 0
  | .smem => 0
  | _ => 0

abbrev bufTy : (tb : Table) → Fin (tcTables nBuf tb) → BufTy
  | .hbm, ⟨0, _⟩ => ⟨S2x8208x1024, .bf16⟩
  | .hbm, ⟨1, _⟩ => ⟨S2x8208x1024, .bf16⟩
  | .hbm, ⟨2, _⟩ => ⟨S2x8208x1024, .bf16⟩
  | .hbm, ⟨3, _⟩ => ⟨S2x8208x1024, .f32⟩
  | .hbm, ⟨4, _⟩ => ⟨S2x8208x8x128, .f32⟩
  | .hbm, ⟨5, _⟩ => ⟨S2x8x8208x128, .f32⟩
  | .hbm, ⟨6, _⟩ => ⟨S2x8208x1024, .f32⟩
  | .hbm, ⟨7, _⟩ => ⟨S2x8208x8x128, .f32⟩
  | .hbm, ⟨8, _⟩ => ⟨S2x8x8208x128, .f32⟩
  | .hbm, ⟨9, _⟩ => ⟨S2x8208x1024, .f32⟩
  | .hbm, ⟨10, _⟩ => ⟨S2x8208x8x128, .f32⟩
  | .hbm, ⟨11, _⟩ => ⟨S2x8x8208x128, .f32⟩
  | .hbm, ⟨12, _⟩ => ⟨S8208, .i32⟩
  | .hbm, ⟨13, _⟩ => ⟨S2x8x8208x8208, .f32⟩
  | .hbm, ⟨14, _⟩ => ⟨S_, .f32⟩
  | .hbm, ⟨15, _⟩ => ⟨S2x8x8208x8208, .f32⟩
  | .hbm, ⟨16, _⟩ => ⟨S2x8x8208x8208, .f32⟩
  | .hbm, ⟨17, _⟩ => ⟨S1x8208, .i32⟩
  | .hbm, ⟨18, _⟩ => ⟨S8208x1, .i32⟩
  | .hbm, ⟨19, _⟩ => ⟨S8208x8208, .i32⟩
  | .hbm, ⟨20, _⟩ => ⟨S8208x8208, .i32⟩
  | .hbm, ⟨21, _⟩ => ⟨S8208x8208, .i1⟩
  | .hbm, ⟨22, _⟩ => ⟨S2x8x8208x8208, .f32⟩
  | .hbm, ⟨23, _⟩ => ⟨S2x8x8208x8208, .f32⟩
  | .hbm, ⟨24, _⟩ => ⟨S_, .f32⟩
  | .hbm, ⟨25, _⟩ => ⟨S2x8x8208x8208, .f32⟩
  | .hbm, ⟨26, _⟩ => ⟨S2x8x8208x8208, .f32⟩
  | .hbm, ⟨27, _⟩ => ⟨S2x8x8208x8208, .f32⟩
  | .hbm, ⟨28, _⟩ => ⟨S2x8x8208x8208, .f32⟩
  | .hbm, ⟨29, _⟩ => ⟨S2x8x8208x8208, .i1⟩
  | .hbm, ⟨30, _⟩ => ⟨S2x8x8208x8208, .f32⟩
  | .hbm, ⟨31, _⟩ => ⟨S2x8x8208x8208, .f32⟩
  | .hbm, ⟨32, _⟩ => ⟨S2x8x8208x8208, .f32⟩
  | .hbm, ⟨33, _⟩ => ⟨S2x8x8208x8208, .f32⟩
  | .hbm, ⟨34, _⟩ => ⟨S2x8x8208x8208, .f32⟩
  | .hbm, ⟨35, _⟩ => ⟨S2x8x8208x8208, .f32⟩
  | .hbm, ⟨36, _⟩ => ⟨S2x8x8208x8208, .f32⟩
  | .hbm, ⟨37, _⟩ => ⟨S2x8x8208x8208, .f32⟩
  | .hbm, ⟨38, _⟩ => ⟨S2x8x8208x8208, .f32⟩
  | .hbm, ⟨39, _⟩ => ⟨S_, .f32⟩
  | .hbm, ⟨40, _⟩ => ⟨S_, .f32⟩
  | .hbm, ⟨41, _⟩ => ⟨S2x8x8208x8208, .i1⟩
  | .hbm, ⟨42, _⟩ => ⟨S2x8x8208x8208, .f32⟩
  | .hbm, ⟨43, _⟩ => ⟨S2x8x8208x8208, .f32⟩
  | .hbm, ⟨44, _⟩ => ⟨S_, .f32⟩
  | .hbm, ⟨45, _⟩ => ⟨S_, .f32⟩
  | .hbm, ⟨46, _⟩ => ⟨S2x8x8208x8208, .f32⟩
  | .hbm, ⟨47, _⟩ => ⟨S2x8x8208x8208, .f32⟩
  | .hbm, ⟨48, _⟩ => ⟨S2x8x8208x8208, .f32⟩
  | .hbm, ⟨49, _⟩ => ⟨S_, .f32⟩
  | .hbm, ⟨50, _⟩ => ⟨S2x8x8208x8208, .f32⟩
  | .hbm, ⟨51, _⟩ => ⟨S2x8x8208x8208, .f32⟩
  | .hbm, ⟨52, _⟩ => ⟨S2x8x8208x8208, .f32⟩
  | .hbm, ⟨53, _⟩ => ⟨S2x8x8208x8208, .f32⟩
  | .hbm, ⟨54, _⟩ => ⟨S2x8x8208x8208, .i1⟩
  | .hbm, ⟨55, _⟩ => ⟨S2x8x8208x8208, .f32⟩
  | .hbm, ⟨56, _⟩ => ⟨S2x8x8208x8208, .f32⟩
  | .hbm, ⟨57, _⟩ => ⟨S2x8x8208x8208, .f32⟩
  | .hbm, ⟨58, _⟩ => ⟨S2x8x8208x8208, .f32⟩
  | .hbm, ⟨59, _⟩ => ⟨S2x8x8208x8208, .f32⟩
  | .hbm, ⟨60, _⟩ => ⟨S2x8x8208x8208, .f32⟩
  | .hbm, ⟨61, _⟩ => ⟨S2x8x8208x8208, .f32⟩
  | .hbm, ⟨62, _⟩ => ⟨S2x8x8208x8208, .f32⟩
  | .hbm, ⟨63, _⟩ => ⟨S2x8x8208x8208, .f32⟩
  | .hbm, ⟨64, _⟩ => ⟨S2x8x8208x8208, .f32⟩
  | .hbm, ⟨65, _⟩ => ⟨S2x8x8208x8208, .f32⟩
  | .hbm, ⟨66, _⟩ => ⟨S_, .f32⟩
  | .hbm, ⟨67, _⟩ => ⟨S_, .f32⟩
  | .hbm, ⟨68, _⟩ => ⟨S2x8x8208x8208, .i1⟩
  | .hbm, ⟨69, _⟩ => ⟨S2x8x8208x8208, .f32⟩
  | .hbm, ⟨70, _⟩ => ⟨S2x8x8208x8208, .f32⟩
  | .hbm, ⟨71, _⟩ => ⟨S2x8x8208x128, .f32⟩
  | .hbm, ⟨72, _⟩ => ⟨S2x8208x8x128, .f32⟩
  | .hbm, ⟨73, _⟩ => ⟨S2x8208x1024, .f32⟩
  | .hbm, ⟨74, _⟩ => ⟨S2x8208x1024, .bf16⟩
  | _, _ => ⟨S2x8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Kernel2.lean ====
abbrev S2x8208x5632 : Shape := ⟨3, ![2, 8208, 5632]⟩
abbrev S2x8208x2048 : Shape := ⟨3, ![2, 8208, 2048]⟩
abbrev S2x5632x2048 : Shape := ⟨3, ![2, 5632, 2048]⟩
abbrev S2048 : Shape := ⟨1, ![2048]⟩
abbrev S_ : Shape := ⟨0, ![]⟩
abbrev S2x8448x5632 : Shape := ⟨3, ![2, 8448, 5632]⟩
abbrev S16896x5632 : Shape := ⟨2, ![16896, 5632]⟩
abbrev S2x8448x2048 : Shape := ⟨3, ![2, 8448, 2048]⟩
abbrev S16896x2048 : Shape := ⟨2, ![16896, 2048]⟩
abbrev S1x2048 : Shape := ⟨2, ![1, 2048]⟩
abbrev S16384x2048 : Shape := ⟨2, ![16384, 2048]⟩
abbrev S256x5632 : Shape := ⟨2, ![256, 5632]⟩
abbrev S256x2048 : Shape := ⟨2, ![256, 2048]⟩
abbrev S1x5632x2048 : Shape := ⟨3, ![1, 5632, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x8208x5632, .bf16⟩
  | .hbm, ⟨1, _⟩ => ⟨S2x8208x2048, .f32⟩
  | .hbm, ⟨2, _⟩ => ⟨S2x5632x2048, .f32⟩
  | .hbm, ⟨3, _⟩ => ⟨S2048, .f32⟩
  | .hbm, ⟨4, _⟩ => ⟨S_, .bf16⟩
  | .hbm, ⟨5, _⟩ => ⟨S2x8448x5632, .bf16⟩
  | .hbm, ⟨6, _⟩ => ⟨S16896x5632, .bf16⟩
  | .hbm, ⟨7, _⟩ => ⟨S_, .f32⟩
  | .hbm, ⟨8, _⟩ => ⟨S2x8448x2048, .f32⟩
  | .hbm, ⟨9, _⟩ => ⟨S16896x2048, .f32⟩
  | .hbm, ⟨10, _⟩ => ⟨S2x5632x2048, .bf16⟩
  | .hbm, ⟨11, _⟩ => ⟨S1x2048, .f32⟩
  | .hbm, ⟨12, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S1x5632x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S2x8208x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  v30
def cc0_transform_0 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x8208x5632 : Shape := ⟨3, ![2, 8208, 5632]⟩
abbrev S2x8208x2048 : Shape := ⟨3, ![2, 8208, 2048]⟩
abbrev S2x5632x2048 : Shape := ⟨3, ![2, 5632, 2048]⟩
abbrev S2048 : Shape := ⟨1, ![2048]⟩
abbrev S1x5632x2048 : Shape := ⟨3, ![1, 5632, 2048]⟩
abbrev S5632x2048 : Shape := ⟨2, ![5632, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8208x5632, .bf16⟩
  | .hbm, ⟨1, _⟩ => ⟨S2x8208x2048, .f32⟩
  | .hbm, ⟨2, _⟩ => ⟨S2x5632x2048, .f32⟩
  | .hbm, ⟨3, _⟩ => ⟨S2048, .f32⟩
  | .hbm, ⟨4, _⟩ => ⟨S2x8208x5632, .f32⟩
  | .hbm, ⟨5, _⟩ => ⟨S1x5632x2048, .f32⟩
  | .hbm, ⟨6, _⟩ => ⟨S5632x2048, .f32⟩
  | .hbm, ⟨7, _⟩ => ⟨S2x8208x2048, .f32⟩
  | .hbm, ⟨8, _⟩ => ⟨S2x8208x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S16384x2048, .f32⟩
  | _, _ => ⟨S2x8208x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S2x8208x1024 : Shape := ⟨3, ![2, 8208, 1024]⟩
abbrev S2x8208x4096 : Shape := ⟨3, ![2, 8208, 4096]⟩
abbrev S2x8208x2048 : Shape := ⟨3, ![2, 8208, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S_ : Shape := ⟨0, ![]⟩
abbrev S2x8448x1024 : Shape := ⟨3, ![2, 8448, 1024]⟩
abbrev S16896x1024 : Shape := ⟨2, ![16896, 1024]⟩
abbrev S2x8448x4096 : Shape := ⟨3, ![2, 8448, 4096]⟩
abbrev S16896x4096 : Shape := ⟨2, ![16896, 4096]⟩
abbrev S2x8448x2048 : Shape := ⟨3, ![2, 8448, 2048]⟩
abbrev S16896x2048 : Shape := ⟨2, ![16896, 2048]⟩
abbrev S1x2048 : Shape := ⟨2, ![1, 2048]⟩
abbrev S2048 : Shape := ⟨1, ![2048]⟩
abbrev S256x1024 : Shape := ⟨2, ![256, 1024]⟩
abbrev S256x4096 : Shape := ⟨2, ![256, 4096]⟩
abbrev S256x2048 : Shape := ⟨2, ![256, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 32
  | .vmem => 16
  | .smem => 0
  | _ => 0

abbrev bufTy : (tb : Table) → Fin (tcTables nBuf tb) → BufTy
  | .hbm, ⟨0, _⟩ => ⟨S2x8208x1024, .bf16⟩
  | .hbm, ⟨1, _⟩ => ⟨S2x8208x1024, .bf16⟩
  | .hbm, ⟨2, _⟩ => ⟨S2x8208x4096, .bf16⟩
  | .hbm, ⟨3, _⟩ => ⟨S2x8208x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S_, .bf16⟩
  | .hbm, ⟨9, _⟩ => ⟨S2x8448x1024, .bf16⟩
  | .hbm, ⟨10, _⟩ => ⟨S16896x1024, .bf16⟩
  | .hbm, ⟨11, _⟩ => ⟨S_, .bf16⟩
  | .hbm, ⟨12, _⟩ => ⟨S2x8448x1024, .bf16⟩
  | .hbm, ⟨13, _⟩ => ⟨S16896x1024, .bf16⟩
  | .hbm, ⟨14, _⟩ => ⟨S_, .bf16⟩
  | .hbm, ⟨15, _⟩ => ⟨S2x8448x4096, .bf16⟩
  | .hbm, ⟨16, _⟩ => ⟨S16896x4096, .bf16⟩
  | .hbm, ⟨17, _⟩ => ⟨S_, .f32⟩
  | .hbm, ⟨18, _⟩ => ⟨S2x8448x2048, .f32⟩
  | .hbm, ⟨19, _⟩ => ⟨S16896x2048, .f32⟩
  | .hbm, ⟨20, _⟩ => ⟨S2x1024x2048, .bf16⟩
  | .hbm, ⟨21, _⟩ => ⟨S2x1024x2048, .bf16⟩
  | .hbm, ⟨22, _⟩ => ⟨S2x2048x2048, .bf16⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S16896x2048, .f32⟩
  | .hbm, ⟨27, _⟩ => ⟨S16896x2048, .bf16⟩
  | .hbm, ⟨28, _⟩ => ⟨S2x8448x2048, .f32⟩
  | .hbm, ⟨29, _⟩ => ⟨S2x8208x2048, .f32⟩
  | .hbm, ⟨30, _⟩ => ⟨S2x8448x2048, .bf16⟩
  | .hbm, ⟨31, _⟩ => ⟨S2x8208x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S2x8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8208x1024 : Shape := ⟨3, ![2, 8208, 1024]⟩
abbrev S2x8208x4096 : Shape := ⟨3, ![2, 8208, 4096]⟩
abbrev S2x8208x2048 : Shape := ⟨3, ![2, 8208, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x8208x1024, .bf16⟩
  | .hbm, ⟨1, _⟩ => ⟨S2x8208x1024, .bf16⟩
  | .hbm, ⟨2, _⟩ => ⟨S2x8208x4096, .bf16⟩
  | .hbm, ⟨3, _⟩ => ⟨S2x8208x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S2x8208x4096, .f32⟩
  | .hbm, ⟨9, _⟩ => ⟨S2x8208x1024, .f32⟩
  | .hbm, ⟨10, _⟩ => ⟨S1x1024x2048, .f32⟩
  | .hbm, ⟨11, _⟩ => ⟨S1024x2048, .f32⟩
  | .hbm, ⟨12, _⟩ => ⟨S2x8208x2048, .f32⟩
  | .hbm, ⟨13, _⟩ => ⟨S2x8208x1024, .f32⟩
  | .hbm, ⟨14, _⟩ => ⟨S1x1024x2048, .f32⟩
  | .hbm, ⟨15, _⟩ => ⟨S1024x2048, .f32⟩
  | .hbm, ⟨16, _⟩ => ⟨S2x8208x2048, .f32⟩
  | .hbm, ⟨17, _⟩ => ⟨S2x8208x2048, .f32⟩
  | .hbm, ⟨18, _⟩ => ⟨S2x8208x2048, .f32⟩
  | .hbm, ⟨19, _⟩ => ⟨S2x8208x2048, .f32⟩
  | .hbm, ⟨20, _⟩ => ⟨S2x8208x2048, .f32⟩
  | .hbm, ⟨21, _⟩ => ⟨S2x8208x2048, .f32⟩
  | .hbm, ⟨22, _⟩ => ⟨S1x2048x2048, .f32⟩
  | .hbm, ⟨23, _⟩ => ⟨S2048x2048, .f32⟩
  | .hbm, ⟨24, _⟩ => ⟨S2x8208x2048, .f32⟩
  | .hbm, ⟨25, _⟩ => ⟨S2x8208x2048, .f32⟩
  | .hbm, ⟨26, _⟩ => ⟨S1x2048, .f32⟩
  | .hbm, ⟨27, _⟩ => ⟨S2048, .f32⟩
  | .hbm, ⟨28, _⟩ => ⟨S2x8208x2048, .f32⟩
  | .hbm, ⟨29, _⟩ => ⟨S_, .f32⟩
  | .hbm, ⟨30, _⟩ => ⟨S2x8208, .f32⟩
  | .hbm, ⟨31, _⟩ => ⟨S2x8208x1, .f32⟩
  | .hbm, ⟨32, _⟩ => ⟨S_, .f32⟩
  | .hbm, ⟨33, _⟩ => ⟨S2x8208x1, .f32⟩
  | .hbm, ⟨34, _⟩ => ⟨S2x8208x1, .f32⟩
  | .hbm, ⟨35, _⟩ => ⟨S_, .f32⟩
  | .hbm, ⟨36, _⟩ => ⟨S2x8208x1, .f32⟩
  | .hbm, ⟨37, _⟩ => ⟨S2x8208x1, .f32⟩
  | .hbm, ⟨38, _⟩ => ⟨S2x8208x1, .f32⟩
  | .hbm, ⟨39, _⟩ => ⟨S2x8208x2048, .f32⟩
  | .hbm, ⟨40, _⟩ => ⟨S2x8208x2048, .f32⟩
  | .hbm, ⟨41, _⟩ => ⟨S1x1x2048, .f32⟩
  | .hbm, ⟨42, _⟩ => ⟨S2x8208x2048, .f32⟩
  | .hbm, ⟨43, _⟩ => ⟨S2x8208x2048, .f32⟩
  | .hbm, ⟨44, _⟩ => ⟨S2x8208x2048, .bf16⟩
  | _, _ => ⟨S2x8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S2x8208x2048 : Shape := ⟨3, ![2, 8208, 2048]⟩
abbrev S2x2048x8000 : Shape := ⟨3, ![2, 2048, 8000]⟩
abbrev S2x2048x4096 : Shape := ⟨3, ![2, 2048, 4096]⟩
abbrev S_ : Shape := ⟨0, ![]⟩
abbrev S2x8448x2048 : Shape := ⟨3, ![2, 8448, 2048]⟩
abbrev S16896x2048 : Shape := ⟨2, ![16896, 2048]⟩
abbrev S16896x4096 : Shape := ⟨2, ![16896, 4096]⟩
abbrev S768x2048 : Shape := ⟨2, ![768, 2048]⟩
abbrev S1x2048x1024 : Shape := ⟨3, ![1, 2048, 1024]⟩
abbrev S768x1024 : Shape := ⟨2, ![768, 1024]⟩
abbrev S256x2048 : Shape := ⟨2, ![256, 2048]⟩
abbrev S2048x1024 : Shape := ⟨2, ![2048, 1024]⟩
abbrev S256x1024 : Shape := ⟨2, ![256, 1024]⟩
abbrev S2x8448x4096 : Shape := ⟨3, ![2, 8448, 4096]⟩
abbrev S2x8208x4096 : Shape := ⟨3, ![2, 8208, 4096]⟩

abbrev nBuf : Space → Nat
  | .hbm => 10
  | .vmem => 6
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x2048x4096, .f32⟩
  | .hbm, ⟨3, _⟩ => ⟨S2x2048x4096, .bf16⟩
  | .hbm, ⟨4, _⟩ => ⟨S_, .bf16⟩
  | .hbm, ⟨5, _⟩ => ⟨S2x8448x2048, .bf16⟩
  | .hbm, ⟨6, _⟩ => ⟨S16896x2048, .bf16⟩
  | .hbm, ⟨7, _⟩ => ⟨S16896x4096, .bf16⟩
  | .hbm, ⟨8, _⟩ => ⟨S2x8448x4096, .bf16⟩
  | .hbm, ⟨9, _⟩ => ⟨S2x8208x4096, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x1024, .bf16⟩
  | .local _ .vmem, ⟨5, _⟩ => ⟨S768x1024, .bf16⟩
  | _, _ => ⟨S2x8208x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x8208x2048 : Shape := ⟨3, ![2, 8208, 2048]⟩
abbrev S2x2048x8000 : Shape := ⟨3, ![2, 2048, 8000]⟩
abbrev S1x2048x4096 : Shape := ⟨3, ![1, 2048, 4096]⟩
abbrev S2048x4096 : Shape := ⟨2, ![2048, 4096]⟩
abbrev S2x8208x4096 : Shape := ⟨3, ![2, 8208, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x8208x2048, .f32⟩
  | .hbm, ⟨3, _⟩ => ⟨S1x2048x4096, .f32⟩
  | .hbm, ⟨4, _⟩ => ⟨S2048x4096, .f32⟩
  | .hbm, ⟨5, _⟩ => ⟨S2x8208x4096, .f32⟩
  | .hbm, ⟨6, _⟩ => ⟨S2x8208x4096, .f32⟩
  | .hbm, ⟨7, _⟩ => ⟨S2x8208x4096, .f32⟩
  | .hbm, ⟨8, _⟩ => ⟨S_, .f32⟩
  | .hbm, ⟨9, _⟩ => ⟨S2x8208x4096, .f32⟩
  | .hbm, ⟨10, _⟩ => ⟨S2x8208x4096, .f32⟩
  | .hbm, ⟨11, _⟩ => ⟨S_, .f32⟩
  | .hbm, ⟨12, _⟩ => ⟨S2x8208x4096, .f32⟩
  | .hbm, ⟨13, _⟩ => ⟨S2x8208x4096, .f32⟩
  | .hbm, ⟨14, _⟩ => ⟨S2x8208x4096, .bf16⟩
  | _, _ => ⟨S2x8208x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S2x8208x2048 : Shape := ⟨3, ![2, 8208, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S_ : Shape := ⟨0, ![]⟩
abbrev S2x8448x2048 : Shape := ⟨3, ![2, 8448, 2048]⟩
abbrev S16896x2048 : Shape := ⟨2, ![16896, 2048]⟩
abbrev S2x1x11264 : Shape := ⟨3, ![2, 1, 11264]⟩
abbrev S16896x5632 : Shape := ⟨2, ![16896, 5632]⟩
abbrev S768x2048 : Shape := ⟨2, ![768, 2048]⟩
abbrev S1x2048x512 : Shape := ⟨3, ![1, 2048, 512]⟩
abbrev S1x3x512 : Shape := ⟨3, ![1, 3, 512]⟩
abbrev S1x1x512 : Shape := ⟨3, ![1, 1, 512]⟩
abbrev S768x512 : Shape := ⟨2, ![768, 512]⟩
abbrev S2048x512 : Shape := ⟨2, ![2048, 512]⟩
abbrev S776x512 : Shape := ⟨2, ![776, 512]⟩
abbrev S8x512 : Shape := ⟨2, ![8, 512]⟩
abbrev S1x512 : Shape := ⟨2, ![1, 512]⟩
abbrev S2x8448x5632 : Shape := ⟨3, ![2, 8448, 5632]⟩
abbrev S2x8208x5632 : Shape := ⟨3, ![2, 8208, 5632]⟩

abbrev nBuf : Space → Nat
  | .hbm => 11
  | .vmem => 20
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S_, .bf16⟩
  | .hbm, ⟨5, _⟩ => ⟨S2x8448x2048, .bf16⟩
  | .hbm, ⟨6, _⟩ => ⟨S16896x2048, .bf16⟩
  | .hbm, ⟨7, _⟩ => ⟨S2x1x11264, .f32⟩
  | .hbm, ⟨8, _⟩ => ⟨S16896x5632, .bf16⟩
  | .hbm, ⟨9, _⟩ => ⟨S2x8448x5632, .bf16⟩
  | .hbm, ⟨10, _⟩ => ⟨S2x8208x5632, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S768x512, .bf16⟩
  | .local _ .vmem, ⟨15, _⟩ => ⟨S768x512, .bf16⟩
  | .local _ .vmem, ⟨16, _⟩ => ⟨S2048x512, .bf16⟩
  | .local _ .vmem, ⟨17, _⟩ => ⟨S2048x512, .bf16⟩
  | .local _ .vmem, ⟨18, _⟩ => ⟨S776x512, .f32⟩
  | .local _ .vmem, ⟨19, _⟩ => ⟨S776x512, .f32⟩
  | _, _ => ⟨S2x8208x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x8208x2048 : Shape := ⟨3, ![2, 8208, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S1x2048x11264 : Shape := ⟨3, ![1, 2048, 11264]⟩
abbrev S2048x11264 : Shape := ⟨2, ![2048, 11264]⟩
abbrev S2x8208x11264 : Shape := ⟨3, ![2, 8208, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S2x8210x11264 : Shape := ⟨3, ![2, 8210, 11264]⟩
abbrev S1x1x11264 : Shape := ⟨3, ![1, 1, 11264]⟩
abbrev S2x8208x5632 : Shape := ⟨3, ![2, 8208, 5632]⟩

abbrev nBuf : Space → Nat
  | .hbm => 50
  | .vmem => 0
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x8208x2048, .f32⟩
  | .hbm, ⟨5, _⟩ => ⟨S1x2048x11264, .f32⟩
  | .hbm, ⟨6, _⟩ => ⟨S2048x11264, .f32⟩
  | .hbm, ⟨7, _⟩ => ⟨S2x8208x11264, .f32⟩
  | .hbm, ⟨8, _⟩ => ⟨S1x3x11264, .f32⟩
  | .hbm, ⟨9, _⟩ => ⟨S3x11264, .f32⟩
  | .hbm, ⟨10, _⟩ => ⟨S1x11264, .f32⟩
  | .hbm, ⟨11, _⟩ => ⟨S11264, .f32⟩
  | .hbm, ⟨12, _⟩ => ⟨S_, .f32⟩
  | .hbm, ⟨13, _⟩ => ⟨S2x8210x11264, .f32⟩
  | .hbm, ⟨14, _⟩ => ⟨S2x8208x11264, .f32⟩
  | .hbm, ⟨15, _⟩ => ⟨S1x11264, .f32⟩
  | .hbm, ⟨16, _⟩ => ⟨S11264, .f32⟩
  | .hbm, ⟨17, _⟩ => ⟨S1x1x11264, .f32⟩
  | .hbm, ⟨18, _⟩ => ⟨S2x8208x11264, .f32⟩
  | .hbm, ⟨19, _⟩ => ⟨S2x8208x11264, .f32⟩
  | .hbm, ⟨20, _⟩ => ⟨S1x1x11264, .f32⟩
  | .hbm, ⟨21, _⟩ => ⟨S2x8208x11264, .f32⟩
  | .hbm, ⟨22, _⟩ => ⟨S2x8208x11264, .f32⟩
  | .hbm, ⟨23, _⟩ => ⟨S2x8208x11264, .f32⟩
  | .hbm, ⟨24, _⟩ => ⟨S1x11264, .f32⟩
  | .hbm, ⟨25, _⟩ => ⟨S11264, .f32⟩
  | .hbm, ⟨26, _⟩ => ⟨S1x1x11264, .f32⟩
  | .hbm, ⟨27, _⟩ => ⟨S2x8208x11264, .f32⟩
  | .hbm, ⟨28, _⟩ => ⟨S2x8208x11264, .f32⟩
  | .hbm, ⟨29, _⟩ => ⟨S2x8208x11264, .f32⟩
  | .hbm, ⟨30, _⟩ => ⟨S2x8208x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S2x8208x11264, .f32⟩
  | .hbm, ⟨35, _⟩ => ⟨S2x8208x11264, .f32⟩
  | .hbm, ⟨36, _⟩ => ⟨S2x8208x11264, .f32⟩
  | .hbm, ⟨37, _⟩ => ⟨S2x8208x5632, .f32⟩
  | .hbm, ⟨38, _⟩ => ⟨S2x8208x5632, .f32⟩
  | .hbm, ⟨39, _⟩ => ⟨S2x8208x5632, .f32⟩
  | .hbm, ⟨40, _⟩ => ⟨S2x8208x5632, .f32⟩
  | .hbm, ⟨41, _⟩ => ⟨S_, .f32⟩
  | .hbm, ⟨42, _⟩ => ⟨S2x8208x5632, .f32⟩
  | .hbm, ⟨43, _⟩ => ⟨S2x8208x5632, .f32⟩
  | .hbm, ⟨44, _⟩ => ⟨S_, .f32⟩
  | .hbm, ⟨45, _⟩ => ⟨S2x8208x5632, .f32⟩
  | .hbm, ⟨46, _⟩ => ⟨S2x8208x5632, .f32⟩
  | .hbm, ⟨47, _⟩ => ⟨S2x8208x5632, .f32⟩
  | .hbm, ⟨48, _⟩ => ⟨S2x8208x5632, .f32⟩
  | .hbm, ⟨49, _⟩ => ⟨S2x8208x5632, .bf16⟩
  | _, _ => ⟨S2x8208x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S2x8208x5632 : Shape := ⟨3, ![2, 8208, 5632]⟩
abbrev S2x8208x2048 : Shape := ⟨3, ![2, 8208, 2048]⟩
abbrev S2x5632x2048 : Shape := ⟨3, ![2, 5632, 2048]⟩
abbrev S2x2048 : Shape := ⟨2, ![2, 2048]⟩
abbrev S_ : Shape := ⟨0, ![]⟩
abbrev S2x8448x5632 : Shape := ⟨3, ![2, 8448, 5632]⟩
abbrev S16896x5632 : Shape := ⟨2, ![16896, 5632]⟩
abbrev S2x8448x2048 : Shape := ⟨3, ![2, 8448, 2048]⟩
abbrev S16896x2048 : Shape := ⟨2, ![16896, 2048]⟩
abbrev S1x2048 : Shape := ⟨2, ![1, 2048]⟩
abbrev S2048 : Shape := ⟨1, ![2048]⟩
abbrev S256x5632 : Shape := ⟨2, ![256, 5632]⟩
abbrev S256x2048 : Shape := ⟨2, ![256, 2048]⟩
abbrev S1x5632x2048 : Shape := ⟨3, ![1, 5632, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 20
  | .vmem => 10
  | .smem => 0
  | _ => 0

abbrev bufTy : (tb : Table) → Fin (tcTables nBuf tb) → BufTy
  | .hbm, ⟨0, _⟩ => ⟨S2x8208x5632, .bf16⟩
  | .hbm, ⟨1, _⟩ => ⟨S2x8208x2048, .f32⟩
  | .hbm, ⟨2, _⟩ => ⟨S2x5632x2048, .f32⟩
  | .hbm, ⟨3, _⟩ => ⟨S2x2048, .f32⟩
  | .hbm, ⟨4, _⟩ => ⟨S_, .bf16⟩
  | .hbm, ⟨5, _⟩ => ⟨S2x8448x5632, .bf16⟩
  | .hbm, ⟨6, _⟩ => ⟨S16896x5632, .bf16⟩
  | .hbm, ⟨7, _⟩ => ⟨S_, .f32⟩
  | .hbm, ⟨8, _⟩ => ⟨S2x8448x2048, .f32⟩
  | .hbm, ⟨9, _⟩ => ⟨S16896x2048, .f32⟩
  | .hbm, ⟨10, _⟩ => ⟨S2x5632x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16896x2048, .f32⟩
  | .hbm, ⟨15, _⟩ => ⟨S16896x2048, .bf16⟩
  | .hbm, ⟨16, _⟩ => ⟨S2x8448x2048, .f32⟩
  | .hbm, ⟨17, _⟩ => ⟨S2x8208x2048, .f32⟩
  | .hbm, ⟨18, _⟩ => ⟨S2x8448x2048, .bf16⟩
  | .hbm, ⟨19, _⟩ => ⟨S2x8208x2048, .bf16⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S1x5632x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2x8208x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x8208x5632 : Shape := ⟨3, ![2, 8208, 5632]⟩
abbrev S2x8208x2048 : Shape := ⟨3, ![2, 8208, 2048]⟩
abbrev S2x5632x2048 : Shape := ⟨3, ![2, 5632, 2048]⟩
abbrev S2x2048 : Shape := ⟨2, ![2, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x8208x5632, .bf16⟩
  | .hbm, ⟨1, _⟩ => ⟨S2x8208x2048, .f32⟩
  | .hbm, ⟨2, _⟩ => ⟨S2x5632x2048, .f32⟩
  | .hbm, ⟨3, _⟩ => ⟨S2x2048, .f32⟩
  | .hbm, ⟨4, _⟩ => ⟨S2x8208x5632, .f32⟩
  | .hbm, ⟨5, _⟩ => ⟨S1x5632x2048, .f32⟩
  | .hbm, ⟨6, _⟩ => ⟨S5632x2048, .f32⟩
  | .hbm, ⟨7, _⟩ => ⟨S2x8208x2048, .f32⟩
  | .hbm, ⟨8, _⟩ => ⟨S2x8208x2048, .f32⟩
  | .hbm, ⟨9, _⟩ => ⟨S1x2048, .f32⟩
  | .hbm, ⟨10, _⟩ => ⟨S2048, .f32⟩
  | .hbm, ⟨11, _⟩ => ⟨S2x8208x2048, .f32⟩
  | .hbm, ⟨12, _⟩ => ⟨S_, .f32⟩
  | .hbm, ⟨13, _⟩ => ⟨S2x8208, .f32⟩
  | .hbm, ⟨14, _⟩ => ⟨S2x8208x1, .f32⟩
  | .hbm, ⟨15, _⟩ => ⟨S_, .f32⟩
  | .hbm, ⟨16, _⟩ => ⟨S2x8208x1, .f32⟩
  | .hbm, ⟨17, _⟩ => ⟨S2x8208x1, .f32⟩
  | .hbm, ⟨18, _⟩ => ⟨S_, .f32⟩
  | .hbm, ⟨19, _⟩ => ⟨S2x8208x1, .f32⟩
  | .hbm, ⟨20, _⟩ => ⟨S2x8208x1, .f32⟩
  | .hbm, ⟨21, _⟩ => ⟨S2x8208x1, .f32⟩
  | .hbm, ⟨22, _⟩ => ⟨S2x8208x2048, .f32⟩
  | .hbm, ⟨23, _⟩ => ⟨S2x8208x2048, .f32⟩
  | .hbm, ⟨24, _⟩ => ⟨S1x1x2048, .f32⟩
  | .hbm, ⟨25, _⟩ => ⟨S2x8208x2048, .f32⟩
  | .hbm, ⟨26, _⟩ => ⟨S2x8208x2048, .f32⟩
  | .hbm, ⟨27, _⟩ => ⟨S2x8208x2048, .bf16⟩
  | _, _ => ⟨S2x8208x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S2x8208x2048 : Shape := ⟨3, ![2, 8208, 2048]⟩
abbrev S2x2048x8000 : Shape := ⟨3, ![2, 2048, 8000]⟩
abbrev S2x2048x3072 : Shape := ⟨3, ![2, 2048, 3072]⟩
abbrev S_ : Shape := ⟨0, ![]⟩
abbrev S2x8448x2048 : Shape := ⟨3, ![2, 8448, 2048]⟩
abbrev S16896x2048 : Shape := ⟨2, ![16896, 2048]⟩
abbrev S16896x1024 : Shape := ⟨2, ![16896, 1024]⟩
abbrev S768x2048 : Shape := ⟨2, ![768, 2048]⟩
abbrev S1x2048x1024 : Shape := ⟨3, ![1, 2048, 1024]⟩
abbrev S768x1024 : Shape := ⟨2, ![768, 1024]⟩
abbrev S256x2048 : Shape := ⟨2, ![256, 2048]⟩
abbrev S2048x1024 : Shape := ⟨2, ![2048, 1024]⟩
abbrev S256x1024 : Shape := ⟨2, ![256, 1024]⟩
abbrev S2x8448x1024 : Shape := ⟨3, ![2, 8448, 1024]⟩
abbrev S2x8208x1024 : Shape := ⟨3, ![2, 8208, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x2048x3072, .f32⟩
  | .hbm, ⟨3, _⟩ => ⟨S2x2048x3072, .bf16⟩
  | .hbm, ⟨4, _⟩ => ⟨S_, .bf16⟩
  | .hbm, ⟨5, _⟩ => ⟨S2x8448x2048, .bf16⟩
  | .hbm, ⟨6, _⟩ => ⟨S16896x2048, .bf16⟩
  | .hbm, ⟨7, _⟩ => ⟨S16896x1024, .bf16⟩
  | .hbm, ⟨8, _⟩ => ⟨S2x8448x1024, .bf16⟩
  | .hbm, ⟨9, _⟩ => ⟨S2x8208x1024, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1024, .bf16⟩
  | .local _ .vmem, ⟨3, _⟩ => ⟨S768x1024, .bf16⟩
  | .local _ .vmem, ⟨4, _⟩ => ⟨S768x1024, .bf16⟩
  | _, _ => ⟨S2x8208x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8208x2048 : Shape := ⟨3, ![2, 8208, 2048]⟩
abbrev S2x2048x8000 : Shape := ⟨3, ![2, 2048, 8000]⟩
abbrev S1x2048x1024 : Shape := ⟨3, ![1, 2048, 1024]⟩
abbrev S2048x1024 : Shape := ⟨2, ![2048, 1024]⟩
abbrev S2x8208x1024 : Shape := ⟨3, ![2, 8208, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x8208x2048, .f32⟩
  | .hbm, ⟨3, _⟩ => ⟨S1x2048x1024, .f32⟩
  | .hbm, ⟨4, _⟩ => ⟨S2048x1024, .f32⟩
  | .hbm, ⟨5, _⟩ => ⟨S2x8208x1024, .f32⟩
  | .hbm, ⟨6, _⟩ => ⟨S2x8208x1024, .bf16⟩
  | _, _ => ⟨S2x8208x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S2x8208x2048 : Shape := ⟨3, ![2, 8208, 2048]⟩
abbrev S2x2048x8000 : Shape := ⟨3, ![2, 2048, 8000]⟩
abbrev S2x2048x3072 : Shape := ⟨3, ![2, 2048, 3072]⟩
abbrev S_ : Shape := ⟨0, ![]⟩
abbrev S2x8448x2048 : Shape := ⟨3, ![2, 8448, 2048]⟩
abbrev S16896x2048 : Shape := ⟨2, ![16896, 2048]⟩
abbrev S66x1024x256 : Shape := ⟨3, ![66, 1024, 256]⟩
abbrev S768x2048 : Shape := ⟨2, ![768, 2048]⟩
abbrev S1x2048x1024 : Shape := ⟨3, ![1, 2048, 1024]⟩
abbrev S3x1024x256 : Shape := ⟨3, ![3, 1024, 256]⟩
abbrev S1024x2048 : Shape := ⟨2, ![1024, 2048]⟩
abbrev S1x256x1024 : Shape := ⟨3, ![1, 256, 1024]⟩
abbrev S256x1024 : Shape := ⟨2, ![256, 1024]⟩
abbrev S1024x256 : Shape := ⟨2, ![1024, 256]⟩
abbrev S256x2048 : Shape := ⟨2, ![256, 2048]⟩
abbrev S1x1024x256 : Shape := ⟨3, ![1, 1024, 256]⟩
abbrev S66x256x1024 : Shape := ⟨3, ![66, 256, 1024]⟩
abbrev S16896x1024 : Shape := ⟨2, ![16896, 1024]⟩
abbrev S2x8448x1024 : Shape := ⟨3, ![2, 8448, 1024]⟩
abbrev S2x8208x1024 : Shape := ⟨3, ![2, 8208, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x2048x3072, .f32⟩
  | .hbm, ⟨3, _⟩ => ⟨S2x2048x3072, .bf16⟩
  | .hbm, ⟨4, _⟩ => ⟨S_, .bf16⟩
  | .hbm, ⟨5, _⟩ => ⟨S2x8448x2048, .bf16⟩
  | .hbm, ⟨6, _⟩ => ⟨S16896x2048, .bf16⟩
  | .hbm, ⟨7, _⟩ => ⟨S66x1024x256, .bf16⟩
  | .hbm, ⟨8, _⟩ => ⟨S66x256x1024, .bf16⟩
  | .hbm, ⟨9, _⟩ => ⟨S16896x1024, .bf16⟩
  | .hbm, ⟨10, _⟩ => ⟨S2x8448x1024, .bf16⟩
  | .hbm, ⟨11, _⟩ => ⟨S2x8208x1024, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1024, .bf16⟩
  | .local _ .vmem, ⟨3, _⟩ => ⟨S3x1024x256, .bf16⟩
  | .local _ .vmem, ⟨4, _⟩ => ⟨S3x1024x256, .bf16⟩
  | .local _ .vmem, ⟨5, _⟩ => ⟨S1024x2048, .bf16⟩
  | _, _ => ⟨S2x8208x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S3x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x8208x2048 : Shape := ⟨3, ![2, 8208, 2048]⟩
abbrev S2x2048x8000 : Shape := ⟨3, ![2, 2048, 8000]⟩
abbrev S1x2048x1024 : Shape := ⟨3, ![1, 2048, 1024]⟩
abbrev S2048x1024 : Shape := ⟨2, ![2048, 1024]⟩
abbrev S2x8208x1024 : Shape := ⟨3, ![2, 8208, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x8208x2048, .f32⟩
  | .hbm, ⟨3, _⟩ => ⟨S1x2048x1024, .f32⟩
  | .hbm, ⟨4, _⟩ => ⟨S2048x1024, .f32⟩
  | .hbm, ⟨5, _⟩ => ⟨S2x8208x1024, .f32⟩
  | .hbm, ⟨6, _⟩ => ⟨S2x8208x1024, .bf16⟩
  | _, _ => ⟨S2x8208x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2x8192x2048 : Shape := ⟨3, ![2, 8192, 2048]⟩
abbrev S16x2048 : Shape := ⟨2, ![16, 2048]⟩
abbrev S2x2048 : Shape := ⟨2, ![2, 2048]⟩
abbrev S_ : Shape := ⟨0, ![]⟩
abbrev S256x2048 : Shape := ⟨2, ![256, 2048]⟩
abbrev S16384x2048 : Shape := ⟨2, ![16384, 2048]⟩
abbrev S1x2048 : Shape := ⟨2, ![1, 2048]⟩
abbrev S2048 : Shape := ⟨1, ![2048]⟩
abbrev S16896x2048 : Shape := ⟨2, ![16896, 2048]⟩
abbrev S256 : Shape := ⟨1, ![256]⟩
abbrev S256x1 : Shape := ⟨2, ![256, 1]⟩
abbrev S2x8448x2048 : Shape := ⟨3, ![2, 8448, 2048]⟩
abbrev S2x8208x2048 : Shape := ⟨3, ![2, 8208, 2048]⟩

abbrev nBuf : Space → Nat
  | .hbm => 16
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S16x2048, .f32⟩
  | .hbm, ⟨2, _⟩ => ⟨S2x2048, .f32⟩
  | .hbm, ⟨3, _⟩ => ⟨S_, .i32⟩
  | .hbm, ⟨4, _⟩ => ⟨S_, .f32⟩
  | .hbm, ⟨5, _⟩ => ⟨S256x2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S16896x2048, .f32⟩
  | .hbm, ⟨11, _⟩ => ⟨S16896x2048, .bf16⟩
  | .hbm, ⟨12, _⟩ => ⟨S2x8448x2048, .f32⟩
  | .hbm, ⟨13, _⟩ => ⟨S2x8208x2048, .f32⟩
  | .hbm, ⟨14, _⟩ => ⟨S2x8448x2048, .bf16⟩
  | .hbm, ⟨15, _⟩ => ⟨S2x8208x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![66], ![false]⟩

def k0_mult1 (i : grid0.Coords) : BitVec 32 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c33_i32_4 : BitVec 32 := 33#32
  let c0_i32_7 : BitVec 32 := 0#32
  let v20 : BitVec 1 := Scalar.cmpi .sgt c33_i32_4 c0_i32_7
  let v21 : BitVec 32 := Scalar.extui v20
  let c0_i32_8 : BitVec 32 := 0#32
  let v22 : BitVec 1 := Scalar.cmpi .slt c33_i32_4 c0_i32_8
  let v23 : BitVec 32 := Scalar.extui v22
  let v24 : BitVec 32 := Scalar.subi v21 v23
  let v25 : BitVec 1 := Scalar.cmpi .ne v19 v24
  let v26 : BitVec 32 := Scalar.remsi arg0 c33_i32_4
  let c0_i32_9 : BitVec 32 := 0#32
  let v27 : BitVec 1 := Scalar.cmpi .ne v26 c0_i32_9
  let v28 : BitVec 1 := Scalar.andi v25 v27
  let v14 : BitVec 32 := Scalar.divsi arg0 c33_i32_4
  let c1_i32_10 : BitVec 32 := 1#32
  let v29 : BitVec 32 := Scalar.subi v14 c1_i32_10
  let v30 : BitVec 32 := Scalar.select v28 v29 v14
  let c8192_i32 : BitVec 32 := 8192#32
  let v31 : BitVec 32 := Scalar.muli v30 c8192_i32
  let c7936_i32 : BitVec 32 := 7936#32
  let c0_i32_3 : BitVec 32 := 0#32
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c256_i32 : BitVec 32 := 256#32
  let v10 : BitVec 32 := Scalar.muli v9 c256_i32
  let c16_i32 : BitVec 32 := 16#32
  let v11 : BitVec 32 := Scalar.subi v10 c16_i32
  let v12 : BitVec 32 := Scalar.maxsi c0_i32_3 v11
  let v13 : BitVec 32 := Scalar.minsi c7936_i32 v12
  let v32 : BitVec 32 := Scalar.addi v31 v13
  v32
def cc0_transform_0 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c256_i32 : BitVec 32 := 256#32
  let v10 : BitVec 32 := Scalar.muli v9 c256_i32
  let c16_i32 : BitVec 32 := 16#32
  let v11 : BitVec 32 := Scalar.subi v10 c16_i32
  let c0_i32_3 : BitVec 32 := 0#32
  let c7936_i32 : BitVec 32 := 7936#32
  let v12 : BitVec 32 := Scalar.maxsi c0_i32_3 v11
  let v13 : BitVec 32 := Scalar.minsi c7936_i32 v12
  let c33_i32_4 : BitVec 32 := 33#32
  let v14 : BitVec 32 := Scalar.divsi arg0 c33_i32_4
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c0_i32_7 : BitVec 32 := 0#32
  let v20 : BitVec 1 := Scalar.cmpi .sgt c33_i32_4 c0_i32_7
  let v21 : BitVec 32 := Scalar.extui v20
  let c0_i32_8 : BitVec 32 := 0#32
  let v22 : BitVec 1 := Scalar.cmpi .slt c33_i32_4 c0_i32_8
  let v23 : BitVec 32 := Scalar.extui v22
  let v24 : BitVec 32 := Scalar.subi v21 v23
  let v25 : BitVec 1 := Scalar.cmpi .ne v19 v24
  let v26 : BitVec 32 := Scalar.remsi arg0 c33_i32_4
  let c0_i32_9 : BitVec 32 := 0#32
  let v27 : BitVec 1 := Scalar.cmpi .ne v26 c0_i32_9
  let v28 : BitVec 1 := Scalar.andi v25 v27
  let c1_i32_10 : BitVec 32 := 1#32
  let v29 : BitVec 32 := Scalar.subi v14 c1_i32_10
  let v30 : BitVec 32 := Scalar.select v28 v29 v14
  let c8192_i32 : BitVec 32 := 8192#32
  let v31 : BitVec 32 := Scalar.muli v30 c8192_i32
  let v32 : BitVec 32 := Scalar.addi v31 v13
  let v33 : BitVec 32 := v32
  let c0_i32_11 : BitVec 32 := 0#32
  let c0_i32_12 : BitVec 32 := 0#32
  ![v33.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2x8192x2048 : Shape := ⟨3, ![2, 8192, 2048]⟩
abbrev S16x2048 : Shape := ⟨2, ![16, 2048]⟩
abbrev S2x2048 : Shape := ⟨2, ![2, 2048]⟩
abbrev S1x16x2048 : Shape := ⟨3, ![1, 16, 2048]⟩
abbrev S2x16x2048 : Shape := ⟨3, ![2, 16, 2048]⟩
abbrev S2x8208x2048 : Shape := ⟨3, ![2, 8208, 2048]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16x2048, .f32⟩
  | .hbm, ⟨2, _⟩ => ⟨S2x2048, .f32⟩
  | .hbm, ⟨3, _⟩ => ⟨S1x16x2048, .f32⟩
  | .hbm, ⟨4, _⟩ => ⟨S2x16x2048, .f32⟩
  | .hbm, ⟨5, _⟩ => ⟨S2x8208x2048, .f32⟩
  | .hbm, ⟨6, _⟩ => ⟨S1x2048, .f32⟩
  | .hbm, ⟨7, _⟩ => ⟨S2048, .f32⟩
  | .hbm, ⟨8, _⟩ => ⟨S2x8208x2048, .f32⟩
  | .hbm, ⟨9, _⟩ => ⟨S_, .f32⟩
  | .hbm, ⟨10, _⟩ => ⟨S2x8208, .f32⟩
  | .hbm, ⟨11, _⟩ => ⟨S2x8208x1, .f32⟩
  | .hbm, ⟨12, _⟩ => ⟨S_, .f32⟩
  | .hbm, ⟨13, _⟩ => ⟨S2x8208x1, .f32⟩
  | .hbm, ⟨14, _⟩ => ⟨S2x8208x1, .f32⟩
  | .hbm, ⟨15, _⟩ => ⟨S_, .f32⟩
  | .hbm, ⟨16, _⟩ => ⟨S2x8208x1, .f32⟩
  | .hbm, ⟨17, _⟩ => ⟨S2x8208x1, .f32⟩
  | .hbm, ⟨18, _⟩ => ⟨S2x8208x1, .f32⟩
  | .hbm, ⟨19, _⟩ => ⟨S2x8208x2048, .f32⟩
  | .hbm, ⟨20, _⟩ => ⟨S2x8208x2048, .f32⟩
  | .hbm, ⟨21, _⟩ => ⟨S1x1x2048, .f32⟩
  | .hbm, ⟨22, _⟩ => ⟨S2x8208x2048, .f32⟩
  | .hbm, ⟨23, _⟩ => ⟨S2x8208x2048, .f32⟩
  | .hbm, ⟨24, _⟩ => ⟨S2x8208x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel10.lean ====
abbrev S2x8208x2048 : Shape := ⟨3, ![2, 8208, 2048]⟩
abbrev S2x2048x8000 : Shape := ⟨3, ![2, 2048, 8000]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S32 : Shape := ⟨1, ![32]⟩
abbrev S_ : Shape := ⟨0, ![]⟩
abbrev S8448 : Shape := ⟨1, ![8448]⟩
abbrev S8448x1 : Shape := ⟨2, ![8448, 1]⟩
abbrev S1x32 : Shape := ⟨2, ![1, 32]⟩
abbrev S8448x32 : Shape := ⟨2, ![8448, 32]⟩
abbrev S8448x64 : Shape := ⟨2, ![8448, 64]⟩
abbrev S8448x128 : Shape := ⟨2, ![8448, 128]⟩
abbrev S64x8448 : Shape := ⟨2, ![64, 8448]⟩
abbrev S2x2048x832 : Shape := ⟨3, ![2, 2048, 832]⟩
abbrev S2x2048x64 : Shape := ⟨3, ![2, 2048, 64]⟩
abbrev S2x2048x32 : Shape := ⟨3, ![2, 2048, 32]⟩
abbrev S2x2048x896 : Shape := ⟨3, ![2, 2048, 896]⟩
abbrev S1x512x1536 : Shape := ⟨3, ![1, 512, 1536]⟩
abbrev S512x1536 : Shape := ⟨2, ![512, 1536]⟩
abbrev S512x8x192 : Shape := ⟨3, ![512, 8, 192]⟩
abbrev S512x8x64 : Shape := ⟨3, ![512, 8, 64]⟩
abbrev S512x8x128 : Shape := ⟨3, ![512, 8, 128]⟩
abbrev S512x8x32 : Shape := ⟨3, ![512, 8, 32]⟩
abbrev S512x8x256 : Shape := ⟨3, ![512, 8, 256]⟩
abbrev S512x2048 : Shape := ⟨2, ![512, 2048]⟩
abbrev S2048x512 : Shape := ⟨2, ![2048, 512]⟩
abbrev S1x256x2048 : Shape := ⟨3, ![1, 256, 2048]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S2x8448x2048 : Shape := ⟨3, ![2, 8448, 2048]⟩
abbrev S16896x2048 : Shape := ⟨2, ![16896, 2048]⟩
abbrev S1x512 : Shape := ⟨2, ![1, 512]⟩
abbrev S512 : Shape := ⟨1, ![512]⟩
abbrev S1x256 : Shape := ⟨2, ![1, 256]⟩
abbrev S256 : Shape := ⟨1, ![256]⟩
abbrev S66x2048x256 : Shape := ⟨3, ![66, 2048, 256]⟩
abbrev S66x1152x256 : Shape := ⟨3, ![66, 1152, 256]⟩
abbrev S1x2048x896 : Shape := ⟨3, ![1, 2048, 896]⟩
abbrev S256x128 : Shape := ⟨2, ![256, 128]⟩
abbrev S64x256 : Shape := ⟨2, ![64, 256]⟩
abbrev S1x2048x256 : Shape := ⟨3, ![1, 2048, 256]⟩
abbrev S1x1152x256 : Shape := ⟨3, ![1, 1152, 256]⟩
abbrev S2048x896 : Shape := ⟨2, ![2048, 896]⟩
abbrev S256x896 : Shape := ⟨2, ![256, 896]⟩
abbrev S256x512 : Shape := ⟨2, ![256, 512]⟩
abbrev S256x1 : Shape := ⟨2, ![256, 1]⟩
abbrev S256x256 : Shape := ⟨2, ![256, 256]⟩
abbrev S2048x256 : Shape := ⟨2, ![2048, 256]⟩
abbrev S128x256 : Shape := ⟨2, ![128, 256]⟩
abbrev S1x128x256 : Shape := ⟨3, ![1, 128, 256]⟩
abbrev S1x64x256 : Shape := ⟨3, ![1, 64, 256]⟩
abbrev S16x256 : Shape := ⟨2, ![16, 256]⟩
abbrev S1x16x256 : Shape := ⟨3, ![1, 16, 256]⟩
abbrev S66x256x2048 : Shape := ⟨3, ![66, 256, 2048]⟩
abbrev S2x8208x8x256 : Shape := ⟨4, ![2, 8208, 8, 256]⟩
abbrev S66x256x1152 : Shape := ⟨3, ![66, 256, 1152]⟩
abbrev S16896x1152 : Shape := ⟨2, ![16896, 1152]⟩
abbrev S2x8448x1152 : Shape := ⟨3, ![2, 8448, 1152]⟩
abbrev S2x8208x1152 : Shape := ⟨3, ![2, 8208, 1152]⟩
abbrev S2x8208x8x144 : Shape := ⟨4, ![2, 8208, 8, 144]⟩
abbrev S2x8208x8x128 : Shape := ⟨4, ![2, 8208, 8, 128]⟩

abbrev nBuf : Space → Nat
  | .hbm => 90
  | .vmem => 22
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x512, .f32⟩
  | .hbm, ⟨3, _⟩ => ⟨S2x512x1536, .f32⟩
  | .hbm, ⟨4, _⟩ => ⟨S2x256, .f32⟩
  | .hbm, ⟨5, _⟩ => ⟨S2x256x2048, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8448, .i32⟩
  | .hbm, ⟨15, _⟩ => ⟨S8448, .f32⟩
  | .hbm, ⟨16, _⟩ => ⟨S8448x1, .f32⟩
  | .hbm, ⟨17, _⟩ => ⟨S1x32, .f32⟩
  | .hbm, ⟨18, _⟩ => ⟨S8448x32, .f32⟩
  | .hbm, ⟨19, _⟩ => ⟨S8448x32, .f32⟩
  | .hbm, ⟨20, _⟩ => ⟨S8448x32, .f32⟩
  | .hbm, ⟨21, _⟩ => ⟨S8448x32, .f32⟩
  | .hbm, ⟨22, _⟩ => ⟨S8448x64, .f32⟩
  | .hbm, ⟨23, _⟩ => ⟨S8448x32, .f32⟩
  | .hbm, ⟨24, _⟩ => ⟨S8448x64, .f32⟩
  | .hbm, ⟨25, _⟩ => ⟨S_, .f32⟩
  | .hbm, ⟨26, _⟩ => ⟨S8448x64, .f32⟩
  | .hbm, ⟨27, _⟩ => ⟨S8448x128, .f32⟩
  | .hbm, ⟨28, _⟩ => ⟨S8448x128, .f32⟩
  | .hbm, ⟨29, _⟩ => ⟨S64x8448, .f32⟩
  | .hbm, ⟨30, _⟩ => ⟨S64x8448, .f32⟩
  | .hbm, ⟨31, _⟩ => ⟨S2x2048x832, .f32⟩
  | .hbm, ⟨32, _⟩ => ⟨S2x2048x64, .f32⟩
  | .hbm, ⟨33, _⟩ => ⟨S2x2048x32, .f32⟩
  | .hbm, ⟨34, _⟩ => ⟨S2x2048x32, .f32⟩
  | .hbm, ⟨35, _⟩ => ⟨S2x2048x32, .f32⟩
  | .hbm, ⟨36, _⟩ => ⟨S2x2048x64, .f32⟩
  | .hbm, ⟨37, _⟩ => ⟨S2x2048x896, .f32⟩
  | .hbm, ⟨38, _⟩ => ⟨S2x2048x896, .bf16⟩
  | .hbm, ⟨39, _⟩ => ⟨S1x512x1536, .f32⟩
  | .hbm, ⟨40, _⟩ => ⟨S512x1536, .f32⟩
  | .hbm, ⟨41, _⟩ => ⟨S512x8x192, .f32⟩
  | .hbm, ⟨42, _⟩ => ⟨S512x8x64, .f32⟩
  | .hbm, ⟨43, _⟩ => ⟨S512x8x128, .f32⟩
  | .hbm, ⟨44, _⟩ => ⟨S512x8x32, .f32⟩
  | .hbm, ⟨45, _⟩ => ⟨S512x8x32, .f32⟩
  | .hbm, ⟨46, _⟩ => ⟨S512x8x32, .f32⟩
  | .hbm, ⟨47, _⟩ => ⟨S512x8x64, .f32⟩
  | .hbm, ⟨48, _⟩ => ⟨S512x8x256, .f32⟩
  | .hbm, ⟨49, _⟩ => ⟨S512x2048, .f32⟩
  | .hbm, ⟨50, _⟩ => ⟨S2048x512, .f32⟩
  | .hbm, ⟨51, _⟩ => ⟨S2048x512, .bf16⟩
  | .hbm, ⟨52, _⟩ => ⟨S1x256x2048, .f32⟩
  | .hbm, ⟨53, _⟩ => ⟨S256x2048, .f32⟩
  | .hbm, ⟨54, _⟩ => ⟨S256x8x256, .f32⟩
  | .hbm, ⟨55, _⟩ => ⟨S256x8x128, .f32⟩
  | .hbm, ⟨56, _⟩ => ⟨S256x1024, .f32⟩
  | .hbm, ⟨57, _⟩ => ⟨S256x1024, .bf16⟩
  | .hbm, ⟨58, _⟩ => ⟨S256x8x128, .f32⟩
  | .hbm, ⟨59, _⟩ => ⟨S256x1024, .f32⟩
  | .hbm, ⟨60, _⟩ => ⟨S1024x256, .f32⟩
  | .hbm, ⟨61, _⟩ => ⟨S1024x256, .bf16⟩
  | .hbm, ⟨62, _⟩ => ⟨S_, .bf16⟩
  | .hbm, ⟨63, _⟩ => ⟨S2x8448x2048, .bf16⟩
  | .hbm, ⟨64, _⟩ => ⟨S16896x2048, .bf16⟩
  | .hbm, ⟨65, _⟩ => ⟨S1x512, .f32⟩
  | .hbm, ⟨66, _⟩ => ⟨S512, .f32⟩
  | .hbm, ⟨67, _⟩ => ⟨S1x256, .f32⟩
  | .hbm, ⟨68, _⟩ => ⟨S256, .f32⟩
  | .hbm, ⟨69, _⟩ => ⟨S1x512, .f32⟩
  | .hbm, ⟨70, _⟩ => ⟨S1x256, .f32⟩
  | .hbm, ⟨71, _⟩ => ⟨S66x2048x256, .bf16⟩
  | .hbm, ⟨72, _⟩ => ⟨S16896x2048, .bf16⟩
  | .hbm, ⟨73, _⟩ => ⟨S66x1152x256, .bf16⟩
  | .hbm, ⟨74, _⟩ => ⟨S66x256x2048, .bf16⟩
  | .hbm, ⟨75, _⟩ => ⟨S16896x2048, .bf16⟩
  | .hbm, ⟨76, _⟩ => ⟨S2x8448x2048, .bf16⟩
  | .hbm, ⟨77, _⟩ => ⟨S2x8208x2048, .bf16⟩
  | .hbm, ⟨78, _⟩ => ⟨S2x8208x8x256, .bf16⟩
  | .hbm, ⟨79, _⟩ => ⟨S2x8448x2048, .bf16⟩
  | .hbm, ⟨80, _⟩ => ⟨S2x8208x2048, .bf16⟩
  | .hbm, ⟨81, _⟩ => ⟨S2x8208x8x256, .bf16⟩
  | .hbm, ⟨82, _⟩ => ⟨S66x256x1152, .bf16⟩
  | .hbm, ⟨83, _⟩ => ⟨S16896x1152, .bf16⟩
  | .hbm, ⟨84, _⟩ => ⟨S2x8448x1152, .bf16⟩
  | .hbm, ⟨85, _⟩ => ⟨S2x8208x1152, .bf16⟩
  | .hbm, ⟨86, _⟩ => ⟨S2x8208x8x144, .bf16⟩
  | .hbm, ⟨87, _⟩ => ⟨S2x8208x8x128, .bf16⟩
  | .hbm, ⟨88, _⟩ => ⟨S2x8208x8x128, .bf16⟩
  | .hbm, ⟨89, _⟩ => ⟨S2x8208x8x128, .bf16⟩
  | .local _ .vmem, ⟨0, _⟩ => ⟨S256x2048, .bf16⟩
  | .local _ .vmem, ⟨1, _⟩ => ⟨S256x2048, .bf16⟩
  | .local _ .vmem, ⟨2, _⟩ => ⟨S1x2048x896, .bf16⟩
  | .local _ .vmem, ⟨3, _⟩ => ⟨S1x512, .f32⟩
  | .local _ .vmem, ⟨4, _⟩ => ⟨S1x256, .f32⟩
  | .local _ .vmem, ⟨5, _⟩ => ⟨S2048x512, .bf16⟩
  | .local _ .vmem, ⟨6, _⟩ => ⟨S256x1024, .bf16⟩
  | .local _ .vmem, ⟨7, _⟩ => ⟨S1024x256, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S1x2048x256, .bf16⟩
  | .local _ .vmem, ⟨17, _⟩ => ⟨S1x2048x256, .bf16⟩
  | .local _ .vmem, ⟨18, _⟩ => ⟨S256x2048, .bf16⟩
  | .local _ .vmem, ⟨19, _⟩ => ⟨S256x2048, .bf16⟩
  | .local _ .vmem, ⟨20, _⟩ => ⟨S1x1152x256, .bf16⟩
  | .local _ .vmem, ⟨21, _⟩ => ⟨S1x1152x256, .bf16⟩
  | _, _ => ⟨S2x8208x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61_0 : Ref sig .tc := ⟨.hbm, 71, rfl⟩
abbrev main_v61_1 : Ref sig .tc := ⟨.hbm, 72, rfl⟩
abbrev main_v61_2 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1152x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S2x8208x2048 : Shape := ⟨3, ![2, 8208, 2048]⟩
abbrev S2x2048x8000 : Shape := ⟨3, ![2, 2048, 8000]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S1x2048x512 : Shape := ⟨3, ![1, 2048, 512]⟩
abbrev S2048x512 : Shape := ⟨2, ![2048, 512]⟩
abbrev S2x8208x512 : Shape := ⟨3, ![2, 8208, 512]⟩
abbrev S1x2048x256 : Shape := ⟨3, ![1, 2048, 256]⟩
abbrev S2048x256 : Shape := ⟨2, ![2048, 256]⟩
abbrev S2x8208x256 : Shape := ⟨3, ![2, 8208, 256]⟩
abbrev S1x512 : Shape := ⟨2, ![1, 512]⟩
abbrev S512 : Shape := ⟨1, ![512]⟩
abbrev S_ : Shape := ⟨0, ![]⟩
abbrev S2x8208 : Shape := ⟨2, ![2, 8208]⟩
abbrev S2x8208x1 : Shape := ⟨3, ![2, 8208, 1]⟩
abbrev S1x1x512 : Shape := ⟨3, ![1, 1, 512]⟩
abbrev S1x512x1536 : Shape := ⟨3, ![1, 512, 1536]⟩
abbrev S512x1536 : Shape := ⟨2, ![512, 1536]⟩
abbrev S2x8208x1536 : Shape := ⟨3, ![2, 8208, 1536]⟩
abbrev S2x8208x8x192 : Shape := ⟨4, ![2, 8208, 8, 192]⟩
abbrev S1x256 : Shape := ⟨2, ![1, 256]⟩
abbrev S256 : Shape := ⟨1, ![256]⟩
abbrev S1x1x256 : Shape := ⟨3, ![1, 1, 256]⟩
abbrev S1x256x2048 : Shape := ⟨3, ![1, 256, 2048]⟩
abbrev S256x2048 : Shape := ⟨2, ![256, 2048]⟩
abbrev S2x8208x8x256 : Shape := ⟨4, ![2, 8208, 8, 256]⟩
abbrev S2x8208x8x128 : Shape := ⟨4, ![2, 8208, 8, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x8208x2048, .bf16⟩
  | .hbm, ⟨1, _⟩ => ⟨S2x2048x8000, .f32⟩
  | .hbm, ⟨2, _⟩ => ⟨S2x512, .f32⟩
  | .hbm, ⟨3, _⟩ => ⟨S2x512x1536, .f32⟩
  | .hbm, ⟨4, _⟩ => ⟨S2x256, .f32⟩
  | .hbm, ⟨5, _⟩ => ⟨S2x256x2048, .f32⟩
  | .hbm, ⟨6, _⟩ => ⟨S2x8208x2048, .f32⟩
  | .hbm, ⟨7, _⟩ => ⟨S1x2048x512, .f32⟩
  | .hbm, ⟨8, _⟩ => ⟨S2048x512, .f32⟩
  | .hbm, ⟨9, _⟩ => ⟨S2x8208x512, .f32⟩
  | .hbm, ⟨10, _⟩ => ⟨S2x8208x2048, .f32⟩
  | .hbm, ⟨11, _⟩ => ⟨S1x2048x256, .f32⟩
  | .hbm, ⟨12, _⟩ => ⟨S2048x256, .f32⟩
  | .hbm, ⟨13, _⟩ => ⟨S2x8208x256, .f32⟩
  | .hbm, ⟨14, _⟩ => ⟨S1x512, .f32⟩
  | .hbm, ⟨15, _⟩ => ⟨S512, .f32⟩
  | .hbm, ⟨16, _⟩ => ⟨S2x8208x512, .f32⟩
  | .hbm, ⟨17, _⟩ => ⟨S_, .f32⟩
  | .hbm, ⟨18, _⟩ => ⟨S2x8208, .f32⟩
  | .hbm, ⟨19, _⟩ => ⟨S2x8208x1, .f32⟩
  | .hbm, ⟨20, _⟩ => ⟨S_, .f32⟩
  | .hbm, ⟨21, _⟩ => ⟨S2x8208x1, .f32⟩
  | .hbm, ⟨22, _⟩ => ⟨S2x8208x1, .f32⟩
  | .hbm, ⟨23, _⟩ => ⟨S_, .f32⟩
  | .hbm, ⟨24, _⟩ => ⟨S2x8208x1, .f32⟩
  | .hbm, ⟨25, _⟩ => ⟨S2x8208x1, .f32⟩
  | .hbm, ⟨26, _⟩ => ⟨S2x8208x1, .f32⟩
  | .hbm, ⟨27, _⟩ => ⟨S2x8208x512, .f32⟩
  | .hbm, ⟨28, _⟩ => ⟨S2x8208x512, .f32⟩
  | .hbm, ⟨29, _⟩ => ⟨S1x1x512, .f32⟩
  | .hbm, ⟨30, _⟩ => ⟨S2x8208x512, .f32⟩
  | .hbm, ⟨31, _⟩ => ⟨S2x8208x512, .f32⟩
  | .hbm, ⟨32, _⟩ => ⟨S1x512x1536, .f32⟩
  | .hbm, ⟨33, _⟩ => ⟨S512x1536, .f32⟩
  | .hbm, ⟨34, _⟩ => ⟨S2x8208x1536, .f32⟩
  | .hbm, ⟨35, _⟩ => ⟨S2x8208x8x192, .f32⟩
  | .hbm, ⟨36, _⟩ => ⟨S1x256, .f32⟩
  | .hbm, ⟨37, _⟩ => ⟨S256, .f32⟩
  | .hbm, ⟨38, _⟩ => ⟨S2x8208x256, .f32⟩
  | .hbm, ⟨39, _⟩ => ⟨S_, .f32⟩
  | .hbm, ⟨40, _⟩ => ⟨S2x8208, .f32⟩
  | .hbm, ⟨41, _⟩ => ⟨S2x8208x1, .f32⟩
  | .hbm, ⟨42, _⟩ => ⟨S_, .f32⟩
  | .hbm, ⟨43, _⟩ => ⟨S2x8208x1, .f32⟩
  | .hbm, ⟨44, _⟩ => ⟨S2x8208x1, .f32⟩
  | .hbm, ⟨45, _⟩ => ⟨S_, .f32⟩
  | .hbm, ⟨46, _⟩ => ⟨S2x8208x1, .f32⟩
  | .hbm, ⟨47, _⟩ => ⟨S2x8208x1, .f32⟩
  | .hbm, ⟨48, _⟩ => ⟨S2x8208x1, .f32⟩
  | .hbm, ⟨49, _⟩ => ⟨S2x8208x256, .f32⟩
  | .hbm, ⟨50, _⟩ => ⟨S2x8208x256, .f32⟩
  | .hbm, ⟨51, _⟩ => ⟨S1x1x256, .f32⟩
  | .hbm, ⟨52, _⟩ => ⟨S2x8208x256, .f32⟩
  | .hbm, ⟨53, _⟩ => ⟨S2x8208x256, .f32⟩
  | .hbm, ⟨54, _⟩ => ⟨S1x256x2048, .f32⟩
  | .hbm, ⟨55, _⟩ => ⟨S256x2048, .f32⟩
  | .hbm, ⟨56, _⟩ => ⟨S2x8208x2048, .f32⟩
  | .hbm, ⟨57, _⟩ => ⟨S2x8208x8x256, .f32⟩
  | .hbm, ⟨58, _⟩ => ⟨S2x8208x8x128, .f32⟩
  | .hbm, ⟨59, _⟩ => ⟨S_, .f32⟩
  | .hbm, ⟨60, _⟩ => ⟨S2x8208x8x128, .f32⟩
  | .hbm, ⟨61, _⟩ => ⟨S2x8208x8x128, .f32⟩
  | .hbm, ⟨62, _⟩ => ⟨S2x8208x8x128, .f32⟩
  | .hbm, ⟨63, _⟩ => ⟨S2x8208x8x128, .bf16⟩
  | .hbm, ⟨64, _⟩ => ⟨S2x8208x8x128, .bf16⟩
  | .hbm, ⟨65, _⟩ => ⟨S2x8208x8x128, .f32⟩
  | .hbm, ⟨66, _⟩ => ⟨S2x8208x8x128, .bf16⟩
  | _, _ => ⟨S2x8208x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.Stacked.lean ====
/-
  Buffers holding several tiles side by side, and the two steps a kernel takes through one of them.

  `stack z` is the array whose slab `g` on the first axis is the tile `z g`, `beside o` the one whose columns
  `128 g … 128 g + 127` are the tile `o g`. A load of slab `g` reads `z g`; a store over it replaces `z g` alone. `ld_owns`
  and `st_owns` are the load and the store at the head of a program, for a buffer held at what its memref reads.
-/
module

public import Idealize.ShloMosaic.Lib.Memref
public import Idealize.ShloMosaic.Lib.Tactic
public import Idealize.ShloMosaic.Lib.ValueIdxCore

@[expose] public section

noncomputable section

namespace Cert.Stacked

open Idealize.ShloMosaic
open Idealize.SL Idealize.SL.RA Idealize.SL.BI
open scoped Idealize.SL.BI
open Idealize.SL.BI.BIBase Idealize.SL.BI.Laws Idealize.SL.ProofMode Idealize.SL.Sem

/-! ## Stacks of tiles -/

section Arrays

variable {α : Type}

/-- Four tiles, one above the other on a leading axis. -/
def stack {p q : ℕ} (z : Fin 4 → (⟨3, ![1, p, q]⟩ : Shape).Idx → α) : (⟨3, ![4, p, q]⟩ : Shape).Idx → α :=
  fun y => z (y 0) (ValueIdx.ix3 (0 : Fin 1) (y 1 : Fin p) (y 2 : Fin q))

/-- Four 128-column tiles, one beside the other. -/
def beside {p : ℕ} (o : Fin 4 → (⟨2, ![p, 128]⟩ : Shape).Idx → α) : (⟨2, ![p, 512]⟩ : Shape).Idx → α :=
  fun y => o ⟨(y 1).val / 128, by have : (y 1).val < 512 := (y 1).isLt; omega⟩
    (ValueIdx.ix2 (y 0 : Fin p) (⟨(y 1).val % 128, Nat.mod_lt _ (by decide)⟩ : Fin 128))

theorem exists_stack {p q : ℕ} (X : (⟨3, ![4, p, q]⟩ : Shape).Idx → α) : ∃ z, X = stack z :=
  ⟨fun g y => X (ValueIdx.ix3 g (y 1 : Fin p) (y 2 : Fin q)), funext fun y => congrArg X (ValueIdx.eq_ix3 y)⟩

theorem exists_beside {p : ℕ} (X : (⟨2, ![p, 512]⟩ : Shape).Idx → α) : ∃ o, X = beside o := by
  refine ⟨fun g y => X (ValueIdx.ix2 (y 0 : Fin p) (⟨128 * g.val + (y 1).val, by
    have : (y 1).val < 128 := (y 1).isLt; have := g.isLt; omega⟩ : Fin 512)), funext fun y => congrArg X ?_⟩
  funext a
  match a with
  | ⟨0, _⟩ => rfl
  | ⟨1, _⟩ => exact Fin.ext (Nat.div_add_mod (y 1).val 128).symm

theorem stack_idx {p q : ℕ} (z : Fin 4 → (⟨3, ![1, p, q]⟩ : Shape).Idx → α) (g : Fin 4) (off : Fin 3 → ℕ)
    (ho : off = ![g.val, 0, 0]) (inb : ∀ a, off a + (![1, p, q] : Fin 3 → ℕ) a ≤ (⟨3, ![4, p, q]⟩ : Shape).size a) :
    (fun x => stack z ((Rect.unit (s := ⟨3, ![4, p, q]⟩) off ![1, p, q] inb).idx x)) = z g := by
  subst ho
  funext x
  have hx : (x 0).val = 0 := by have : (x 0).val < 1 := (x 0).isLt; omega
  have h0 : ((Rect.unit (s := ⟨3, ![4, p, q]⟩) ![g.val, 0, 0] ![1, p, q] inb).idx x 0) = g := by
    apply Fin.ext; show g.val + 1 * (x 0).val = g.val; omega
  unfold stack
  rw [h0]
  congr 1
  funext a
  match a with
  | ⟨0, _⟩ => exact Fin.ext hx.symm
  | ⟨1, _⟩ => exact Fin.ext (show 0 + 1 * (x 1).val = (x 1).val by omega)
  | ⟨2, _⟩ => exact Fin.ext (show 0 + 1 * (x 2).val = (x 2).val by omega)

theorem stack_overlay {p q : ℕ} (z : Fin 4 → (⟨3, ![1, p, q]⟩ : Shape).Idx → α) (g : Fin 4) (off : Fin 3 → ℕ)
    (ho : off = ![g.val, 0, 0]) (inb : ∀ a, off a + (![1, p, q] : Fin 3 → ℕ) a ≤ (⟨3, ![4, p, q]⟩ : Shape).size a)
    (w : (⟨3, ![1, p, q]⟩ : Shape).Idx → α) :
    (Rect.unit (s := ⟨3, ![4, p, q]⟩) off ![1, p, q] inb).overlay (stack z) w = stack (Function.update z g w) := by
  subst ho
  funext y
  by_cases hy : (y 0 : Fin 4) = g
  · have he : y = (Rect.unit (s := ⟨3, ![4, p, q]⟩) ![g.val, 0, 0] ![1, p, q] inb).emb
        (ValueIdx.ix3 (0 : Fin 1) (y 1 : Fin p) (y 2 : Fin q)) := by
      funext a
      match a with
      | ⟨0, _⟩ => exact Fin.ext (by show (y 0).val = g.val + 1 * 0; rw [hy]; omega)
      | ⟨1, _⟩ => exact Fin.ext (show (y 1).val = 0 + 1 * (y 1).val by omega)
      | ⟨2, _⟩ => exact Fin.ext (show (y 2).val = 0 + 1 * (y 2).val by omega)
    refine (congrArg _ he).trans ((Rect.overlay_emb _ _ _ _).trans ?_)
    unfold stack
    rw [hy, Function.update_self]
  · rw [Rect.overlay_of_not_mem]
    · exact congrFun (Function.update_of_ne (v := w) (f := z) hy).symm _
    · intro hm
      apply hy
      have := (Rect.mem_set_unit.mp hm) 0
      apply Fin.ext
      have h1 : g.val ≤ (y 0).val := this.1
      have h2 : (y 0).val < g.val + 1 := this.2
      omega

theorem beside_overlay {p : ℕ} (o : Fin 4 → (⟨2, ![p, 128]⟩ : Shape).Idx → α) (g : Fin 4) (off : Fin 2 → ℕ)
    (ho : off = ![0, 128 * g.val]) (inb : ∀ a, off a + (![p, 128] : Fin 2 → ℕ) a ≤ (⟨2, ![p, 512]⟩ : Shape).size a)
    (w : (⟨2, ![p, 128]⟩ : Shape).Idx → α) :
    (Rect.unit (s := ⟨2, ![p, 512]⟩) off ![p, 128] inb).overlay (beside o) w = beside (Function.update o g w) := by
  subst ho
  funext y
  have hb : (y 1).val < 512 := (y 1).isLt
  by_cases hy : (y 1).val / 128 = g.val
  · have he : y = (Rect.unit (s := ⟨2, ![p, 512]⟩) ![0, 128 * g.val] ![p, 128] inb).emb
        (ValueIdx.ix2 (y 0 : Fin p) (⟨(y 1).val % 128, Nat.mod_lt _ (by decide)⟩ : Fin 128)) := by
      funext a
      match a with
      | ⟨0, _⟩ => exact Fin.ext (show (y 0).val = 0 + 1 * (y 0).val by omega)
      | ⟨1, _⟩ => exact Fin.ext (show (y 1).val = 128 * g.val + 1 * ((y 1).val % 128) by omega)
    refine (congrArg _ he).trans ((Rect.overlay_emb _ _ _ _).trans ?_)
    unfold beside
    rw [show (⟨(y 1).val / 128, by omega⟩ : Fin 4) = g from Fin.ext hy, Function.update_self]
  · rw [Rect.overlay_of_not_mem]
    · unfold beside; rw [Function.update_of_ne]
      intro h; exact hy (congrArg Fin.val h)
    · intro hm
      have := (Rect.mem_set_unit.mp hm) 1
      have h1 : 128 * g.val ≤ (y 1).val := this.1
      have h2 : (y 1).val < 128 * g.val + 128 := this.2
      omega

/-- A store over the whole array leaves the stored array. -/
theorem whole_overlay {s : Shape} (X : s.Idx → α) (off : Fin s.rank → ℕ) (ho : off = fun _ => 0)
    (inb : ∀ a, off a + s.size a ≤ s.size a) (w : s.Idx → α) :
    (Rect.unit (s := s) off s.size inb).overlay X w = w := by
  subst ho
  funext y
  have he : y = (Rect.unit (s := s) (fun _ => 0) s.size inb).emb y :=
    funext fun a => Fin.ext (show (y a).val = 0 + 1 * (y a).val by omega)
  exact (congrArg _ he).trans (Rect.overlay_emb _ _ _ _)

end Arrays

/-! ## A load and a store at the head of a program -/

section Steps

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {sp : CoreSpace} {s : Shape} {e : EltTy}
variable {α : Type} {Q : α → sProp (MT nD τ sig Ix Val Name U Lvl)} {P : sProp (MT nD τ sig Ix Val Name U Lvl)}

theorem ld_owns {m : Memref sig c.2.kind sp s e} {r : LoadRect s} {hl : m.view.LoadsAt r}
    {k : (r.shape.Idx → Val e) → Prog (TpuEff nD τ sig Val Λ c.2) α} {q : PosShare TreeShare} {X : s.Idx → Val e}
    (h : iprop(owns c m q X ∗ P) ⊢ wp frame (wpE defs 𝒱 c bd) E (k (fun x => X (r.idx x))) Q) :
    iprop(owns c m q X ∗ P) ⊢ wp frame (wpE defs 𝒱 c bd) E (.op (.load m r hl) k) Q := by
  refine BIBase.Entails.trans ?_ (show iprop(owns c m q X ∗ (owns c m q X -∗ wp frame (wpE defs 𝒱 c bd) E (k (fun x => X (r.idx x))) Q))
    ⊢ wp frame (wpE defs 𝒱 c bd) E (.op (.load m r hl) k) Q from ?_)
  · iintro ⟨H, HP⟩
    isplitl [H]; · iexact H
    iintro H
    iapply h
    isplitl [H]; · iexact H
    iexact HP
  · unfold owns
    iintro ⟨⟨%f, %hf, H⟩, HK⟩
    subst hf
    iapply (wp_load 𝒱 c bd E (m := m) (S := m.view.set) (View.setOn_subset_set _ _)) $$ H
    iintro H
    iapply HK
    iexists f
    isplitr; · ipureintro; rfl
    iexact H

theorem st_owns {m : Memref sig c.2.kind sp s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s.Idx → Val e}
    (h : iprop(owns c m fullShare (r.overlay X w) ∗ P) ⊢ wp frame (wpE defs 𝒱 c bd) E (k ⟨⟩) Q) :
    iprop(owns c m fullShare X ∗ P) ⊢ wp frame (wpE defs 𝒱 c bd) E (.op (.store m r w Finset.univ hx hm) k) Q := by
  refine BIBase.Entails.trans ?_ (show iprop(owns c m fullShare X ∗ (owns c m fullShare (r.overlay X w) -∗ wp frame (wpE defs 𝒱 c bd) E (k ⟨⟩) Q))
    ⊢ wp frame (wpE defs 𝒱 c bd) E (.op (.store m r w Finset.univ hx hm) k) Q from ?_)
  · iintro ⟨H, HP⟩
    isplitl [H]; · iexact H
    iintro H
    iapply h
    isplitl [H]; · iexact H
    iexact HP
  · unfold owns
    iintro ⟨⟨%f, %hf, H⟩, HK⟩
    subst hf
    iapply (wp_store 𝒱 c bd E (m := m) (r := r) (S := m.view.set) (Mk := Finset.univ)
      ((View.setOn_subset_set _ _).trans (View.set_slice_subset _ _))) $$ H
    iintro H
    iapply HK
    iexists _
    isplitr [H]
    swap
    · iexact H
    ipureintro
    funext y
    by_cases hy : y ∈ Finset.univ.map r.emb
    · obtain ⟨x, -, rfl⟩ := Finset.mem_map.mp hy
      exact (View.read_slice_write_emb _ _ _ (Finset.mem_univ x)).trans (Rect.overlay_emb _ _ _ _).symm
    · refine (View.read_slice_write_of_not_mem _ _ _ _ hy).trans (Rect.overlay_of_not_mem _ _ _ ?_).symm
      rwa [Rect.map_emb_univ] at hy

end Steps

end Cert.Stacked
-- ==== Proof.KI.Steps.lean ====
/-
  One grid point of the stick-breaking attention kernel, its memory as a state of twelve tiles.

  The kernel body holds three input blocks (queries, keys, values), an output block of four 128-column tiles (one per head of
  the group), a stack of four accumulators and a stack of four score tiles. `St` is that memory held whole. Each lemma below
  takes one load or one store at the head of a program to the state after it.
-/
module

public import proofs.«01_k».proof.Proof.Stacked
public import Idealize.ShloMosaic.Lib.Pipeline.FrameBody
public import proofs.«01_k».proof.Proof.Gen.KernelIdeal.Skeleton

@[expose] public section

set_option maxRecDepth 16384

noncomputable section

namespace Cert.KernelIdeal.Att

open Cert.KernelIdeal Cert.KernelIdeal.Gen Cert.Stacked
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop's label is entered at the number of trips still to run. -/
abbrev 𝒱₁ : Variants := Variants.nat

/-- The six memory references of the kernel body. -/
structure Refs where
  arg3 : Memref sig .tc .vmem S1x512x256 .bf16
  arg4 : Memref sig .tc .vmem S33x256x512 .bf16
  arg5 : Memref sig .tc .vmem S33x512x256 .bf16
  arg6 : Memref sig .tc .vmem S256x512 .bf16
  arg7 : Memref sig .tc .vmem S4x128x256 .f32
  arg8 : Memref sig .tc .vmem S4x256x256 .f32

/-- The three input blocks: a tile of queries (transposed), every tile of keys, every tile of values (transposed). -/
structure Ins (F : FTy → Type) where
  Q : Vec F S1x512x256 .bf16
  K : Vec F S33x256x512 .bf16
  V : Vec F S33x512x256 .bf16

/-- Head `g`'s queries: rows `128 g …` of the query block. -/
def Ins.qt (X : Ins F) (g : Fin 4) : Vec F S1x128x256 .bf16 := fun x =>
  X.Q (ValueIdx.ix3 (0 : Fin 1) (⟨128 * g.val + (x 1).val, by
    have : (x 1).val < 128 := (x 1).isLt; have := g.isLt; omega⟩ : Fin 512) (x 2 : Fin 256))

/-- Head `g`'s keys of tile `j`: columns `128 g …`. -/
def Ins.kt (X : Ins F) (j : Fin 33) (g : Fin 4) : Vec F S1x256x128 .bf16 := fun x =>
  X.K (ValueIdx.ix3 j (x 1 : Fin 256) (⟨128 * g.val + (x 2).val, by
    have : (x 2).val < 128 := (x 2).isLt; have := g.isLt; omega⟩ : Fin 512))

/-- Head `g`'s values of tile `j`: rows `128 g …`. -/
def Ins.vt (X : Ins F) (j : Fin 33) (g : Fin 4) : Vec F S1x128x256 .bf16 := fun x =>
  X.V (ValueIdx.ix3 j (⟨128 * g.val + (x 1).val, by
    have : (x 1).val < 128 := (x 1).isLt; have := g.isLt; omega⟩ : Fin 512) (x 2 : Fin 256))

/-- A program of the kernel. -/
abbrev Pg (F : FTy → Type) [FloatOps F] [Named F] (α : Type) : Type 1 := Prog (TpuEff nD τ sig (Elt F) (Λ₀ F) .tc) α

section Rules

variable (c : Dev nD) (bd : Option 𝒱₁.V) (E : Set ℕ) {α : Type}
  {Φ : α → sProp (MT nD τ sig Unit (Elt F) ℕ (UR sig nD τ) ℕ)} {R : sProp (MT nD τ sig Unit (Elt F) ℕ (UR sig nD τ) ℕ)} {B : Refs} {X : Ins F}

/-- `P` is enough to run `p` to the postcondition `Φ`. -/
abbrev Does (Φ : α → sProp 𝕄) (P : sProp 𝕄) (p : Pg F α) : Prop :=
  P ⊢ wp frame (wpE (defs₀ (F := F)) 𝒱₁ (c : Thread nD τ) bd) E p Φ

/-- The memory of a grid point: the input blocks, the output block, the accumulators and the scores. -/
def Held (B : Refs) (X : Ins F) (o : Fin 4 → Vec F S256x128 .bf16) (a : Fin 4 → Vec F S1x128x256 .f32)
    (z : Fin 4 → Vec F S1x256x256 .f32) : sProp 𝕄 :=
  iprop(owns (c : Thread nD τ) B.arg3 fullShare X.Q ∗ owns (c : Thread nD τ) B.arg4 fullShare X.K
    ∗ owns (c : Thread nD τ) B.arg5 fullShare X.V ∗ owns (c : Thread nD τ) B.arg6 fullShare (beside o)
    ∗ owns (c : Thread nD τ) B.arg7 fullShare (stack a) ∗ owns (c : Thread nD τ) B.arg8 fullShare (stack z))

/-- The same, tile by tile. -/
def St (B : Refs) (X : Ins F) (o0 o1 o2 o3 : Vec F S256x128 .bf16) (a0 a1 a2 a3 : Vec F S1x128x256 .f32)
    (z0 z1 z2 z3 : Vec F S1x256x256 .f32) : sProp 𝕄 :=
  Held c B X ![o0, o1, o2, o3] ![a0, a1, a2, a3] ![z0, z1, z2, z3]

variable {o : Fin 4 → Vec F S256x128 .bf16} {a : Fin 4 → Vec F S1x128x256 .f32} {z : Fin 4 → Vec F S1x256x256 .f32}
variable {o0 o1 o2 o3 : Vec F S256x128 .bf16} {a0 a1 a2 a3 : Vec F S1x128x256 .f32} {z0 z1 z2 z3 : Vec F S1x256x256 .f32}

/-! ### The state read from each of its buffers -/

theorem at_q : iprop(Held c B X o a z ∗ R) ⊣⊢ iprop(owns (c : Thread nD τ) B.arg3 fullShare X.Q ∗ (owns (c : Thread nD τ) B.arg4 fullShare X.K
    ∗ owns (c : Thread nD τ) B.arg5 fullShare X.V ∗ owns (c : Thread nD τ) B.arg6 fullShare (beside o)
    ∗ owns (c : Thread nD τ) B.arg7 fullShare (stack a) ∗ owns (c : Thread nD τ) B.arg8 fullShare (stack z)) ∗ R) := by
  unfold Held; constructor
  · iintro ⟨⟨H3, H⟩, HR⟩; isplitl [H3]; · iexact H3
    isplitl [H]; · iexact H
    iexact HR
  · iintro ⟨H3, H, HR⟩; isplitl [H3 H]
    · isplitl [H3]; · iexact H3
      iexact H
    iexact HR

theorem at_k : iprop(Held c B X o a z ∗ R) ⊣⊢ iprop(owns (c : Thread nD τ) B.arg4 fullShare X.K ∗ (owns (c : Thread nD τ) B.arg3 fullShare X.Q
    ∗ owns (c : Thread nD τ) B.arg5 fullShare X.V ∗ owns (c : Thread nD τ) B.arg6 fullShare (beside o)
    ∗ owns (c : Thread nD τ) B.arg7 fullShare (stack a) ∗ owns (c : Thread nD τ) B.arg8 fullShare (stack z)) ∗ R) := by
  unfold Held; constructor
  · iintro ⟨⟨H3, H4, H⟩, HR⟩; isplitl [H4]; · iexact H4
    isplitl [H3 H]
    · isplitl [H3]; · iexact H3
      iexact H
    iexact HR
  · iintro ⟨H4, ⟨H3, H⟩, HR⟩; isplitl [H3 H4 H]
    · isplitl [H3]; · iexact H3
      isplitl [H4]; · iexact H4
      iexact H
    iexact HR

theorem at_v : iprop(Held c B X o a z ∗ R) ⊣⊢ iprop(owns (c : Thread nD τ) B.arg5 fullShare X.V ∗ (owns (c : Thread nD τ) B.arg3 fullShare X.Q
    ∗ owns (c : Thread nD τ) B.arg4 fullShare X.K ∗ owns (c : Thread nD τ) B.arg6 fullShare (beside o)
    ∗ owns (c : Thread nD τ) B.arg7 fullShare (stack a) ∗ owns (c : Thread nD τ) B.arg8 fullShare (stack z)) ∗ R) := by
  unfold Held; constructor
  · iintro ⟨⟨H3, H4, H5, H⟩, HR⟩; isplitl [H5]; · iexact H5
    isplitl [H3 H4 H]
    · isplitl [H3]; · iexact H3
      isplitl [H4]; · iexact H4
      iexact H
    iexact HR
  · iintro ⟨H5, ⟨H3, H4, H⟩, HR⟩; isplitl [H3 H4 H5 H]
    · isplitl [H3]; · iexact H3
      isplitl [H4]; · iexact H4
      isplitl [H5]; · iexact H5
      iexact H
    iexact HR

theorem at_o : iprop(Held c B X o a z ∗ R) ⊣⊢ iprop(owns (c : Thread nD τ) B.arg6 fullShare (beside o) ∗ (owns (c : Thread nD τ) B.arg3 fullShare X.Q
    ∗ owns (c : Thread nD τ) B.arg4 fullShare X.K ∗ owns (c : Thread nD τ) B.arg5 fullShare X.V
    ∗ owns (c : Thread nD τ) B.arg7 fullShare (stack a) ∗ owns (c : Thread nD τ) B.arg8 fullShare (stack z)) ∗ R) := by
  unfold Held; constructor
  · iintro ⟨⟨H3, H4, H5, H6, H⟩, HR⟩; isplitl [H6]; · iexact H6
    isplitl [H3 H4 H5 H]
    · isplitl [H3]; · iexact H3
      isplitl [H4]; · iexact H4
      isplitl [H5]; · iexact H5
      iexact H
    iexact HR
  · iintro ⟨H6, ⟨H3, H4, H5, H⟩, HR⟩; isplitl [H3 H4 H5 H6 H]
    · isplitl [H3]; · iexact H3
      isplitl [H4]; · iexact H4
      isplitl [H5]; · iexact H5
      isplitl [H6]; · iexact H6
      iexact H
    iexact HR

theorem at_a : iprop(Held c B X o a z ∗ R) ⊣⊢ iprop(owns (c : Thread nD τ) B.arg7 fullShare (stack a) ∗ (owns (c : Thread nD τ) B.arg3 fullShare X.Q
    ∗ owns (c : Thread nD τ) B.arg4 fullShare X.K ∗ owns (c : Thread nD τ) B.arg5 fullShare X.V
    ∗ owns (c : Thread nD τ) B.arg6 fullShare (beside o) ∗ owns (c : Thread nD τ) B.arg8 fullShare (stack z)) ∗ R) := by
  unfold Held; constructor
  · iintro ⟨⟨H3, H4, H5, H6, H7, H8⟩, HR⟩; isplitl [H7]; · iexact H7
    isplitl [H3 H4 H5 H6 H8]
    · isplitl [H3]; · iexact H3
      isplitl [H4]; · iexact H4
      isplitl [H5]; · iexact H5
      isplitl [H6]; · iexact H6
      iexact H8
    iexact HR
  · iintro ⟨H7, ⟨H3, H4, H5, H6, H8⟩, HR⟩; isplitl [H3 H4 H5 H6 H7 H8]
    · isplitl [H3]; · iexact H3
      isplitl [H4]; · iexact H4
      isplitl [H5]; · iexact H5
      isplitl [H6]; · iexact H6
      isplitl [H7]; · iexact H7
      iexact H8
    iexact HR

theorem at_z : iprop(Held c B X o a z ∗ R) ⊣⊢ iprop(owns (c : Thread nD τ) B.arg8 fullShare (stack z) ∗ (owns (c : Thread nD τ) B.arg3 fullShare X.Q
    ∗ owns (c : Thread nD τ) B.arg4 fullShare X.K ∗ owns (c : Thread nD τ) B.arg5 fullShare X.V
    ∗ owns (c : Thread nD τ) B.arg6 fullShare (beside o) ∗ owns (c : Thread nD τ) B.arg7 fullShare (stack a)) ∗ R) := by
  unfold Held; constructor
  · iintro ⟨⟨H3, H4, H5, H6, H7, H8⟩, HR⟩; isplitl [H8]; · iexact H8
    isplitl [H3 H4 H5 H6 H7]
    · isplitl [H3]; · iexact H3
      isplitl [H4]; · iexact H4
      isplitl [H5]; · iexact H5
      isplitl [H6]; · iexact H6
      iexact H7
    iexact HR
  · iintro ⟨H8, ⟨H3, H4, H5, H6, H7⟩, HR⟩; isplitl [H3 H4 H5 H6 H7 H8]
    · isplitl [H3]; · iexact H3
      isplitl [H4]; · iexact H4
      isplitl [H5]; · iexact H5
      isplitl [H6]; · iexact H6
      isplitl [H7]; · iexact H7
      iexact H8
    iexact HR

/-! ### One load, one store -/

theorem ld_q (g : Fin 4) {off : Fin 3 → ℕ} {inb : ∀ x, off x + S1x128x256.size x ≤ S1x512x256.size x}
    {hl : B.arg3.view.LoadsAt (Rect.unit (s := S1x512x256) off S1x128x256.size inb).toLoadRect}
    {k : ((Rect.unit (s := S1x512x256) off S1x128x256.size inb).toLoadRect.shape.Idx → Elt F .bf16) → Pg F α} (ho : off = ![0, 128 * g.val, 0]) (h : Does c bd E Φ iprop(Held c B X o a z ∗ R) (k (X.qt g))) :
    Does c bd E Φ iprop(Held c B X o a z ∗ R) (.op (.load B.arg3 (Rect.unit (s := S1x512x256) off S1x128x256.size inb).toLoadRect hl) k) := by
  refine BIBase.Entails.trans (at_q c).1 (ld_owns 𝒱₁ (c : Thread nD τ) bd E ?_)
  refine BIBase.Entails.trans (at_q c).2 ?_
  have e : (fun x => X.Q ((Rect.unit (s := S1x512x256) off S1x128x256.size inb).idx x)) = X.qt g := by
    subst ho; funext x; unfold Ins.qt; congr 1; funext y
    match y with
    | ⟨0, _⟩ => exact Fin.ext (show 0 + 1 * (x 0).val = 0 by have : (x 0).val < 1 := (x 0).isLt; omega)
    | ⟨1, _⟩ => exact Fin.ext (show 128 * g.val + 1 * (x 1).val = 128 * g.val + (x 1).val by omega)
    | ⟨2, _⟩ => exact Fin.ext (show 0 + 1 * (x 2).val = (x 2).val by omega)
  exact e ▸ h

theorem ld_k (j : Fin 33) (g : Fin 4) {off : Fin 3 → ℕ} {inb : ∀ x, off x + S1x256x128.size x ≤ S33x256x512.size x}
    {hl : B.arg4.view.LoadsAt (Rect.unit (s := S33x256x512) off S1x256x128.size inb).toLoadRect}
    {k : ((Rect.unit (s := S33x256x512) off S1x256x128.size inb).toLoadRect.shape.Idx → Elt F .bf16) → Pg F α} (ho : off = ![j.val, 0, 128 * g.val])
    (h : Does c bd E Φ iprop(Held c B X o a z ∗ R) (k (X.kt j g))) :
    Does c bd E Φ iprop(Held c B X o a z ∗ R) (.op (.load B.arg4 (Rect.unit (s := S33x256x512) off S1x256x128.size inb).toLoadRect hl) k) := by
  refine BIBase.Entails.trans (at_k c).1 (ld_owns 𝒱₁ (c : Thread nD τ) bd E ?_)
  refine BIBase.Entails.trans (at_k c).2 ?_
  have e : (fun x => X.K ((Rect.unit (s := S33x256x512) off S1x256x128.size inb).idx x)) = X.kt j g := by
    subst ho; funext x; unfold Ins.kt; congr 1; funext y
    match y with
    | ⟨0, _⟩ => exact Fin.ext (show j.val + 1 * (x 0).val = j.val by have : (x 0).val < 1 := (x 0).isLt; omega)
    | ⟨1, _⟩ => exact Fin.ext (show 0 + 1 * (x 1).val = (x 1).val by omega)
    | ⟨2, _⟩ => exact Fin.ext (show 128 * g.val + 1 * (x 2).val = 128 * g.val + (x 2).val by omega)
  exact e ▸ h

theorem ld_v (j : Fin 33) (g : Fin 4) {off : Fin 3 → ℕ} {inb : ∀ x, off x + S1x128x256.size x ≤ S33x512x256.size x}
    {hl : B.arg5.view.LoadsAt (Rect.unit (s := S33x512x256) off S1x128x256.size inb).toLoadRect}
    {k : ((Rect.unit (s := S33x512x256) off S1x128x256.size inb).toLoadRect.shape.Idx → Elt F .bf16) → Pg F α} (ho : off = ![j.val, 128 * g.val, 0])
    (h : Does c bd E Φ iprop(Held c B X o a z ∗ R) (k (X.vt j g))) :
    Does c bd E Φ iprop(Held c B X o a z ∗ R) (.op (.load B.arg5 (Rect.unit (s := S33x512x256) off S1x128x256.size inb).toLoadRect hl) k) := by
  refine BIBase.Entails.trans (at_v c).1 (ld_owns 𝒱₁ (c : Thread nD τ) bd E ?_)
  refine BIBase.Entails.trans (at_v c).2 ?_
  have e : (fun x => X.V ((Rect.unit (s := S33x512x256) off S1x128x256.size inb).idx x)) = X.vt j g := by
    subst ho; funext x; unfold Ins.vt; congr 1; funext y
    match y with
    | ⟨0, _⟩ => exact Fin.ext (show j.val + 1 * (x 0).val = j.val by have : (x 0).val < 1 := (x 0).isLt; omega)
    | ⟨1, _⟩ => exact Fin.ext (show 128 * g.val + 1 * (x 1).val = 128 * g.val + (x 1).val by omega)
    | ⟨2, _⟩ => exact Fin.ext (show 0 + 1 * (x 2).val = (x 2).val by omega)
  exact e ▸ h

/-- A load of the output block, whose value the kernel does not use. -/
theorem ld_o {r : LoadRect S256x512} {hl : B.arg6.view.LoadsAt r} {k : (r.shape.Idx → Elt F .bf16) → Pg F α} (h : ∀ v, Does c bd E Φ iprop(Held c B X o a z ∗ R) (k v)) :
    Does c bd E Φ iprop(Held c B X o a z ∗ R) (.op (.load B.arg6 r hl) k) := by
  refine BIBase.Entails.trans (at_o c).1 (ld_owns 𝒱₁ (c : Thread nD τ) bd E ?_)
  exact BIBase.Entails.trans (at_o c).2 (h _)

/-- The load of all the accumulators at once, whose value the kernel does not use. -/
theorem ld_aW {r : LoadRect S4x128x256} {hl : B.arg7.view.LoadsAt r} {k : (r.shape.Idx → Elt F .f32) → Pg F α} (h : ∀ v, Does c bd E Φ iprop(Held c B X o a z ∗ R) (k v)) :
    Does c bd E Φ iprop(Held c B X o a z ∗ R) (.op (.load B.arg7 r hl) k) := by
  refine BIBase.Entails.trans (at_a c).1 (ld_owns 𝒱₁ (c : Thread nD τ) bd E ?_)
  exact BIBase.Entails.trans (at_a c).2 (h _)

theorem ld_a (g : Fin 4) (off : Fin 3 → ℕ) (ho : off = ![g.val, 0, 0]) {inb : ∀ x, off x + S1x128x256.size x ≤ S4x128x256.size x}
    {hl : B.arg7.view.LoadsAt (Rect.unit (s := S4x128x256) off S1x128x256.size inb).toLoadRect}
    {k : ((Rect.unit (s := S4x128x256) off S1x128x256.size inb).toLoadRect.shape.Idx → Elt F .f32) → Pg F α} (h : Does c bd E Φ iprop(Held c B X o a z ∗ R) (k (a g))) :
    Does c bd E Φ iprop(Held c B X o a z ∗ R) (.op (.load B.arg7 (Rect.unit (s := S4x128x256) off S1x128x256.size inb).toLoadRect hl) k) := by
  refine BIBase.Entails.trans (at_a c).1 (ld_owns 𝒱₁ (c : Thread nD τ) bd E ?_)
  have e : (fun x => stack a ((Rect.unit (s := S4x128x256) off S1x128x256.size inb).idx x)) = a g := stack_idx a g off ho inb
  exact BIBase.Entails.trans (at_a c).2 (e ▸ h)

theorem ld_z (g : Fin 4) (off : Fin 3 → ℕ) (ho : off = ![g.val, 0, 0]) {inb : ∀ x, off x + S1x256x256.size x ≤ S4x256x256.size x}
    {hl : B.arg8.view.LoadsAt (Rect.unit (s := S4x256x256) off S1x256x256.size inb).toLoadRect}
    {k : ((Rect.unit (s := S4x256x256) off S1x256x256.size inb).toLoadRect.shape.Idx → Elt F .f32) → Pg F α} (h : Does c bd E Φ iprop(Held c B X o a z ∗ R) (k (z g))) :
    Does c bd E Φ iprop(Held c B X o a z ∗ R) (.op (.load B.arg8 (Rect.unit (s := S4x256x256) off S1x256x256.size inb).toLoadRect hl) k) := by
  refine BIBase.Entails.trans (at_z c).1 (ld_owns 𝒱₁ (c : Thread nD τ) bd E ?_)
  have e : (fun x => stack z ((Rect.unit (s := S4x256x256) off S1x256x256.size inb).idx x)) = z g := stack_idx z g off ho inb
  exact BIBase.Entails.trans (at_z c).2 (e ▸ h)

theorem st_a (g : Fin 4) (off : Fin 3 → ℕ) (ho : off = ![g.val, 0, 0]) {inb : ∀ x, off x + S1x128x256.size x ≤ S4x128x256.size x}
    {w : (Rect.unit (s := S4x128x256) off S1x128x256.size inb).shape.Idx → Elt F .f32} {hx hm} {k : PUnit → Pg F α}
    (h : Does c bd E Φ iprop(Held c B X o (Function.update a g w) z ∗ R) (k ⟨⟩)) :
    Does c bd E Φ iprop(Held c B X o a z ∗ R)
      (.op (.store B.arg7 (Rect.unit (s := S4x128x256) off S1x128x256.size inb) w Finset.univ hx hm) k) := by
  refine BIBase.Entails.trans (at_a c).1 (st_owns 𝒱₁ (c : Thread nD τ) bd E ?_)
  have e : (Rect.unit (s := S4x128x256) off S1x128x256.size inb).overlay (stack a) w = stack (Function.update a g w) := stack_overlay a g off ho inb w
  rw [e]
  exact BIBase.Entails.trans (at_a c).2 h

theorem st_z (g : Fin 4) (off : Fin 3 → ℕ) (ho : off = ![g.val, 0, 0]) {inb : ∀ x, off x + S1x256x256.size x ≤ S4x256x256.size x}
    {w : (Rect.unit (s := S4x256x256) off S1x256x256.size inb).shape.Idx → Elt F .f32} {hx hm} {k : PUnit → Pg F α}
    (h : Does c bd E Φ iprop(Held c B X o a (Function.update z g w) ∗ R) (k ⟨⟩)) :
    Does c bd E Φ iprop(Held c B X o a z ∗ R)
      (.op (.store B.arg8 (Rect.unit (s := S4x256x256) off S1x256x256.size inb) w Finset.univ hx hm) k) := by
  refine BIBase.Entails.trans (at_z c).1 (st_owns 𝒱₁ (c : Thread nD τ) bd E ?_)
  have e : (Rect.unit (s := S4x256x256) off S1x256x256.size inb).overlay (stack z) w = stack (Function.update z g w) := stack_overlay z g off ho inb w
  rw [e]
  exact BIBase.Entails.trans (at_z c).2 h

theorem st_o (g : Fin 4) (off : Fin 2 → ℕ) (ho : off = ![0, 128 * g.val]) {inb : ∀ x, off x + S256x128.size x ≤ S256x512.size x}
    {w : (Rect.unit (s := S256x512) off S256x128.size inb).shape.Idx → Elt F .bf16} {hx hm} {k : PUnit → Pg F α}
    (h : Does c bd E Φ iprop(Held c B X (Function.update o g w) a z ∗ R) (k ⟨⟩)) :
    Does c bd E Φ iprop(Held c B X o a z ∗ R)
      (.op (.store B.arg6 (Rect.unit (s := S256x512) off S256x128.size inb) w Finset.univ hx hm) k) := by
  refine BIBase.Entails.trans (at_o c).1 (st_owns 𝒱₁ (c : Thread nD τ) bd E ?_)
  have e : (Rect.unit (s := S256x512) off S256x128.size inb).overlay (beside o) w = beside (Function.update o g w) := beside_overlay o g off ho inb w
  rw [e]
  exact BIBase.Entails.trans (at_o c).2 h

/-- The store of all the accumulators at once. -/
theorem st_aW (a' : Fin 4 → Vec F S1x128x256 .f32) (off : Fin 3 → ℕ) (ho : off = fun _ => 0) {inb : ∀ x, off x + S4x128x256.size x ≤ S4x128x256.size x}
    {w : (Rect.unit (s := S4x128x256) off S4x128x256.size inb).shape.Idx → Elt F .f32} {hx hm} {k : PUnit → Pg F α}
    (hw : w = stack a') (h : Does c bd E Φ iprop(Held c B X o a' z ∗ R) (k ⟨⟩)) :
    Does c bd E Φ iprop(Held c B X o a z ∗ R)
      (.op (.store B.arg7 (Rect.unit (s := S4x128x256) off S4x128x256.size inb) w Finset.univ hx hm) k) := by
  subst hw
  refine BIBase.Entails.trans (at_a c).1 (st_owns 𝒱₁ (c : Thread nD τ) bd E ?_)
  have e : (Rect.unit (s := S4x128x256) off S4x128x256.size inb).overlay (stack a) (stack a') = stack a' :=
    whole_overlay (s := S4x128x256) (stack a) off ho inb (stack a')
  rw [e]
  exact BIBase.Entails.trans (at_a c).2 h

/-! ### The same steps tile by tile -/

theorem set_0 {α : Type} (z0 z1 z2 z3 w : α) : Function.update ![z0, z1, z2, z3] 0 w = ![w, z1, z2, z3] := by
  funext x; fin_cases x <;> rfl
theorem set_1 {α : Type} (z0 z1 z2 z3 w : α) : Function.update ![z0, z1, z2, z3] 1 w = ![z0, w, z2, z3] := by
  funext x; fin_cases x <;> rfl
theorem set_2 {α : Type} (z0 z1 z2 z3 w : α) : Function.update ![z0, z1, z2, z3] 2 w = ![z0, z1, w, z3] := by
  funext x; fin_cases x <;> rfl
theorem set_3 {α : Type} (z0 z1 z2 z3 w : α) : Function.update ![z0, z1, z2, z3] 3 w = ![z0, z1, z2, w] := by
  funext x; fin_cases x <;> rfl

theorem ld_a0 {inb : ∀ x, (![0, 0, 0] : Fin 3 → ℕ) x + S1x128x256.size x ≤ S4x128x256.size x} {hl k} (h : Does c bd E Φ iprop(St c B X o0 o1 o2 o3 a0 a1 a2 a3 z0 z1 z2 z3 ∗ R) ((k : _ → Pg F α) a0)) :
    Does c bd E Φ iprop(St c B X o0 o1 o2 o3 a0 a1 a2 a3 z0 z1 z2 z3 ∗ R) (.op (.load B.arg7 (Rect.unit (s := S4x128x256) ![0, 0, 0] S1x128x256.size inb).toLoadRect hl) k) :=
  ld_a c bd E (g := 0) _ rfl h
theorem st_a0 {inb hx hm} {k : PUnit → Pg F α} {w : Vec F S1x128x256 .f32} (h : Does c bd E Φ iprop(St c B X o0 o1 o2 o3 w a1 a2 a3 z0 z1 z2 z3 ∗ R) (k ⟨⟩)) :
    Does c bd E Φ iprop(St c B X o0 o1 o2 o3 a0 a1 a2 a3 z0 z1 z2 z3 ∗ R) (.op (.store B.arg7 (Rect.unit (s := S4x128x256) ![0, 0, 0] S1x128x256.size inb) w Finset.univ hx hm) k) :=
  st_a c bd E (g := 0) _ rfl (by rw [set_0]; exact h)
theorem ld_a1 {inb : ∀ x, (![1, 0, 0] : Fin 3 → ℕ) x + S1x128x256.size x ≤ S4x128x256.size x} {hl k} (h : Does c bd E Φ iprop(St c B X o0 o1 o2 o3 a0 a1 a2 a3 z0 z1 z2 z3 ∗ R) ((k : _ → Pg F α) a1)) :
    Does c bd E Φ iprop(St c B X o0 o1 o2 o3 a0 a1 a2 a3 z0 z1 z2 z3 ∗ R) (.op (.load B.arg7 (Rect.unit (s := S4x128x256) ![1, 0, 0] S1x128x256.size inb).toLoadRect hl) k) :=
  ld_a c bd E (g := 1) _ rfl h
theorem st_a1 {inb hx hm} {k : PUnit → Pg F α} {w : Vec F S1x128x256 .f32} (h : Does c bd E Φ iprop(St c B X o0 o1 o2 o3 a0 w a2 a3 z0 z1 z2 z3 ∗ R) (k ⟨⟩)) :
    Does c bd E Φ iprop(St c B X o0 o1 o2 o3 a0 a1 a2 a3 z0 z1 z2 z3 ∗ R) (.op (.store B.arg7 (Rect.unit (s := S4x128x256) ![1, 0, 0] S1x128x256.size inb) w Finset.univ hx hm) k) :=
  st_a c bd E (g := 1) _ rfl (by rw [set_1]; exact h)
theorem ld_a2 {inb : ∀ x, (![2, 0, 0] : Fin 3 → ℕ) x + S1x128x256.size x ≤ S4x128x256.size x} {hl k} (h : Does c bd E Φ iprop(St c B X o0 o1 o2 o3 a0 a1 a2 a3 z0 z1 z2 z3 ∗ R) ((k : _ → Pg F α) a2)) :
    Does c bd E Φ iprop(St c B X o0 o1 o2 o3 a0 a1 a2 a3 z0 z1 z2 z3 ∗ R) (.op (.load B.arg7 (Rect.unit (s := S4x128x256) ![2, 0, 0] S1x128x256.size inb).toLoadRect hl) k) :=
  ld_a c bd E (g := 2) _ rfl h
theorem st_a2 {inb hx hm} {k : PUnit → Pg F α} {w : Vec F S1x128x256 .f32} (h : Does c bd E Φ iprop(St c B X o0 o1 o2 o3 a0 a1 w a3 z0 z1 z2 z3 ∗ R) (k ⟨⟩)) :
    Does c bd E Φ iprop(St c B X o0 o1 o2 o3 a0 a1 a2 a3 z0 z1 z2 z3 ∗ R) (.op (.store B.arg7 (Rect.unit (s := S4x128x256) ![2, 0, 0] S1x128x256.size inb) w Finset.univ hx hm) k) :=
  st_a c bd E (g := 2) _ rfl (by rw [set_2]; exact h)
theorem ld_a3 {inb : ∀ x, (![3, 0, 0] : Fin 3 → ℕ) x + S1x128x256.size x ≤ S4x128x256.size x} {hl k} (h : Does c bd E Φ iprop(St c B X o0 o1 o2 o3 a0 a1 a2 a3 z0 z1 z2 z3 ∗ R) ((k : _ → Pg F α) a3)) :
    Does c bd E Φ iprop(St c B X o0 o1 o2 o3 a0 a1 a2 a3 z0 z1 z2 z3 ∗ R) (.op (.load B.arg7 (Rect.unit (s := S4x128x256) ![3, 0, 0] S1x128x256.size inb).toLoadRect hl) k) :=
  ld_a c bd E (g := 3) _ rfl h
theorem st_a3 {inb hx hm} {k : PUnit → Pg F α} {w : Vec F S1x128x256 .f32} (h : Does c bd E Φ iprop(St c B X o0 o1 o2 o3 a0 a1 a2 w z0 z1 z2 z3 ∗ R) (k ⟨⟩)) :
    Does c bd E Φ iprop(St c B X o0 o1 o2 o3 a0 a1 a2 a3 z0 z1 z2 z3 ∗ R) (.op (.store B.arg7 (Rect.unit (s := S4x128x256) ![3, 0, 0] S1x128x256.size inb) w Finset.univ hx hm) k) :=
  st_a c bd E (g := 3) _ rfl (by rw [set_3]; exact h)
theorem ld_z0 {inb : ∀ x, (![0, 0, 0] : Fin 3 → ℕ) x + S1x256x256.size x ≤ S4x256x256.size x} {hl k} (h : Does c bd E Φ iprop(St c B X o0 o1 o2 o3 a0 a1 a2 a3 z0 z1 z2 z3 ∗ R) ((k : _ → Pg F α) z0)) :
    Does c bd E Φ iprop(St c B X o0 o1 o2 o3 a0 a1 a2 a3 z0 z1 z2 z3 ∗ R) (.op (.load B.arg8 (Rect.unit (s := S4x256x256) ![0, 0, 0] S1x256x256.size inb).toLoadRect hl) k) :=
  ld_z c bd E (g := 0) _ rfl h
theorem st_z0 {inb hx hm} {k : PUnit → Pg F α} {w : Vec F S1x256x256 .f32} (h : Does c bd E Φ iprop(St c B X o0 o1 o2 o3 a0 a1 a2 a3 w z1 z2 z3 ∗ R) (k ⟨⟩)) :
    Does c bd E Φ iprop(St c B X o0 o1 o2 o3 a0 a1 a2 a3 z0 z1 z2 z3 ∗ R) (.op (.store B.arg8 (Rect.unit (s := S4x256x256) ![0, 0, 0] S1x256x256.size inb) w Finset.univ hx hm) k) :=
  st_z c bd E (g := 0) _ rfl (by rw [set_0]; exact h)
theorem ld_z1 {inb : ∀ x, (![1, 0, 0] : Fin 3 → ℕ) x + S1x256x256.size x ≤ S4x256x256.size x} {hl k} (h : Does c bd E Φ iprop(St c B X o0 o1 o2 o3 a0 a1 a2 a3 z0 z1 z2 z3 ∗ R) ((k : _ → Pg F α) z1)) :
    Does c bd E Φ iprop(St c B X o0 o1 o2 o3 a0 a1 a2 a3 z0 z1 z2 z3 ∗ R) (.op (.load B.arg8 (Rect.unit (s := S4x256x256) ![1, 0, 0] S1x256x256.size inb).toLoadRect hl) k) :=
  ld_z c bd E (g := 1) _ rfl h
theorem st_z1 {inb hx hm} {k : PUnit → Pg F α} {w : Vec F S1x256x256 .f32} (h : Does c bd E Φ iprop(St c B X o0 o1 o2 o3 a0 a1 a2 a3 z0 w z2 z3 ∗ R) (k ⟨⟩)) :
    Does c bd E Φ iprop(St c B X o0 o1 o2 o3 a0 a1 a2 a3 z0 z1 z2 z3 ∗ R) (.op (.store B.arg8 (Rect.unit (s := S4x256x256) ![1, 0, 0] S1x256x256.size inb) w Finset.univ hx hm) k) :=
  st_z c bd E (g := 1) _ rfl (by rw [set_1]; exact h)
theorem ld_z2 {inb : ∀ x, (![2, 0, 0] : Fin 3 → ℕ) x + S1x256x256.size x ≤ S4x256x256.size x} {hl k} (h : Does c bd E Φ iprop(St c B X o0 o1 o2 o3 a0 a1 a2 a3 z0 z1 z2 z3 ∗ R) ((k : _ → Pg F α) z2)) :
    Does c bd E Φ iprop(St c B X o0 o1 o2 o3 a0 a1 a2 a3 z0 z1 z2 z3 ∗ R) (.op (.load B.arg8 (Rect.unit (s := S4x256x256) ![2, 0, 0] S1x256x256.size inb).toLoadRect hl) k) :=
  ld_z c bd E (g := 2) _ rfl h
theorem st_z2 {inb hx hm} {k : PUnit → Pg F α} {w : Vec F S1x256x256 .f32} (h : Does c bd E Φ iprop(St c B X o0 o1 o2 o3 a0 a1 a2 a3 z0 z1 w z3 ∗ R) (k ⟨⟩)) :
    Does c bd E Φ iprop(St c B X o0 o1 o2 o3 a0 a1 a2 a3 z0 z1 z2 z3 ∗ R) (.op (.store B.arg8 (Rect.unit (s := S4x256x256) ![2, 0, 0] S1x256x256.size inb) w Finset.univ hx hm) k) :=
  st_z c bd E (g := 2) _ rfl (by rw [set_2]; exact h)
theorem ld_z3 {inb : ∀ x, (![3, 0, 0] : Fin 3 → ℕ) x + S1x256x256.size x ≤ S4x256x256.size x} {hl k} (h : Does c bd E Φ iprop(St c B X o0 o1 o2 o3 a0 a1 a2 a3 z0 z1 z2 z3 ∗ R) ((k : _ → Pg F α) z3)) :
    Does c bd E Φ iprop(St c B X o0 o1 o2 o3 a0 a1 a2 a3 z0 z1 z2 z3 ∗ R) (.op (.load B.arg8 (Rect.unit (s := S4x256x256) ![3, 0, 0] S1x256x256.size inb).toLoadRect hl) k) :=
  ld_z c bd E (g := 3) _ rfl h
theorem st_z3 {inb hx hm} {k : PUnit → Pg F α} {w : Vec F S1x256x256 .f32} (h : Does c bd E Φ iprop(St c B X o0 o1 o2 o3 a0 a1 a2 a3 z0 z1 z2 w ∗ R) (k ⟨⟩)) :
    Does c bd E Φ iprop(St c B X o0 o1 o2 o3 a0 a1 a2 a3 z0 z1 z2 z3 ∗ R) (.op (.store B.arg8 (Rect.unit (s := S4x256x256) ![3, 0, 0] S1x256x256.size inb) w Finset.univ hx hm) k) :=
  st_z c bd E (g := 3) _ rfl (by rw [set_3]; exact h)
theorem st_o0 {inb hx hm} {k : PUnit → Pg F α} {w : Vec F S256x128 .bf16} (h : Does c bd E Φ iprop(St c B X w o1 o2 o3 a0 a1 a2 a3 z0 z1 z2 z3 ∗ R) (k ⟨⟩)) :
    Does c bd E Φ iprop(St c B X o0 o1 o2 o3 a0 a1 a2 a3 z0 z1 z2 z3 ∗ R) (.op (.store B.arg6 (Rect.unit (s := S256x512) ![0, 0] S256x128.size inb) w Finset.univ hx hm) k) :=
  st_o c bd E (g := 0) _ rfl (by rw [set_0]; exact h)
theorem st_o1 {inb hx hm} {k : PUnit → Pg F α} {w : Vec F S256x128 .bf16} (h : Does c bd E Φ iprop(St c B X o0 w o2 o3 a0 a1 a2 a3 z0 z1 z2 z3 ∗ R) (k ⟨⟩)) :
    Does c bd E Φ iprop(St c B X o0 o1 o2 o3 a0 a1 a2 a3 z0 z1 z2 z3 ∗ R) (.op (.store B.arg6 (Rect.unit (s := S256x512) ![0, 128] S256x128.size inb) w Finset.univ hx hm) k) :=
  st_o c bd E (g := 1) _ rfl (by rw [set_1]; exact h)
theorem st_o2 {inb hx hm} {k : PUnit → Pg F α} {w : Vec F S256x128 .bf16} (h : Does c bd E Φ iprop(St c B X o0 o1 w o3 a0 a1 a2 a3 z0 z1 z2 z3 ∗ R) (k ⟨⟩)) :
    Does c bd E Φ iprop(St c B X o0 o1 o2 o3 a0 a1 a2 a3 z0 z1 z2 z3 ∗ R) (.op (.store B.arg6 (Rect.unit (s := S256x512) ![0, 256] S256x128.size inb) w Finset.univ hx hm) k) :=
  st_o c bd E (g := 2) _ rfl (by rw [set_2]; exact h)
theorem st_o3 {inb hx hm} {k : PUnit → Pg F α} {w : Vec F S256x128 .bf16} (h : Does c bd E Φ iprop(St c B X o0 o1 o2 w a0 a1 a2 a3 z0 z1 z2 z3 ∗ R) (k ⟨⟩)) :
    Does c bd E Φ iprop(St c B X o0 o1 o2 o3 a0 a1 a2 a3 z0 z1 z2 z3 ∗ R) (.op (.store B.arg6 (Rect.unit (s := S256x512) ![0, 384] S256x128.size inb) w Finset.univ hx hm) k) :=
  st_o c bd E (g := 3) _ rfl (by rw [set_3]; exact h)

end Rules

end Cert.KernelIdeal.Att
-- ==== Proof.KI.Loop.lean ====
/-
  The loop over the earlier key tiles: what one trip does, and that the loop's label meets it.

  One trip at key tile `j` takes the four carries and the four accumulators to the next ones (`step`); with `n` trips at most
  to run the loop is `loop n`, which stops at the first state its condition refuses. `loop_le` proves by induction on `n` that
  the label, entered at variant `n`, runs exactly that.
-/
module

public import proofs.«01_k».proof.Proof.KI.Steps

@[expose] public section

set_option maxRecDepth 16384

noncomputable section

namespace Cert.KernelIdeal.Att

open Cert.KernelIdeal Cert.KernelIdeal.Gen Cert.Stacked
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## One head, one tile -/

/-- The next carry: the carry plus the tile's column sums of `log (1 - β)`. -/
def cNext (kt : Vec F S1x256x128 .bf16) (qt : Vec F S1x128x256 .bf16) (c : FVec F S1x256 .f32) : FVec F S1x256 .f32 :=
  k0_pay65 c (k0_pay61 (k0_pay55 kt qt)) (k0_pay64 k0_pay7 (k0_pay55 kt qt))

/-- The next accumulator: the accumulator plus the tile's values weighed by `exp (log β + later + carry)`. -/
def aNext (kt : Vec F S1x256x128 .bf16) (qt vt : Vec F S1x128x256 .bf16) (c : FVec F S1x256 .f32) (a : Vec F S1x128x256 .f32) :
    Vec F S1x128x256 .f32 :=
  k0_pay85 c (k0_pay63 k0_pay7 (k0_pay55 kt qt)) a vt

/-- The four carries and the four accumulators. -/
abbrev Acc (F : FTy → Type) : Type := (Fin 4 → FVec F S1x256 .f32) × (Fin 4 → Vec F S1x128x256 .f32)

/-- One trip of the loop, at key tile `j`. -/
def step (X : Ins F) (j : Fin 33) (s : Acc F) : Acc F :=
  (fun g => cNext (X.kt j g) (X.qt g) (s.1 g), fun g => aNext (X.kt j g) (X.qt g) (X.vt j g) (s.1 g) (s.2 g))

/-- The loop's condition on the carries: some query still has weight to give. -/
def alive (s : Acc F) : BitVec 1 :=
  Scalar.cmpf .ogt (k0_pay5 (s.1 0) (s.1 1) (s.1 2) (s.1 3)) (Named.named κ "dead" 0xC2D00000#32)

/-- The loop with key tiles `n - 1, …, 0` still to visit. -/
def loop (X : Ins F) : (n : ℕ) → n ≤ 33 → Acc F → Acc F
  | 0, _, s => s
  | n + 1, h, s => if alive s = 1#1 then loop X n (by omega) (step X ⟨n, h⟩ s) else s

/-! ## The loop's counter -/

/-- The counter with `n` trips to run: `n - 1`. -/
def ctr (n : ℕ) : BitVec 32 := Scalar.subi (BitVec.ofNat 32 n) 1#32

theorem ctr_succ : ∀ n < 34, ctr (n + 1) = BitVec.ofNat 32 n := by decide +kernel
theorem ctr_pred (n : ℕ) (h : n < 34) : Scalar.subi (ctr (n + 1)) 1#32 = ctr n := by rw [ctr_succ n h]; rfl
theorem ctr_sge : ∀ n < 34, Scalar.cmpi .sge (ctr (n + 1)) 0#32 = 1#1 := by decide +kernel
theorem ctr_zero : Scalar.cmpi .sge (ctr 0) 0#32 = 0#1 := by decide +kernel
theorem ctr_nat : ∀ n < 33, (Scalar.indexCast (ctr (n + 1))).toNat = n := by decide +kernel

theorem off9 (n : ℕ) (h : n < 33) : k0_off9 (ctr (n + 1)) = ![n, 0, 128 * (0 : Fin 4).val] := by unfold k0_off9; dsimp only; rw [ctr_nat n h]; rfl
theorem off10 (n : ℕ) (h : n < 33) : k0_off10 (ctr (n + 1)) = ![n, 0, 128 * (1 : Fin 4).val] := by unfold k0_off10; dsimp only; rw [ctr_nat n h]; rfl
theorem off11 (n : ℕ) (h : n < 33) : k0_off11 (ctr (n + 1)) = ![n, 0, 128 * (2 : Fin 4).val] := by unfold k0_off11; dsimp only; rw [ctr_nat n h]; rfl
theorem off12 (n : ℕ) (h : n < 33) : k0_off12 (ctr (n + 1)) = ![n, 0, 128 * (3 : Fin 4).val] := by unfold k0_off12; dsimp only; rw [ctr_nat n h]; rfl
theorem off13 (n : ℕ) (h : n < 33) : k0_off13 (ctr (n + 1)) = ![n, 128 * (0 : Fin 4).val, 0] := by unfold k0_off13; dsimp only; rw [ctr_nat n h]; rfl
theorem off14 (n : ℕ) (h : n < 33) : k0_off14 (ctr (n + 1)) = ![n, 128 * (1 : Fin 4).val, 0] := by unfold k0_off14; dsimp only; rw [ctr_nat n h]; rfl
theorem off15 (n : ℕ) (h : n < 33) : k0_off15 (ctr (n + 1)) = ![n, 128 * (2 : Fin 4).val, 0] := by unfold k0_off15; dsimp only; rw [ctr_nat n h]; rfl
theorem off16 (n : ℕ) (h : n < 33) : k0_off16 (ctr (n + 1)) = ![n, 128 * (3 : Fin 4).val, 0] := by unfold k0_off16; dsimp only; rw [ctr_nat n h]; rfl

theorem inbK (n : ℕ) (h : n < 33) (g : Fin 4) : ∀ a, (![n, 0, 128 * g.val] : Fin 3 → ℕ) a + S1x256x128.size a ≤ S33x256x512.size a := by
  intro a
  have := g.isLt
  match a with
  | ⟨0, _⟩ => show n + 1 ≤ 33; omega
  | ⟨1, _⟩ => show 0 + 256 ≤ 256; omega
  | ⟨2, _⟩ => show 128 * g.val + 128 ≤ 512; omega

theorem inbV (n : ℕ) (h : n < 33) (g : Fin 4) : ∀ a, (![n, 128 * g.val, 0] : Fin 3 → ℕ) a + S1x128x256.size a ≤ S33x512x256.size a := by
  intro a
  have := g.isLt
  match a with
  | ⟨0, _⟩ => show n + 1 ≤ 33; omega
  | ⟨1, _⟩ => show 128 * g.val + 128 ≤ 512; omega
  | ⟨2, _⟩ => show 0 + 256 ≤ 256; omega

/-- The tile the counter names lies inside the blocks. -/
theorem chk (n : ℕ) (h : n < 33) : k0_chk1 (ctr (n + 1)) := by
  refine ⟨?_, ?_, ?_, ?_, ?_, ?_, ?_, ?_⟩
  · rw [off9 n h]; exact inbK n h 0
  · rw [off10 n h]; exact inbK n h 1
  · rw [off11 n h]; exact inbK n h 2
  · rw [off12 n h]; exact inbK n h 3
  · rw [off13 n h]; exact inbV n h 0
  · rw [off14 n h]; exact inbV n h 1
  · rw [off15 n h]; exact inbV n h 2
  · rw [off16 n h]; exact inbV n h 3

theorem andi_one : ∀ x : BitVec 1, Scalar.andi 1#1 x = x := by decide
theorem andi_zero : ∀ x : BitVec 1, Scalar.andi 0#1 x = 0#1 := by decide

/-! ## The label -/

section Label

variable (c : Dev nD) (i : grid0.Coords) (B : Refs) (X : Ins F)
  (h3 : B.arg3.IsWhole) (h4 : B.arg4.IsWhole) (h5 : B.arg5.IsWhole) (h7 : B.arg7.IsWhole) (h8 : B.arg8.IsWhole)

/-- The result type of the loop's label. -/
abbrev Res (F : FTy → Type) : Type := BitVec 32 × FVec F S1x256 .f32 × FVec F S1x256 .f32 × FVec F S1x256 .f32 × FVec F S1x256 .f32

/-- The state with the accumulators of `s`, the scores whatever they are. -/
def StA (o0 o1 o2 o3 : Vec F S256x128 .bf16) (s : Acc F) : sProp 𝕄 :=
  iprop(∃ z0 z1 z2 z3, St c B X o0 o1 o2 o3 (s.2 0) (s.2 1) (s.2 2) (s.2 3) z0 z1 z2 z3)

/-- The label's specification with `n` trips to run from `s`: some result, the accumulators after the loop. -/
def spec (o0 o1 o2 o3 : Vec F S256x128 .bf16) (n : ℕ) (hn : n ≤ 33) (s : Acc F) : sWPT 𝕄 (Res F) := do
  sWPT.consume (StA c B X o0 o1 o2 o3 s)
  let r ← sWPT.arbitrary
  sWPT.produce (StA c B X o0 o1 o2 o3 (loop X n hn s))
  pure r

theorem spec_apply (o0 o1 o2 o3 : Vec F S256x128 .bf16) (n : ℕ) (hn : n ≤ 33) (s : Acc F) (K : Res F → sProp 𝕄) :
    spec c B X o0 o1 o2 o3 n hn s K
      = iprop(StA c B X o0 o1 o2 o3 s ∗ ∀ r : Res F, (StA c B X o0 o1 o2 o3 (loop X n hn s) -∗ K r)) := rfl

theorem StA_elim {bd : Option 𝒱₁.V} {E : Set ℕ} {α : Type} {Φ : α → sProp 𝕄} {R : sProp 𝕄} {p : Pg F α}
    {o0 o1 o2 o3 : Vec F S256x128 .bf16} {s : Acc F}
    (h : ∀ z0 z1 z2 z3, Does c bd E Φ iprop(St c B X o0 o1 o2 o3 (s.2 0) (s.2 1) (s.2 2) (s.2 3) z0 z1 z2 z3 ∗ R) p) :
    Does c bd E Φ iprop(StA c B X o0 o1 o2 o3 s ∗ R) p := by
  unfold StA
  iintro ⟨⟨%z0, %z1, %z2, %z3, H⟩, HR⟩
  iapply (h z0 z1 z2 z3)
  isplitl [H]; · iexact H
  iexact HR

theorem loop_le (E : Set ℕ) (o0 o1 o2 o3 : Vec F S256x128 .bf16) : ∀ n (hn : n ≤ 33) (s : Acc F) (v0 v1 : IVec S256x256 32) (K : Res F → sProp 𝕄),
    spec c B X o0 o1 o2 o3 n hn s K ⊢ wp frame (wpE (defs₀ (F := F)) 𝒱₁ (c : Thread nD τ) (some n)) E
      (defs₀ (F := F) .tc 1 ⟨i, v0, v1, B.arg4, h4, B.arg3, h3, B.arg8, h8, k0_pay7, B.arg7, h7, B.arg5, h5, ctr n,
        s.1 0, s.1 1, s.1 2, s.1 3⟩) K := by
  intro n
  induction n with
  | zero =>
    intro hn s v0 v1 K
    rw [spec_apply]
    show _ ⊢ wp frame (wpE (defs₀ (F := F)) 𝒱₁ (c : Thread nD τ) (some 0)) E
      (cc0_while1 i v0 v1 B.arg4 h4 B.arg3 h3 B.arg8 h8 k0_pay7 B.arg7 h7 B.arg5 h5 (ctr 0) (s.1 0) (s.1 1) (s.1 2) (s.1 3)) K
    rw [cc0_while1_eq_skeleton]; unfold cc0_while1_skel
    simp only [ctr_zero, andi_zero, Prog.pure_eq_ret]
    rw [if_neg (by decide), wp_ret]
    iintro ⟨H, Hk⟩
    imodintro
    iapply Hk
    simp only [loop]; iexact H
  | succ n ih =>
    intro hn s v0 v1 K
    rw [spec_apply]
    show _ ⊢ wp frame (wpE (defs₀ (F := F)) 𝒱₁ (c : Thread nD τ) (some (n + 1))) E
      (cc0_while1 i v0 v1 B.arg4 h4 B.arg3 h3 B.arg8 h8 k0_pay7 B.arg7 h7 B.arg5 h5 (ctr (n + 1)) (s.1 0) (s.1 1) (s.1 2) (s.1 3)) K
    rw [cc0_while1_eq_skeleton]; unfold cc0_while1_skel
    simp only [ctr_sge n (by omega), andi_one]
    rw [show Scalar.cmpf .ogt (k0_pay5 (s.1 0) (s.1 1) (s.1 2) (s.1 3)) (Named.named κ "dead" 0xC2D00000#32) = alive s from rfl]
    by_cases hal : alive s = 1#1
    · rw [if_pos hal]
      have hl : loop X (n + 1) hn s = loop X n (by omega) (step X ⟨n, hn⟩ s) := by rw [loop, if_pos hal]
      rw [hl]
      simp only [k0_part8_eq_skeleton, k0_part9_eq_skeleton, k0_part10_eq_skeleton, k0_part11_eq_skeleton, k0_part12_eq_skeleton,
        k0_part13_eq_skeleton]
      unfold k0_part8_skel k0_part9_skel k0_part10_skel k0_part11_skel k0_part12_skel k0_part13_skel
      simp only [Prog.lift, Prog.bind_op, Prog.bind_ret, Prog.pure_eq_ret, ctr_pred n (by omega)]
      have k0 := off9 n hn; have k1 := off10 n hn; have k2 := off11 n hn; have k3 := off12 n hn
      have v0' := off13 n hn; have v1' := off14 n hn; have v2' := off15 n hn; have v3' := off16 n hn
      refine BIBase.Entails.trans ?_ (wp_assume 𝒱₁ (c : Thread nD τ) (some (n + 1)) E (chk n hn))
      refine StA_elim c B X (fun z0 z1 z2 z3 => ?_)
      -- the four score tiles
      refine ld_k c (some (n + 1)) E ⟨n, hn⟩ 0 k0 ?_
      refine ld_q c (some (n + 1)) E 0 rfl ?_
      refine ld_z0 c (some (n + 1)) E ?_
      refine st_z0 c (some (n + 1)) E ?_
      refine ld_k c (some (n + 1)) E ⟨n, hn⟩ 1 k1 ?_
      refine ld_q c (some (n + 1)) E 1 rfl ?_
      refine ld_z1 c (some (n + 1)) E ?_
      refine st_z1 c (some (n + 1)) E ?_
      refine ld_k c (some (n + 1)) E ⟨n, hn⟩ 2 k2 ?_
      refine ld_q c (some (n + 1)) E 2 rfl ?_
      refine ld_z2 c (some (n + 1)) E ?_
      refine st_z2 c (some (n + 1)) E ?_
      refine ld_k c (some (n + 1)) E ⟨n, hn⟩ 3 k3 ?_
      refine ld_q c (some (n + 1)) E 3 rfl ?_
      refine ld_z3 c (some (n + 1)) E ?_
      refine st_z3 c (some (n + 1)) E ?_
      -- the weights' logarithms, head by head
      refine ld_z0 c (some (n + 1)) E <| ld_z0 c (some (n + 1)) E <| st_z0 c (some (n + 1)) E ?_
      refine ld_z1 c (some (n + 1)) E <| ld_z1 c (some (n + 1)) E <| st_z1 c (some (n + 1)) E ?_
      refine ld_z2 c (some (n + 1)) E <| ld_z2 c (some (n + 1)) E <| st_z2 c (some (n + 1)) E ?_
      refine ld_z3 c (some (n + 1)) E <| ld_z3 c (some (n + 1)) E <| st_z3 c (some (n + 1)) E ?_
      -- the accumulators
      refine ld_z0 c (some (n + 1)) E <| ld_a0 c (some (n + 1)) E <| ld_v c (some (n + 1)) E ⟨n, hn⟩ 0 v0' ?_
      refine ld_a0 c (some (n + 1)) E <| st_a0 c (some (n + 1)) E ?_
      refine ld_z1 c (some (n + 1)) E <| ld_a1 c (some (n + 1)) E <| ld_v c (some (n + 1)) E ⟨n, hn⟩ 1 v1' ?_
      refine ld_a1 c (some (n + 1)) E <| st_a1 c (some (n + 1)) E ?_
      refine ld_z2 c (some (n + 1)) E <| ld_a2 c (some (n + 1)) E <| ld_v c (some (n + 1)) E ⟨n, hn⟩ 2 v2' ?_
      refine ld_a2 c (some (n + 1)) E <| st_a2 c (some (n + 1)) E ?_
      refine ld_z3 c (some (n + 1)) E <| ld_a3 c (some (n + 1)) E <| ld_v c (some (n + 1)) E ⟨n, hn⟩ 3 v3' ?_
      refine ld_a3 c (some (n + 1)) E <| st_a3 c (some (n + 1)) E ?_
      refine BIBase.Entails.trans ?_ (wp_call_spec 𝒱₁ (c : Thread nD τ) (some (n + 1)) E
        (spec c B X o0 o1 o2 o3 n (by omega) (step X ⟨n, hn⟩ s)) n (fun u hu => by cases hu; exact Nat.lt_succ_self n)
        (ih (by omega) (step X ⟨n, hn⟩ s) v0 v1))
      rw [spec_apply]
      iintro ⟨H, HK⟩
      isplitl [H]
      · unfold StA
        iexists _, _, _, _
        iexact H
      · iintro %r H
        rw [wp_ret]; imodintro
        iapply HK
        iexact H
    · rw [if_neg hal]
      have hl : loop X (n + 1) hn s = s := by rw [loop, if_neg hal]
      rw [hl, Prog.pure_eq_ret, wp_ret]
      iintro ⟨H, Hk⟩
      imodintro
      iapply Hk
      iexact H

end Label

end Cert.KernelIdeal.Att
-- ==== Proof.KI.Body.lean ====
/-
  The whole body of one grid point: the tile on the diagonal, the loop over the earlier tiles, and the four stores of the result.

  At query tile `j` the body first takes the key tile `j` under the strictly causal mask (`first`), then runs the loop with `j`
  trips (`loop`), then stores the accumulators, transposed, side by side (`outs`).
-/
module

public import proofs.«01_k».proof.Proof.KI.Loop

@[expose] public section

set_option maxRecDepth 16384

noncomputable section

namespace Cert.KernelIdeal.Att

open Cert.KernelIdeal Cert.KernelIdeal.Gen Cert.Stacked
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The tile on the diagonal -/

/-- The scores of one head. -/
def sD (kt : Vec F S1x256x128 .bf16) (qt : Vec F S1x128x256 .bf16) : Vec F S1x256x256 .f32 := k0_pay14 kt qt

/-- Under the causal mask, from the scores: `log β` plus what the later keys of the tile leave. -/
def zD (z : Vec F S1x256x256 .f32) : Vec F S1x256x256 .f32 :=
  k0_pay25 k0_pay7 k0_pay13 (k0_pay20 z) (k0_pay21 z) (Scalar.ofBits .f32 0x3F800000#32)

/-- Under the causal mask, from the scores: the tile's column sums of `log (1 - β)`. -/
def cD (z : Vec F S1x256x256 .f32) : FVec F S1x256 .f32 :=
  k0_pay26 k0_pay7 k0_pay9 k0_pay13 (k0_pay20 z) (k0_pay21 z) (Scalar.ofBits .f32 0x3F800000#32)

/-- An accumulator of zeros. -/
def zA : Vec F S1x128x256 .f32 := fun _ => Scalar.ofBits .f32 0x00000000#32

theorem zeros_eq : k0_pay8 (F := F) = stack ![zA, zA, zA, zA] := by
  rw [show (![zA, zA, zA, zA] : Fin 4 → Vec F S1x128x256 .f32) = fun _ => zA from by funext g; fin_cases g <;> rfl]
  funext y
  unfold k0_pay8
  simp only [shapeCast, broadcast]
  rfl

/-- Under the causal mask: the accumulator after the tile. -/
def aD (z : Vec F S1x256x256 .f32) (a : Vec F S1x128x256 .f32) (vt : Vec F S1x128x256 .bf16) : Vec F S1x128x256 .f32 :=
  k0_pay49 k0_pay13 (k0_pay47 k0_pay9 z) k0_pay48 a vt

/-! ### The same of every head -/

theorem sD_1 (kt : Vec F S1x256x128 .bf16) (qt : Vec F S1x128x256 .bf16) :
    k0_pay17 (k0_pay15 kt) (k0_pay16 qt) (constant S256x256 .f32 0x00000000#32) = sD kt qt := rfl
theorem sD_2 (kt : Vec F S1x256x128 .bf16) (qt : Vec F S1x128x256 .bf16) : k0_pay18 kt qt = sD kt qt := rfl
theorem sD_3 (kt : Vec F S1x256x128 .bf16) (qt : Vec F S1x128x256 .bf16) : k0_pay19 kt qt = sD kt qt := rfl
theorem zD_0 (z : Vec F S1x256x256 .f32) :
    k0_pay25 k0_pay7 k0_pay13 (k0_pay20 z) (k0_pay21 z) (Scalar.ofBits .f32 0x3F800000#32) = zD z := rfl
theorem zD_1 (z : Vec F S1x256x256 .f32) :
    k0_pay33 k0_pay7 (k0_pay28 z) (k0_pay30 k0_pay13 z) (k0_pay31 k0_pay13 z) = zD z := rfl
theorem zD_2 (z : Vec F S1x256x256 .f32) : k0_pay39 k0_pay7 k0_pay13 z = zD z := rfl
theorem zD_3 (z : Vec F S1x256x256 .f32) : k0_pay45 k0_pay7 k0_pay13 z = zD z := rfl
theorem cD_0 (z : Vec F S1x256x256 .f32) :
    k0_pay26 k0_pay7 k0_pay9 k0_pay13 (k0_pay20 z) (k0_pay21 z) (Scalar.ofBits .f32 0x3F800000#32) = cD z := rfl
theorem cD_1 (z : Vec F S1x256x256 .f32) :
    k0_pay34 k0_pay7 k0_pay10 (k0_pay29 k0_pay13 z) (k0_pay30 k0_pay13 z) (k0_pay31 k0_pay13 z) = cD z := rfl
theorem cD_2 (z : Vec F S1x256x256 .f32) : k0_pay40 k0_pay11 (k0_pay37 k0_pay13 z) (k0_pay38 k0_pay7 k0_pay13 z) = cD z := rfl
theorem cD_3 (z : Vec F S1x256x256 .f32) : k0_pay46 k0_pay7 k0_pay12 k0_pay13 z = cD z := rfl
theorem aD_0 (z : Vec F S1x256x256 .f32) (a : Vec F S1x128x256 .f32) (vt : Vec F S1x128x256 .bf16) :
    k0_pay49 k0_pay13 (k0_pay47 k0_pay9 z) k0_pay48 a vt = aD z a vt := rfl
theorem aD_1 (z : Vec F S1x256x256 .f32) (a : Vec F S1x128x256 .f32) (vt : Vec F S1x128x256 .bf16) :
    k0_pay50 k0_pay10 k0_pay13 z a vt = aD z a vt := rfl
theorem aD_2 (z : Vec F S1x256x256 .f32) (a : Vec F S1x128x256 .f32) (vt : Vec F S1x128x256 .bf16) :
    k0_pay53 k0_pay13 (k0_pay51 z) (k0_pay52 k0_pay11) a vt = aD z a vt := rfl
theorem aD_3 (z : Vec F S1x256x256 .f32) (a : Vec F S1x128x256 .f32) (vt : Vec F S1x128x256 .bf16) :
    k0_pay54 k0_pay12 k0_pay13 z a vt = aD z a vt := rfl
theorem out_1 (a : Vec F S1x128x256 .f32) : k0_pay2 a = k0_pay1 a := rfl
theorem out_2 (a : Vec F S1x128x256 .f32) : k0_pay3 a = k0_pay1 a := rfl
theorem out_3 (a : Vec F S1x128x256 .f32) : k0_pay4 a = k0_pay1 a := rfl

/-- Carries and accumulators after the tile on the diagonal. -/
def first (X : Ins F) (j : Fin 33) : Acc F :=
  (fun g => cD (sD (X.kt j g) (X.qt g)), fun g => aD (zD (sD (X.kt j g) (X.qt g))) zA (X.vt j g))

/-- The accumulators at the end. -/
def last (X : Ins F) (j : Fin 33) : Acc F := loop X j.val j.isLt.le (first X j)

/-- The result's four column tiles. -/
def outs (X : Ins F) (j : Fin 33) (g : Fin 4) : Vec F S256x128 .bf16 := k0_pay1 ((last X j).2 g)

/-! ## Where the body reads -/

theorem tile_nat : ∀ n < 33, (Scalar.indexCast (BitVec.ofNat 32 n)).toNat = n := by decide +kernel
theorem off1 (i : grid0.Coords) : k0_off1 i = ![(i 2).val, 0, 128 * (0 : Fin 4).val] := by
  unfold k0_off1; dsimp only; rw [tile_nat _ (i 2).isLt]; rfl
theorem off2 (i : grid0.Coords) : k0_off2 i = ![(i 2).val, 0, 128 * (1 : Fin 4).val] := by
  unfold k0_off2; dsimp only; rw [tile_nat _ (i 2).isLt]; rfl
theorem off3 (i : grid0.Coords) : k0_off3 i = ![(i 2).val, 0, 128 * (2 : Fin 4).val] := by
  unfold k0_off3; dsimp only; rw [tile_nat _ (i 2).isLt]; rfl
theorem off4 (i : grid0.Coords) : k0_off4 i = ![(i 2).val, 0, 128 * (3 : Fin 4).val] := by
  unfold k0_off4; dsimp only; rw [tile_nat _ (i 2).isLt]; rfl
theorem off5 (i : grid0.Coords) : k0_off5 i = ![(i 2).val, 128 * (0 : Fin 4).val, 0] := by
  unfold k0_off5; dsimp only; rw [tile_nat _ (i 2).isLt]; rfl
theorem off6 (i : grid0.Coords) : k0_off6 i = ![(i 2).val, 128 * (1 : Fin 4).val, 0] := by
  unfold k0_off6; dsimp only; rw [tile_nat _ (i 2).isLt]; rfl
theorem off7 (i : grid0.Coords) : k0_off7 i = ![(i 2).val, 128 * (2 : Fin 4).val, 0] := by
  unfold k0_off7; dsimp only; rw [tile_nat _ (i 2).isLt]; rfl
theorem off8 (i : grid0.Coords) : k0_off8 i = ![(i 2).val, 128 * (3 : Fin 4).val, 0] := by
  unfold k0_off8; dsimp only; rw [tile_nat _ (i 2).isLt]; rfl

section Body

variable (c : Dev nD) (i : grid0.Coords) (B : Refs) (X : Ins F)
  (h3 : B.arg3.IsWhole) (h4 : B.arg4.IsWhole) (h5 : B.arg5.IsWhole) (h6 : B.arg6.IsWhole) (h7 : B.arg7.IsWhole) (h8 : B.arg8.IsWhole)

/-- The query tile of a grid point. -/
abbrev tileOf (i : grid0.Coords) : Fin 33 := (i 2 : Fin 33)

/-- A call of the loop's label, and what follows it. -/
theorem call_then (E : Set ℕ) {α : Type} {Φ : α → sProp 𝕄} {R : sProp 𝕄} {o0 o1 o2 o3 : Vec F S256x128 .bf16}
    {z0 z1 z2 z3 : Vec F S1x256x256 .f32} {n : ℕ} (hn : n ≤ 33) (s : Acc F) {v0 v1 : IVec S256x256 32} {k : Res F → Pg F α}
    (h : ∀ r, Does c none E Φ iprop(StA c B X o0 o1 o2 o3 (loop X n hn s) ∗ R) (k r)) :
    Does c none E Φ iprop(St c B X o0 o1 o2 o3 (s.2 0) (s.2 1) (s.2 2) (s.2 3) z0 z1 z2 z3 ∗ R)
      (.op (.call (1 : (Λ₀ F).Label) ⟨i, v0, v1, B.arg4, h4, B.arg3, h3, B.arg8, h8, k0_pay7, B.arg7, h7, B.arg5, h5, ctr n,
        s.1 0, s.1 1, s.1 2, s.1 3⟩) k) := by
  refine BIBase.Entails.trans ?_ (wp_call_spec 𝒱₁ (c : Thread nD τ) none E (spec c B X o0 o1 o2 o3 n hn s) n (fun u hu => nomatch hu)
    (loop_le c i B X h3 h4 h5 h7 h8 E o0 o1 o2 o3 n hn s v0 v1))
  rw [spec_apply]
  iintro ⟨H, HR⟩
  isplitl [H]
  · unfold StA
    iexists _, _, _, _
    iexact H
  · iintro %r H
    iapply (h r)
    isplitl [H]; · iexact H
    iexact HR

set_option maxHeartbeats 1600000 in
/-- The body: from any contents of the output block and the scratch, to the result's tiles side by side. -/
theorem body_le (E : Set ℕ) {Φ : PUnit → sProp 𝕄} {R : sProp 𝕄} {o0 o1 o2 o3 : Vec F S256x128 .bf16}
    {a0 a1 a2 a3 : Vec F S1x128x256 .f32} {z0 z1 z2 z3 : Vec F S1x256x256 .f32}
    (h : ∀ a z, iprop(Held c B X (outs X (tileOf i)) a z ∗ R) ⊢ Φ ⟨⟩) :
    Does c none E Φ iprop(St c B X o0 o1 o2 o3 a0 a1 a2 a3 z0 z1 z2 z3 ∗ R)
      (cc0_sb_attn i B.arg3 h3 B.arg4 h4 B.arg5 h5 B.arg6 h6 B.arg7 h7 B.arg8 h8) := by
  rw [cc0_sb_attn_eq_skeleton]; unfold cc0_sb_attn_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  have hz : (![0, 0, 0] : Fin 3 → ℕ) = fun _ => 0 := by funext a; fin_cases a <;> rfl
  -- the accumulators start at zero
  refine ld_aW c none E (fun _ => ?_)
  refine st_aW c none E ![zA, zA, zA, zA] _ hz zeros_eq ?_
  show Does c none E Φ iprop(St c B X o0 o1 o2 o3 zA zA zA zA z0 z1 z2 z3 ∗ R) _
  -- the scores
  refine ld_k c none E (tileOf i) 0 (off1 i) <| ld_q c none E 0 rfl <| ld_z0 c none E <| st_z0 c none E ?_
  rw [show k0_pay14 (X.kt (tileOf i) 0) (X.qt 0) = sD (X.kt (tileOf i) 0) (X.qt 0) from rfl]
  refine ld_k c none E (tileOf i) 1 (off2 i) <| ld_q c none E 1 rfl <| ld_z1 c none E <| st_z1 c none E ?_
  rw [sD_1]
  refine ld_k c none E (tileOf i) 2 (off3 i) <| ld_q c none E 2 rfl <| ld_z2 c none E <| st_z2 c none E ?_
  rw [sD_2]
  refine ld_k c none E (tileOf i) 3 (off4 i) <| ld_q c none E 3 rfl <| ld_z3 c none E <| st_z3 c none E ?_
  rw [sD_3]
  -- the weights' logarithms
  refine ld_z0 c none E <| ld_z0 c none E <| st_z0 c none E ?_
  rw [zD_0, cD_0]
  refine ld_z1 c none E <| ld_z1 c none E <| st_z1 c none E ?_
  rw [zD_1, cD_1]
  refine ld_z2 c none E <| ld_z2 c none E <| st_z2 c none E ?_
  rw [zD_2, cD_2]
  refine ld_z3 c none E <| ld_z3 c none E <| st_z3 c none E ?_
  rw [zD_3, cD_3]
  -- the accumulators
  refine ld_z0 c none E <| ld_a0 c none E <| ld_v c none E (tileOf i) 0 (off5 i) <| ld_a0 c none E <| st_a0 c none E ?_
  rw [aD_0]
  refine ld_z1 c none E <| ld_a1 c none E <| ld_v c none E (tileOf i) 1 (off6 i) <| ld_a1 c none E <| st_a1 c none E ?_
  rw [aD_1]
  refine ld_z2 c none E <| ld_a2 c none E <| ld_v c none E (tileOf i) 2 (off7 i) <| ld_a2 c none E <| st_a2 c none E ?_
  rw [aD_2]
  refine ld_z3 c none E <| ld_a3 c none E <| ld_v c none E (tileOf i) 3 (off8 i) <| ld_a3 c none E <| st_a3 c none E ?_
  rw [aD_3]
  -- the loop
  refine call_then c i B X h3 h4 h5 h7 h8 E (tileOf i).isLt.le (first X (tileOf i)) (fun r => ?_)
  refine StA_elim c B X (fun y0 y1 y2 y3 => ?_)
  simp only [Prog.bind_op, Prog.bind_ret]
  -- the results
  refine ld_a0 c none E <| ld_o c none E (fun _ => st_o0 c none E ?_)
  refine ld_a1 c none E <| ld_o c none E (fun _ => st_o1 c none E ?_)
  rw [out_1]
  refine ld_a2 c none E <| ld_o c none E (fun _ => st_o2 c none E ?_)
  rw [out_2]
  refine ld_a3 c none E <| ld_o c none E (fun _ => st_o3 c none E ?_)
  rw [out_3]
  unfold Does
  rw [wp_ret]
  have ho : (![k0_pay1 ((last X (tileOf i)).2 0), k0_pay1 ((last X (tileOf i)).2 1), k0_pay1 ((last X (tileOf i)).2 2), k0_pay1 ((last X (tileOf i)).2 3)] : Fin 4 → Vec F S256x128 .bf16)
      = outs X (tileOf i) := by funext g; fin_cases g <;> rfl
  have hs : ∀ a z, Held c B X (outs X (tileOf i)) a z = Held c B X ![k0_pay1 ((last X (tileOf i)).2 0), k0_pay1 ((last X (tileOf i)).2 1), k0_pay1 ((last X (tileOf i)).2 2), k0_pay1 ((last X (tileOf i)).2 3)] a z := fun a z => by rw [ho]
  refine BIBase.Entails.trans ?_ fupd_intro
  refine BIBase.Entails.trans ?_ (h ![(last X (tileOf i)).2 0, (last X (tileOf i)).2 1, (last X (tileOf i)).2 2, (last X (tileOf i)).2 3] ![y0, y1, y2, y3])
  rw [hs]
  exact BIBase.Entails.rfl

end Body

end Cert.KernelIdeal.Att
-- ==== Proof.KI.Run.lean ====
/-
  The run of the program: the body at every grid point, the launch, and what the memory holds at the end.

  `dats` are the proof data of the launch: the three input windows stay what they are, and the output window's block at a grid
  point is `blk`, computed from the three input blocks there. `run_main` is the run; `run_args` and `run_res` read it at the
  program's arguments and at its result.
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameSuffix
public import Idealize.ShloMosaic.Lib.Claim

@[expose] public section

set_option maxRecDepth 16384

noncomputable section

namespace Cert.KernelIdeal.Att

open Cert.KernelIdeal Cert.KernelIdeal.Gen Cert.Stacked
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer's contents when the kernel starts. -/
abbrev V (c : Dev nD) (b : Ref sig .tc) : Buf (Elt F) ((c : Thread nD τ).loc b) :=
  StableHlo.after hostOps0 (fun b => m (c, b)) b

/-- A window's block at a grid point, of the array's contents when the kernel starts. -/
def iblk (c : Dev nD) (w : Fin (cfg0 (F := F)).W) (t : Fin (cfg0 (F := F)).N) :=
  (((cfg0 (F := F)).win w).blk t).view.read (Elt F) (V m c (Pipeline.arrRef spec0 w))

/-- The three input blocks of a grid point. -/
def ins (c : Dev nD) (t : Fin (cfg0 (F := F)).N) : Ins F := ⟨iblk m c 0 t, iblk m c 1 t, iblk m c 2 t⟩

/-- The output block of a grid point. -/
def blk (c : Dev nD) (t : Fin (cfg0 (F := F)).N) : Vec F S256x512 .bf16 :=
  beside (outs (ins m c t) (tileOf (grid0.coords t)))

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => blk m c t
  Φ _ := Pipeline.ΦA spec0 c
  q _ := fullShare
  owed _ := 0

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = blk m c t := rfl

/-- An input window whose block the body leaves alone holds the array's block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; rfl) t d).trans rfl

/-- The body's references at a grid point. -/
def refs (t : Fin (cfg0 (F := F)).N) : Refs where
  arg3 := st0_0 (F := F) t
  arg4 := st0_1 (F := F) t
  arg5 := st0_2 (F := F) t
  arg6 := st0_3 (F := F) t
  arg7 := Memref.whole cc0_scratch0
  arg8 := Memref.whole cc0_scratch1

/-- The body at a grid point: from the input blocks to the output block, the scratch and everything else as before. -/
theorem sound_body (c : Dev nD) (t : Fin (cfg0 (F := F)).N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) 𝒱₁ (c : Thread nD τ) none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t))) := by
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3,
    show (dats m 0 c).Φ t.castSucc = Pipeline.ΦA spec0 c from rfl]
  unfold Pipeline.ΦA
  rw [scopedRest0_eq]
  iintro ⟨⟨⟨⟨%f7, H7⟩, ⟨%f8, H8⟩⟩, Hr⟩, Ho, ⟨%d0, H0⟩, ⟨%d1, H1⟩, ⟨%d2, H2⟩, ⟨%d3, H3⟩⟩
  obtain ⟨a, ha⟩ := exists_stack (p := 128) (q := 256) (f7 : Vec F S4x128x256 .f32)
  obtain ⟨z, hz⟩ := exists_stack (p := 256) (q := 256) (f8 : Vec F S4x256x256 .f32)
  obtain ⟨o, hoo⟩ := exists_beside (p := 256) ((dats m 0 c).before 3 t d3 : Vec F S256x512 .bf16)
  have lst : ∀ {β : Type} (f : Fin 4 → β), ![f 0, f 1, f 2, f 3] = f := fun f => by funext g; fin_cases g <;> rfl
  have ea : stack ![a 0, a 1, a 2, a 3] = f7 := (congrArg stack (lst a)).trans ha.symm
  have ez : stack ![z 0, z 1, z 2, z 3] = f8 := (congrArg stack (lst z)).trans hz.symm
  have eo : beside ![o 0, o 1, o 2, o 3] = (dats m 0 c).before 3 t d3 := (congrArg beside (lst o)).trans hoo.symm
  iapply (body_le (Φ := fun _ => _) c (grid0.coords t) (refs (F := F) t) (ins m c t)
    (hstage0_0 (((cfg0 (F := F)).slots t 0).cast nbuf0_0)) (hstage0_1 (((cfg0 (F := F)).slots t 1).cast nbuf0_1))
    (hstage0_2 (((cfg0 (F := F)).slots t 2).cast nbuf0_2)) (hstage0_3 (((cfg0 (F := F)).slots t 3).cast nbuf0_3))
    (Memref.isWhole_whole _) (Memref.isWhole_whole _) Set.univ
    (o0 := o 0) (o1 := o 1) (o2 := o 2) (o3 := o 3) (a0 := a 0) (a1 := a 1) (a2 := a 2) (a3 := a 3)
    (z0 := z 0) (z1 := z 1) (z2 := z 2) (z3 := z 3)
    (R := iprop((∃ r, prngReg c r) ∗ (dats m 0 c).owesAt () t.castSucc)) (fun a' z' => ?_))
  · unfold Held
    iintro ⟨⟨H0, H1, H2, H3, H7, H8⟩, Hr, Ho⟩
    isplitl [H7 H8 Hr]
    · isplitl [H7 H8]
      · isplitl [H7]
        · iexists (stack a'); rw [← owns_whole]; iexact H7
        · iexists (stack z'); rw [← owns_whole]; iexact H8
      · iexact Hr
    isplitl [Ho]; · iexact Ho
    isplitl [H0]; · iexact H0
    isplitl [H1]; · iexact H1
    isplitl [H2]; · iexact H2
    iexact H3
  · unfold St Held
    rw [show beside (α := Elt F .bf16) ![o 0, o 1, o 2, o 3] = (dats m 0 c).before 3 t d3 from eo,
      show stack (α := Elt F .f32) ![a 0, a 1, a 2, a 3] = f7 from ea, show stack (α := Elt F .f32) ![z 0, z 1, z 2, z 3] = f8 from ez]
    isplitl [H0 H1 H2 H3 H7 H8]
    · isplitl [H0]; · iexact H0
      isplitl [H1]; · iexact H1
      isplitl [H2]; · iexact H2
      isplitl [H3]; · iexact H3
      isplitl [H7]
      · show _ ⊢ owns (c : Thread nD τ) (Memref.whole cc0_scratch0) fullShare f7
        rw [owns_whole]
      · show _ ⊢ owns (c : Thread nD τ) (Memref.whole cc0_scratch1) fullShare f8
        rw [owns_whole]
    · isplitl [Hr]; · iexact Hr
      iexact Ho

theorem body_obligation (c : Dev nD) : BodyObligation (dats m 0 c) (defs₀ (F := F)) 𝒱₁ () Set.univ := fun t => by
  rw [bigSep_W0, bigSep_W0]
  exact sound_body m c t

/-- The operations after the kernel write no window's array. -/
theorem keep_11 : ∀ w : Fin 4, Proc.devRef (τ := τ) .tc (Pipeline.arrRef spec0 w) ∉ ({Proc.devRef .tc main_v11} : Finset (DevRef τ sig)) := by decide
theorem keep_12 : ∀ w : Fin 4, Proc.devRef (τ := τ) .tc (Pipeline.arrRef spec0 w) ∉ ({Proc.devRef .tc main_v12} : Finset (DevRef τ sig)) := by decide

theorem fresh_0 : (hostOps0 : List (HloOp τ sig (Elt F))).Forall fun op => op.fresh = ∅ := by
  simp only [List.Forall]; repeat' constructor

set_option backward.isDefEq.respectTransparency.types false in
/-- The run: at the end every window's array holds what the grid points wrote, every other buffer what the host operations
    after the kernel leave, and every semaphore counter is zero. -/
theorem run_main : θ_run defs (onTc (τ := τ) (main (F := F))) (s₀ m ρ) fun r =>
    Pipeline.FramePost cfgs (dats m) 0 (Pipeline.afterTail₀ cfgs (dats m) 0 (fun c b => StableHlo.after hostOps0 (fun b => m (c, b)) b)
      [hostOps1]) r ∧ r.2.sem = fun _ => 0 :=
  Pipeline.θ_run_frame_around cfgs (dats m) (0 : Fin 1) launch0 defs₀ 𝒱₁ m ρ main
    (fun c => (body_obligation m c).loose) (fun c => (dats m 0 c).share_full fun _ => rfl) (fun _ _ => rfl)
    (fun c b => StableHlo.after hostOps0 (fun b => m (c, b)) b) [hostOps1]
    (by
      intro ops hops op hop
      rw [Pipeline.tailRefs_none _ (by intro w; fin_cases w <;> rfl)]
      fin_cases hops
      exact Pipeline.sub_ucRefs op ((List.forall_iff_forall_mem.mp hostOps1_sub) op hop))
    (by
      intro ops hops op hop
      fin_cases hops
      fin_cases hop <;> rfl)
    (by
      intro ops hops op hop w
      fin_cases hops
      fin_cases hop
      · exact keep_11 w
      · exact keep_12 w)
    (Pipeline.hmain_around cfgs 0 defs₀ 𝒱₁ m main [hostOps0] [hostOps1] hostOps0_sub fresh_0
      (fun c => main_chain c))
    (fun _ _ => rfl) (fun _ _ => rfl) _ (fun _ h => h)

/-- What the result holds: the rows of the output window's array without the padding. -/
def result (c : Dev nD) : Vec F S2x8208x1024 .bf16 :=
  extractStridedSlice S2x8208x1024 ![0, 0, 0] (shapeCast S2x8448x1024 ((dats m 0 c).arrAt 3 (cfg0 (F := F)).N : Vec F S16896x1024 .bf16)
    shapeCasts_S16896x1024_S2x8448x1024) slices_S2x8448x1024_S2x8208x1024_0_0_0

/-- The operations after the kernel, at a buffer that they do not write, and at the result. -/
theorem tail_ne (σ : Valuation τ sig (Elt F)) (b : Ref sig .tc) (h11 : b ≠ main_v11) (h12 : b ≠ main_v12) :
    StableHlo.after hostOps1 σ (Proc.devRef .tc b) = σ (Proc.devRef .tc b) := by
  simp only [StableHlo.after_cons, StableHlo.after_nil]
  rw [StableHlo.unary_result_ne _ _ _ _ _ _ h12, StableHlo.reshape_result_ne _ _ _ _ _ _ _ h11]

theorem tail_eq (σ : Valuation τ sig (Elt F)) : StableHlo.after hostOps1 σ (Proc.devRef .tc main_v12)
    = extractStridedSlice S2x8208x1024 ![0, 0, 0] (shapeCast S2x8448x1024 (σ (Proc.devRef .tc main_v10) : Vec F S16896x1024 .bf16)
    shapeCasts_S16896x1024_S2x8448x1024) slices_S2x8448x1024_S2x8208x1024_0_0_0 := by
  after_results
  rfl

theorem tail_arg (c : Dev nD) (b : Ref sig .tc) (hb : ∀ w, Pipeline.arrRef spec0 w ≠ b) (h11 : b ≠ main_v11) (h12 : b ≠ main_v12) :
    Pipeline.afterTail₀ cfgs (dats m) 0 (fun c b => StableHlo.after hostOps0 (fun b => m (c, b)) b) [hostOps1] c b = V m c b := by
  unfold Pipeline.afterTail₀
  rw [show [hostOps1 (F := F)].flatten = hostOps1 from rfl, tail_ne _ b h11 h12]
  exact Pipeline.withArrays_of_ne spec0 c _ _ b hb

theorem tail_res (c : Dev nD) :
    Pipeline.afterTail₀ cfgs (dats m) 0 (fun c b => StableHlo.after hostOps0 (fun b => m (c, b)) b) [hostOps1] c main_v12 = result m c := by
  unfold Pipeline.afterTail₀ result
  rw [show [hostOps1 (F := F)].flatten = hostOps1 from rfl, tail_eq]
  rw [show Pipeline.withArrays (cfgs (F := F) 0).spec c (fun b => StableHlo.after hostOps0 (fun b => m (c, b)) b)
      (fun w => (dats m 0 c).arrAt w (cfgs (F := F) 0).N) (Proc.devRef .tc main_v10) = (dats m 0 c).arrAt 3 (cfg0 (F := F)).N from
    Pipeline.withArrays_arr spec0 (by decide) c _ (fun w => (dats m 0 c).arrAt w (cfg0 (F := F)).N) 3]
  rfl

/-- The arguments at the kernel's start are the program's. -/
theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results

theorem rest_res : main_v12 ∈ Pipeline.restRefs sig spec0 := by decide
theorem rest_0 : main_arg0 ∈ Pipeline.restRefs sig spec0 := by decide
theorem rest_1 : main_arg1 ∈ Pipeline.restRefs sig spec0 := by decide
theorem rest_2 : main_arg2 ∈ Pipeline.restRefs sig spec0 := by decide

/-- The run read at the arguments, the result and the semaphores. -/
theorem run : θ_run defs (onTc (τ := τ) (main (F := F))) (s₀ m ρ) fun r =>
    (∀ c : Dev nD, r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 := by
  refine θ_run_mono (run_main m ρ) fun r hr => ⟨fun c => ⟨?_, ?_, ?_, ?_⟩, hr.2⟩
  · rw [(hr.1 c).2 main_v12 rest_res, tail_res]
  · rw [(hr.1 c).2 main_arg0 rest_0, tail_arg m c main_arg0 (by decide) (by decide) (by decide), V_arg0]
  · rw [(hr.1 c).2 main_arg1 rest_1, tail_arg m c main_arg1 (by decide) (by decide) (by decide), V_arg1]
  · rw [(hr.1 c).2 main_arg2 rest_2, tail_arg m c main_arg2 (by decide) (by decide) (by decide), V_arg2]

end Cert.KernelIdeal.Att
-- ==== Proof.Stick.lean ====
/-
  Stick-breaking attention of one query of one head, over the real numbers, and the scalar identities both programs meet it by.

  `lb x` is `log σ(x)`. For a query that sees the keys `l < i`, with scores `s l`, the part of the stick the keys `n, …, i - 1`
  leave is `exp (rest s i n)`, key `l` takes `wgt s i l`, and `att s v i` is the weighted sum of the values.
-/
module

public import Idealize.ShloMosaic.Lib.Pointwise
public import Idealize.ShloMosaic.Lib.IdealHost

@[expose] public section

noncomputable section

namespace Cert.Stick

open Idealize.ShloMosaic

/-- The logarithm of the logistic function. -/
def lb (x : ℝ) : ℝ := min x 0 - Real.log (1 + Real.exp (-|x|))

/-- The logarithm of what the keys `n, …, i - 1` leave of the stick. -/
def rest (s : ℕ → ℝ) (i n : ℕ) : ℝ := ∑ l ∈ Finset.Ico n i, (lb (s l) - s l)

/-- The weight of key `l`. -/
def wgt (s : ℕ → ℝ) (i l : ℕ) : ℝ := Real.exp (lb (s l) + rest s i (l + 1))

/-- The weighted values of the keys `n, …, i - 1`. -/
def part (s v : ℕ → ℝ) (i n : ℕ) : ℝ := ∑ l ∈ Finset.Ico n i, v l * wgt s i l

/-- The attention of a query that sees the keys `0, …, i - 1`. -/
def att (s v : ℕ → ℝ) (i : ℕ) : ℝ := part s v i 0

/-! ## The scalar steps, at the extended reals -/

theorem max_coe (x y : ℝ) : max (x : EReal) (y : EReal) = ((max x y : ℝ) : EReal) :=
  (EReal.coe_strictMono.monotone.map_max (a := x) (b := y)).symm

theorem min_coe (x y : ℝ) : min (x : EReal) (y : EReal) = ((min x y : ℝ) : EReal) :=
  (EReal.coe_strictMono.monotone.map_min (a := x) (b := y)).symm

theorem abs_coe (x : ℝ) : max (x : EReal) (-(x : EReal)) = ((|x| : ℝ) : EReal) := by
  rw [← EReal.coe_neg, max_coe]; rfl

theorem one_add_exp_pos (x : ℝ) : 0 < 1 + Real.exp x := by positivity

theorem log_coe (x : ℝ) (h : 0 < x) : Ideal.log (x : EReal) = ((Real.log x : ℝ) : EReal) := by
  show (if x ≤ 0 then (⊥ : EReal) else (Real.log x : EReal)) = _
  rw [if_neg (not_le.mpr h)]

theorem exp_coe (x : ℝ) : Ideal.exp (x : EReal) = ((Real.exp x : ℝ) : EReal) := rfl

theorem soft_coe (x : ℝ) : Ideal.log (1 + Ideal.exp ((x : ℝ) : EReal)) = ((Real.log (1 + Real.exp x) : ℝ) : EReal) := by
  rw [exp_coe, ← EReal.coe_one, ← EReal.coe_add, log_coe _ (one_add_exp_pos x)]

/-- The kernel's spelling of `log σ`. -/
theorem lb_kernel (x : ℝ) :
    min (x : EReal) 0 - Ideal.log (1 + Ideal.exp (0 - max (x : EReal) (-(x : EReal)))) = ((lb x : ℝ) : EReal) := by
  rw [abs_coe, zero_sub, ← EReal.coe_neg, soft_coe, ← EReal.coe_zero, min_coe, ← EReal.coe_sub]; rfl

theorem lb_neg (x : ℝ) : lb (-x) = lb x - x := by
  unfold lb
  rw [abs_neg]
  rcases le_total x 0 with h | h
  · rw [min_eq_left h, min_eq_right (by linarith : (0:ℝ) ≤ -x)]; ring
  · rw [min_eq_right h, min_eq_left (by linarith : -x ≤ (0:ℝ))]; ring

/-- The reference's spelling of `log σ`: minus the soft-plus of `-x`. -/
theorem lb_reference (x : ℝ) :
    -(max (-(x : EReal)) 0 + Ideal.log1p (Ideal.exp (-(max (-(x : EReal)) (- -(x : EReal)))))) = ((lb x : ℝ) : EReal) := by
  rw [← EReal.coe_neg, abs_coe, ← EReal.coe_neg, Ideal.log1p, soft_coe, ← EReal.coe_zero, max_coe, ← EReal.coe_add,
    ← EReal.coe_neg]
  congr 1
  unfold lb
  rw [abs_neg]
  rcases le_total x 0 with h | h
  · rw [min_eq_left h, max_eq_left (by linarith)]; ring
  · rw [min_eq_right h, max_eq_right (by linarith)]; ring

theorem sub_self_coe (x : ℝ) : (x : EReal) - (x : EReal) = 0 := by
  rw [← EReal.coe_sub, sub_self]; rfl

theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A left fold of additions is a sum. -/
theorem foldl_add {M : Type} [AddCommMonoid M] (L : List M) (v : M) : L.foldl (· + ·) v = v + L.sum := by
  induction L generalizing v with
  | nil => simp
  | cons a L ih => rw [List.foldl_cons, ih, List.sum_cons, add_assoc]

theorem foldl_add_finRange {M : Type} [AddCommMonoid M] (N : ℕ) (g : Fin N → M) (v : M) :
    (List.finRange N).foldl (fun r n => r + g n) v = v + ∑ n, g n := by
  rw [← List.foldl_map (f := g) (g := fun r x => r + x), foldl_add, Fin.univ_def]
  rfl

/-- The window from `j` on of a row of `n` entries. -/
theorem window_sum (f : ℕ → ℝ) (n j : ℕ) (h : j ≤ n) :
    (∑ w : Fin n, if j + w.val < n then f (j + w.val) else 0) = ∑ l ∈ Finset.Ico j n, f l := by
  rw [Finset.sum_Ico_eq_sum_range, ← Finset.sum_range (fun w => if j + w < n then f (j + w) else 0), ← Finset.sum_filter]
  refine Finset.sum_congr ?_ fun _ _ => rfl
  ext w; simp only [Finset.mem_filter, Finset.mem_range]; omega

/-- Of a row of `n` entries, only those before `i` counted. -/
theorem Ico_causal (f : ℕ → ℝ) (j i n : ℕ) (h : i ≤ n) :
    (∑ l ∈ Finset.Ico j n, if l < i then f l else 0) = ∑ l ∈ Finset.Ico j i, f l := by
  rw [← Finset.sum_filter]
  refine Finset.sum_congr ?_ fun _ _ => rfl
  ext w; simp only [Finset.mem_filter, Finset.mem_Ico]; omega

/-! ## Whole arrays -/

/-- The scale of the scores: the float nearest to `1/√128`. -/
def scale : ℝ := (Ideal.ofBits .f32 0x3DB504F3#32).toReal

theorem scale_coe : Ideal.ofBits .f32 0x3DB504F3#32 = ((scale : ℝ) : EReal) := by
  refine (EReal.coe_toReal ?_ ?_).symm <;> simp [Ideal.ofBits, Ideal.ieee, -EReal.coe_mul]

/-- The score of key `l` for query `i`, in batch `b` and head `h`. -/
def score (Q K : ℕ → ℕ → ℕ → ℝ) (b h i l : ℕ) : ℝ := (∑ d : Fin 128, Q b i (h * 128 + d.val) * K b l (h * 128 + d.val)) * scale

/-- Column `n` of query `i`'s attention. -/
def attn (Q K V : ℕ → ℕ → ℕ → ℝ) (b i n : ℕ) : ℝ := att (fun l => score Q K b (n / 128) i l) (fun l => V b l n) i

/-! ## Sums over the later keys of a tile -/

/-- The 0/1 matrix times a column in two parts, the second of which is nothing: the sum over the later keys. -/
theorem upper_sum (f : Fin 256 → ℝ) (a : Fin 256) :
    (∑ x : Fin 256, (if a.val < x.val then (1 : EReal) else 0) * ((f x : ℝ) : EReal))
        + ∑ x : Fin 256, (if a.val < x.val then (1 : EReal) else 0) * (((f x : ℝ) : EReal) - ((f x : ℝ) : EReal))
      = ((∑ b : Fin 256, if a.val < b.val then f b else 0 : ℝ) : EReal) := by
  rw [Finset.sum_eq_zero (s := Finset.univ) (f := fun x : Fin 256 => (if a.val < x.val then (1 : EReal) else 0) * (((f x : ℝ) : EReal) - ((f x : ℝ) : EReal)))
    (fun x _ => by rw [sub_self_coe, mul_zero]), add_zero, ← coe_sum]
  refine Finset.sum_congr rfl fun x _ => ?_
  by_cases h : a.val < x.val
  · rw [if_pos h, if_pos h, one_mul]
  · rw [if_neg h, if_neg h, zero_mul]; rfl

/-- All but the first, and the first. -/
theorem first_sum (f : Fin 256 → ℝ) : (∑ b : Fin 256, if (0 : Fin 256).val < b.val then f b else 0) + f 0 = ∑ b : Fin 256, f b := by
  rw [Fin.sum_univ_succ (n := 255), Fin.sum_univ_succ (n := 255) f, if_neg (lt_irrefl _), zero_add, add_comm]
  refine congrArg (f 0 + ·) (Finset.sum_congr rfl fun b _ => ?_)
  rw [if_pos (by simp)]

/-! ## Tile by tile -/

theorem Ico_tile (f : ℕ → ℝ) (n i : ℕ) (h : n + 256 ≤ i) :
    ∑ l ∈ Finset.Ico n i, f l = (∑ b : Fin 256, f (n + b.val)) + ∑ l ∈ Finset.Ico (n + 256) i, f l := by
  rw [← Finset.sum_Ico_consecutive f (Nat.le_add_right n 256) h, Finset.sum_Ico_eq_sum_range, Nat.add_sub_cancel_left,
    Finset.sum_range]

theorem Ico_diag (f : ℕ → ℝ) (n c : ℕ) (h : c ≤ 256) :
    ∑ l ∈ Finset.Ico n (n + c), f l = ∑ b : Fin 256, if b.val < c then f (n + b.val) else 0 := by
  rw [Finset.sum_Ico_eq_sum_range, Nat.add_sub_cancel_left, ← Finset.sum_filter, Finset.sum_range]
  refine Finset.sum_bij (fun (b : Fin c) _ => (⟨b.val, by omega⟩ : Fin 256)) ?_ ?_ ?_ ?_
  · intro a _; simp
  · intro a _ b _ hab; exact Fin.ext (congrArg (fun x : Fin 256 => x.val) hab)
  · intro b hb; exact ⟨⟨b.val, (Finset.mem_filter.mp hb).2⟩, Finset.mem_univ _, rfl⟩
  · intro a _; rfl

theorem Ico_after (f : ℕ → ℝ) (n m i : ℕ) (h : n ≤ m) :
    ∑ l ∈ Finset.Ico m i, f l = ∑ l ∈ Finset.Ico n i, if m ≤ l then f l else 0 := by
  rw [← Finset.sum_filter]
  refine Finset.sum_congr ?_ fun _ _ => rfl
  ext w; simp only [Finset.mem_filter, Finset.mem_Ico]; omega

theorem after_tile (f : ℕ → ℝ) (n i : ℕ) (a : Fin 256) (h : n + 256 ≤ i) :
    ∑ l ∈ Finset.Ico (n + a.val + 1) i, f l
      = (∑ b : Fin 256, if a.val < b.val then f (n + b.val) else 0) + ∑ l ∈ Finset.Ico (n + 256) i, f l := by
  rw [Ico_after f n _ i (by omega), Ico_tile _ n i h]
  congr 1
  · refine Finset.sum_congr rfl fun b _ => if_congr (by omega) rfl rfl
  · refine Finset.sum_congr rfl fun l hl => ?_
    have := (Finset.mem_Ico.mp hl).1
    rw [if_pos (by omega)]

theorem after_diag (f : ℕ → ℝ) (n c : ℕ) (a : Fin 256) (h : c ≤ 256) :
    ∑ l ∈ Finset.Ico (n + a.val + 1) (n + c), f l
      = ∑ b : Fin 256, if a.val < b.val then (if b.val < c then f (n + b.val) else 0) else 0 := by
  rw [Ico_after f n _ _ (by omega), Ico_diag _ n c h]
  refine Finset.sum_congr rfl fun b _ => ?_
  by_cases h1 : b.val < c <;> by_cases h2 : a.val < b.val <;> simp [h1, h2] <;> omega

theorem rest_diag (s : ℕ → ℝ) (n : ℕ) (c : Fin 256) :
    rest s (n + c.val) n = ∑ b : Fin 256, if b.val < c.val then lb (s (n + b.val)) - s (n + b.val) else 0 :=
  Ico_diag (fun l => lb (s l) - s l) n c.val c.isLt.le

theorem rest_tile (s : ℕ → ℝ) (n i : ℕ) (h : n + 256 ≤ i) :
    rest s i n = rest s i (n + 256) + ∑ b : Fin 256, (lb (s (n + b.val)) - s (n + b.val)) :=
  (Ico_tile (fun l => lb (s l) - s l) n i h).trans (add_comm _ _)

theorem part_diag (s v : ℕ → ℝ) (n : ℕ) (c : Fin 256) :
    part s v (n + c.val) n = ∑ a : Fin 256, v (n + a.val) * (if a.val < c.val then Real.exp (lb (s (n + a.val))
      + ∑ b : Fin 256, if a.val < b.val then (if b.val < c.val then lb (s (n + b.val)) - s (n + b.val) else 0) else 0) else 0) := by
  refine (Ico_diag _ n c.val c.isLt.le).trans (Finset.sum_congr rfl fun a _ => ?_)
  by_cases h : a.val < c.val
  · rw [if_pos h, if_pos h]
    unfold wgt rest
    rw [after_diag (fun l => lb (s l) - s l) n c.val a c.isLt.le]
  · rw [if_neg h, if_neg h, mul_zero]

theorem part_tile (s v : ℕ → ℝ) (n i : ℕ) (h : n + 256 ≤ i) :
    part s v i n = part s v i (n + 256) + ∑ a : Fin 256, v (n + a.val) * Real.exp ((lb (s (n + a.val))
      + ∑ b : Fin 256, if a.val < b.val then lb (s (n + b.val)) - s (n + b.val) else 0) + rest s i (n + 256)) := by
  refine (Ico_tile _ n i h).trans ((add_comm _ _).trans ?_)
  refine congrArg (part s v i (n + 256) + ·) (Finset.sum_congr rfl fun a _ => ?_)
  unfold wgt rest
  rw [after_tile (fun l => lb (s l) - s l) n i a h, add_assoc]

end Cert.Stick

end
-- ==== Proof.KI.Tile.lean ====
/-
  One head, one key tile, at real scores: what the payloads hold at an index.
-/
module

public import proofs.«01_k».proof.Proof.KI.Body
public import proofs.«01_k».proof.Proof.Stick
public import Idealize.ShloMosaic.Lib.WordCmp

@[expose] public section

set_option maxRecDepth 16384

noncomputable section

namespace Cert.KernelIdeal.Att

open Cert.KernelIdeal Cert.KernelIdeal.Gen Cert.Stacked Cert.Stick
open Idealize.ShloMosaic Idealize.ShloMosaic.TcCoe

/-! ## The masks and the scores -/

theorem upper_at (a b : Fin 256) : k0_pay7 (F := Ideal) (ix2 a b) = if a.val < b.val then 1 else 0 := by
  pointwise [k0_pay7]
  rw [show IntOp.cmpi .sgt (BitVec.ofNat 32 b.val) (BitVec.ofNat 32 a.val) = BitVec.ofBool (decide (a.val < b.val)) from by word_cmp]
  by_cases h : a.val < b.val <;> simp [Scalar.select, h]

theorem causal_at (a c : Fin 256) : k0_pay13 (ix2 a c) = BitVec.ofBool (decide (a.val < c.val)) := by
  pointwise [k0_pay13]
  word_cmp

theorem sD_at (kt : Vec Ideal S1x256x128 .bf16) (qt : Vec Ideal S1x128x256 .bf16) (a c : Fin 256) :
    sD kt qt (ix3 (0 : Fin 1) a c) = ∑ d : Fin 128, kt (ix3 (0 : Fin 1) a d) * qt (ix3 (0 : Fin 1) d c) := by
  pointwise [sD, k0_pay14]

theorem scores_same (kt : Vec Ideal S1x256x128 .bf16) (qt : Vec Ideal S1x128x256 .bf16) : k0_pay55 kt qt = sD kt qt := rfl

section Tile

variable (z : Vec Ideal S1x256x256 .f32) (s : Fin 256 → Fin 256 → ℝ)
  (hz : ∀ a c : Fin 256, z (ix3 (0 : Fin 1) a c) * Ideal.ofBits .f32 0x3DB504F3#32 = ((s a c : ℝ) : EReal))

include hz

theorem scaled_at (a c : Fin 256) : k0_pay20 z (ix2 a c) = ((s a c : ℝ) : EReal) := by
  refine Eq.trans ?_ (hz a c)
  pointwise [k0_pay20]

theorem lb_at (a c : Fin 256) : k0_pay22 (k0_pay20 z) (k0_pay21 z) (1 : EReal) (ix2 a c) = ((lb (s a c) : ℝ) : EReal) := by
  have h := scaled_at z s hz a c
  pointwise [k0_pay22, k0_pay21]
  rw [h]
  exact lb_kernel _

theorem left_at (a c : Fin 256) : k0_pay23 k0_pay13 (k0_pay20 z) (k0_pay21 z) (1 : EReal) (ix2 a c)
    = ((if a.val < c.val then lb (s a c) - s a c else 0 : ℝ) : EReal) := by
  have h := scaled_at z s hz a c
  have h' := lb_at z s hz a c
  pointwise [k0_pay23]
  rw [causal_at]
  by_cases hac : a.val < c.val
  · simp [Scalar.select, hac, h, h']
  · simp [Scalar.select, hac]

theorem later_at (a c : Fin 256) : k0_pay24 k0_pay7 k0_pay13 (k0_pay20 z) (k0_pay21 z) (1 : EReal) (ix2 a c)
    = ((∑ b : Fin 256, if a.val < b.val then (if b.val < c.val then lb (s b c) - s b c else 0) else 0 : ℝ) : EReal) := by
  have h := fun b : Fin 256 => left_at z s hz b c
  pointwise [k0_pay24]
  simp only [h, upper_at]
  exact upper_sum (fun b => if b.val < c.val then lb (s b c) - s b c else 0) a

theorem zD_at (a c : Fin 256) : zD z (ix3 (0 : Fin 1) a c)
    = ((lb (s a c) + ∑ b : Fin 256, if a.val < b.val then (if b.val < c.val then lb (s b c) - s b c else 0) else 0 : ℝ) : EReal) := by
  have h := lb_at z s hz a c
  have h' := later_at z s hz a c
  pointwise [zD, k0_pay25]
  rw [EReal.coe_add, h, h']

theorem cD_at (c : Fin 256) : cD z (ix2 (0 : Fin 1) c)
    = ((∑ b : Fin 256, (if b.val < c.val then lb (s b c) - s b c else 0) : ℝ) : EReal) := by
  have h := left_at z s hz 0 c
  have h' := later_at z s hz 0 c
  pointwise [cD, k0_pay26, k0_pay9]
  rw [h, h', ← EReal.coe_add]
  exact congrArg _ (first_sum fun b => if b.val < c.val then lb (s b c) - s b c else 0)

theorem lbL_at (a c : Fin 256) : k0_pay60 z (ix2 a c) = ((lb (s a c) : ℝ) : EReal) := by
  have h : k0_pay59 z (ix2 a c) = _ := scaled_at z s hz a c
  pointwise [k0_pay60]
  rw [h]
  exact lb_kernel _

theorem leftL_at (a c : Fin 256) : k0_pay61 z (ix2 a c) = ((lb (s a c) - s a c : ℝ) : EReal) := by
  have h : k0_pay59 z (ix2 a c) = _ := scaled_at z s hz a c
  have h' := lbL_at z s hz a c
  pointwise [k0_pay61]
  rw [h, h', EReal.coe_sub]

theorem laterL_at (a c : Fin 256) : k0_pay62 k0_pay7 z (ix2 a c)
    = ((∑ b : Fin 256, if a.val < b.val then lb (s b c) - s b c else 0 : ℝ) : EReal) := by
  have h := fun b : Fin 256 => leftL_at z s hz b c
  pointwise [k0_pay62]
  simp only [h, upper_at]
  exact upper_sum (fun b => lb (s b c) - s b c) a

theorem zL_at (a c : Fin 256) : k0_pay63 k0_pay7 z (ix3 (0 : Fin 1) a c)
    = ((lb (s a c) + ∑ b : Fin 256, if a.val < b.val then lb (s b c) - s b c else 0 : ℝ) : EReal) := by
  have h := lbL_at z s hz a c
  have h' := laterL_at z s hz a c
  pointwise [k0_pay63]
  rw [EReal.coe_add, h, h']

theorem cL_at (C : FVec Ideal S1x256 .f32) (r : Fin 256 → ℝ) (hC : ∀ c, C (ix2 (0 : Fin 1) c) = ((r c : ℝ) : EReal)) (c : Fin 256) :
    k0_pay65 C (k0_pay61 z) (k0_pay64 k0_pay7 z) (ix2 (0 : Fin 1) c) = ((r c + ∑ b : Fin 256, (lb (s b c) - s b c) : ℝ) : EReal) := by
  have h := leftL_at z s hz 0 c
  have h' := laterL_at z s hz 0 c
  pointwise [k0_pay65, k0_pay64]
  rw [h, h', hC, ← EReal.coe_add, ← EReal.coe_add, add_assoc]
  exact congrArg (fun x : ℝ => ((r c + x : ℝ) : EReal)) (first_sum fun b => lb (s b c) - s b c)

end Tile

/-! ## The accumulators -/

theorem aD_at (z : Vec Ideal S1x256x256 .f32) (y : Fin 256 → Fin 256 → ℝ) (hz : ∀ a c : Fin 256, z (ix3 (0 : Fin 1) a c) = ((y a c : ℝ) : EReal))
    (v : Vec Ideal S1x128x256 .bf16) (u : Fin 128 → Fin 256 → ℝ) (hv : ∀ d a, v (ix3 (0 : Fin 1) d a) = ((u d a : ℝ) : EReal))
    (d : Fin 128) (c : Fin 256) :
    aD z zA v (ix3 (0 : Fin 1) d c) = ((∑ a : Fin 256, u d a * (if a.val < c.val then Real.exp (y a c) else 0) : ℝ) : EReal) := by
  pointwise [aD, zA, k0_pay49, k0_pay47, k0_pay48, k0_pay9]
  rw [← coe_sum]
  refine Finset.sum_congr rfl fun a _ => ?_
  rw [causal_at, hz, hv, exp_coe, ← EReal.coe_mul]
  by_cases hac : a.val < c.val
  · simp [Scalar.select, hac]
  · simp [Scalar.select, hac]

theorem aL_at (z : Vec Ideal S1x256x256 .f32) (y : Fin 256 → Fin 256 → ℝ) (hz : ∀ a c : Fin 256, z (ix3 (0 : Fin 1) a c) = ((y a c : ℝ) : EReal))
    (v : Vec Ideal S1x128x256 .bf16) (u : Fin 128 → Fin 256 → ℝ) (hv : ∀ d a, v (ix3 (0 : Fin 1) d a) = ((u d a : ℝ) : EReal))
    (C : FVec Ideal S1x256 .f32) (r : Fin 256 → ℝ) (hC : ∀ c, C (ix2 (0 : Fin 1) c) = ((r c : ℝ) : EReal))
    (A : Vec Ideal S1x128x256 .f32) (t : Fin 128 → Fin 256 → ℝ) (hA : ∀ d c, A (ix3 (0 : Fin 1) d c) = ((t d c : ℝ) : EReal))
    (d : Fin 128) (c : Fin 256) :
    k0_pay85 C z A v (ix3 (0 : Fin 1) d c) = ((t d c + ∑ a : Fin 256, u d a * Real.exp (y a c + r c) : ℝ) : EReal) := by
  pointwise [k0_pay85]
  rw [hA, EReal.coe_add, ← coe_sum]
  refine congrArg (_ + ·) (Finset.sum_congr rfl fun a _ => ?_)
  rw [hz, hv, hC, ← EReal.coe_add, exp_coe, ← EReal.coe_mul]

theorem out_at (a : Vec Ideal S1x128x256 .f32) (c : Fin 256) (d : Fin 128) : k0_pay1 a (ix2 c d) = a (ix3 (0 : Fin 1) d c) := by
  pointwise [k0_pay1]

end Cert.KernelIdeal.Att

end
-- ==== Proof.KI.Heads.lean ====
/-
  One grid point at real blocks: every head's result is the stick-breaking attention.

  After the key tiles `n, …` the carry is `rest` from key `256 n` on and the accumulator is `part` from there on. The loop's
  condition holds at every such state, since the threshold is minus infinity, so the loop visits every tile.
-/
module

public import proofs.«01_k».proof.Proof.KI.Tile

@[expose] public section

set_option maxRecDepth 16384

noncomputable section

namespace Cert.KernelIdeal.Att

open Cert.KernelIdeal Cert.KernelIdeal.Gen Cert.Stacked Cert.Stick
open Idealize.ShloMosaic Idealize.ShloMosaic.TcCoe

/-- The threshold is minus infinity. -/
theorem dead_eq : Named.named (F := Ideal) κ "dead" (φ := .f32) 0xC2D00000#32 = (⊥ : EReal) :=
  IdealRules.named_const.ideal_named_scalar κ "dead" (φ := .f32) 0xC2D00000#32 ⊥ rfl

theorem alive_of_real (st : Acc Ideal) (r : ℝ) (h : st.1 0 (ix2 (0 : Fin 1) (0 : Fin 256)) = ((r : ℝ) : EReal)) : alive st = 1#1 := by
  unfold alive
  rw [dead_eq]
  pointwise [k0_pay5]
  rw [decide_eq_true ((Finset.lt_fold_max _).mpr (Or.inr ⟨(0, 0), Finset.mem_univ _, ?_⟩))]
  · rfl
  · refine lt_of_lt_of_le (EReal.bot_lt_coe r) (h ▸ ?_)
    exact le_max_of_le_left (le_max_of_le_left (le_max_left _ _))

section Point

variable (X : Ins Ideal) (J : Fin 33) (s : Fin 4 → Fin 256 → ℕ → ℝ) (v : Fin 4 → Fin 128 → ℕ → ℝ)
  (hs : ∀ (j : Fin 33) (g : Fin 4) (a c : Fin 256), sD (X.kt j g) (X.qt g) (ix3 (0 : Fin 1) a c) * Ideal.ofBits .f32 0x3DB504F3#32
    = ((s g c (256 * j.val + a.val) : ℝ) : EReal))
  (hv : ∀ (j : Fin 33) (g : Fin 4) (d : Fin 128) (a : Fin 256), X.vt j g (ix3 (0 : Fin 1) d a) = ((v g d (256 * j.val + a.val) : ℝ) : EReal))

/-- The state once the tiles `n, …` are done. -/
def Done (n : ℕ) (st : Acc Ideal) : Prop :=
  (∀ g (c : Fin 256), st.1 g (ix2 (0 : Fin 1) c) = ((rest (s g c) (256 * J.val + c.val) (256 * n) : ℝ) : EReal))
    ∧ ∀ g (d : Fin 128) (c : Fin 256), st.2 g (ix3 (0 : Fin 1) d c) = ((part (s g c) (v g d) (256 * J.val + c.val) (256 * n) : ℝ) : EReal)

include hs hv

theorem done_first : Done J s v J.val (first X J) := by
  refine ⟨fun g c => ?_, fun g d c => ?_⟩
  · rw [rest_diag]
    exact cD_at _ (fun a c => s g c (256 * J.val + a.val)) (hs J g) c
  · rw [part_diag]
    exact aD_at _ _ (zD_at _ (fun a c => s g c (256 * J.val + a.val)) (hs J g)) _ (fun d a => v g d (256 * J.val + a.val)) (hv J g) d c

theorem done_step (n : ℕ) (h : n < 33) (hJ : n < J.val) (st : Acc Ideal) (hd : Done J s v (n + 1) st) : Done J s v n (step X ⟨n, h⟩ st) := by
  refine ⟨fun g c => ?_, fun g d c => ?_⟩
  · rw [rest_tile _ _ _ (by omega)]
    exact cL_at _ (fun a c => s g c (256 * n + a.val)) (hs ⟨n, h⟩ g) _ _ (hd.1 g) c
  · rw [part_tile _ _ _ _ (by omega)]
    exact aL_at _ _ (zL_at _ (fun a c => s g c (256 * n + a.val)) (hs ⟨n, h⟩ g)) _ (fun d a => v g d (256 * n + a.val)) (hv ⟨n, h⟩ g)
      _ _ (hd.1 g) _ _ (hd.2 g) d c

theorem done_loop : ∀ (n : ℕ) (h : n ≤ 33) (_ : n ≤ J.val) (st : Acc Ideal), Done J s v n st → Done J s v 0 (loop X n h st) := by
  intro n
  induction n with
  | zero => intro h hJ st hd; exact hd
  | succ n ih =>
    intro h hJ st hd
    rw [loop, if_pos (alive_of_real st _ (hd.1 0 0))]
    exact ih _ (by omega) _ (done_step X J s v hs hv n (by omega) (by omega) st hd)

/-- The result of one head. -/
theorem outs_at (g : Fin 4) (c : Fin 256) (d : Fin 128) :
    outs X J g (ix2 c d) = ((att (s g c) (v g d) (256 * J.val + c.val) : ℝ) : EReal) := by
  unfold outs
  rw [out_at]
  exact (done_loop X J s v hs hv J.val _ le_rfl _ (done_first X J s v hs hv)).2 g d c

end Point

end Cert.KernelIdeal.Att

end
-- ==== Proof.KI.Value.lean ====
/-
  The program's result at real arguments: the attention of `Stick`, at every place.

  The arguments are padded to whole tiles with zeros, so every block is real; a grid point's four results then are the
  attention of its four heads, and the blocks tile the output.
-/
module

public import proofs.«01_k».proof.Proof.KI.Heads
public import proofs.«01_k».proof.Proof.KI.Run
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen Cert.Stacked Cert.Stick
open Idealize.ShloMosaic Idealize.ShloMosaic.TcCoe

/-- The windows' blocks at a grid point. -/
theorem idx : ∀ t : Fin (cfg0 (F := Ideal)).N,
    win0_0.index t = ![(grid0.coords t 0).val * 33 + (grid0.coords t 2).val, (grid0.coords t 1).val, 0]
      ∧ win0_1.index t = ![(grid0.coords t 0).val, 0, (grid0.coords t 1).val]
      ∧ win0_2.index t = ![(grid0.coords t 0).val, (grid0.coords t 1).val, 0]
      ∧ win0_3.index t = ![(grid0.coords t 0).val * 33 + (grid0.coords t 2).val, (grid0.coords t 1).val] :=
  (by decide +kernel : ∀ t : Fin grid0.N, _)

variable (m : (ℓ : Loc nD τ sig) → Buf (Elt Ideal) ℓ) (c : Dev nD) (Q K W : ℕ → ℕ → ℕ → ℝ)

/-- An argument is the array of real numbers `Q`, which is zero from row 8208 on. -/
def Holds (x : FVec Ideal S2x8208x1024 .bf16) (Q : ℕ → ℕ → ℕ → ℝ) : Prop :=
  (∀ (b : Fin 2) (i : Fin 8208) (n : Fin 1024), x (ix3 b i n) = ((Q b.val i.val n.val : ℝ) : EReal)) ∧ ∀ b i n, 8208 ≤ i → Q b i n = 0

theorem Holds.padded {x : FVec Ideal S2x8208x1024 .bf16} {Q : ℕ → ℕ → ℕ → ℝ} (h : Holds x Q) (b i : ℕ) (n : Fin 1024) (hb : b < 2) :
    (if g : b < 2 ∧ i < 8208 then x (ix3 ⟨b, g.1⟩ ⟨i, g.2⟩ n) else 0) = ((Q b i n.val : ℝ) : EReal) := by
  by_cases hi : i < 8208
  · rw [dif_pos ⟨hb, hi⟩]; exact h.1 ⟨b, hb⟩ ⟨i, hi⟩ n
  · rw [dif_neg fun g => hi g.2, h.2 b i n.val (by omega)]; rfl

theorem at_eq {f : ℕ → ℕ → ℕ → ℝ} {b b' i i' n n' : ℕ} (hb : b = b') (hi : i = i') (hn : n = n') :
    ((f b i n : ℝ) : EReal) = ((f b' i' n' : ℝ) : EReal) := by
  rw [hb, hi, hn]

theorem v2_at (h : Holds (m ((c : Thread nD τ).loc main_arg0)) Q) (p : Fin 66) (n : Fin 1024) (r : Fin 256) :
    V m c main_v2 (ix3 p n r) = ((Q (p.val / 33) (p.val % 33 * 256 + r.val) n.val : ℝ) : EReal) := by
  unfold V
  after_results
  pointwise
  exact h.padded _ _ n (by omega)

theorem v9_at (h : Holds (m ((c : Thread nD τ).loc main_arg1)) K) (p : Fin 66) (r : Fin 256) (n : Fin 1024) :
    V m c main_v9 (ix3 p r n) = ((K (p.val / 33) (p.val % 33 * 256 + r.val) n.val : ℝ) : EReal) := by
  unfold V
  after_results
  pointwise
  refine (h.padded ((p.val * 256 + r.val) / 256 / 33) ((p.val * 256 + r.val) / 256 % 33 * 256 + (p.val * 256 + r.val) % 256) n (by omega)).trans ?_
  exact at_eq (by omega) (by omega) rfl

theorem v8_at (h : Holds (m ((c : Thread nD τ).loc main_arg2)) W) (p : Fin 66) (n : Fin 1024) (r : Fin 256) :
    V m c main_v8 (ix3 p n r) = ((W (p.val / 33) (p.val % 33 * 256 + r.val) n.val : ℝ) : EReal) := by
  unfold V
  after_results
  pointwise
  exact h.padded _ _ n (by omega)

theorem coords0 (t : Fin (cfg0 (F := Ideal)).N) : (grid0.coords t 0).val < 2 := (grid0.coords t 0).isLt
theorem coords1 (t : Fin (cfg0 (F := Ideal)).N) : (grid0.coords t 1).val < 2 := (grid0.coords t 1).isLt
theorem coords2 (t : Fin (cfg0 (F := Ideal)).N) : (grid0.coords t 2).val < 33 := (grid0.coords t 2).isLt

theorem blk_0 (X : FVec Ideal S66x1024x256 .bf16) (t : Fin (cfg0 (F := Ideal)).N) (n : Fin 512) (r : Fin 256) :
    (((cfg0 (F := Ideal)).win 0).blk t).view.read (Elt Ideal) X (ix3 (0 : Fin 1) n r)
      = X (ix3 (⟨(grid0.coords t 0).val * 33 + (grid0.coords t 2).val, by have := coords0 t; have := coords2 t; omega⟩ : Fin 66)
          (⟨(grid0.coords t 1).val * 512 + n.val, by have := coords1 t; omega⟩ : Fin 1024) r) := by
  blk_ext [idx t]

theorem blk_1 (X : FVec Ideal S66x256x1024 .bf16) (t : Fin (cfg0 (F := Ideal)).N) (j : Fin 33) (r : Fin 256) (n : Fin 512) :
    (((cfg0 (F := Ideal)).win 1).blk t).view.read (Elt Ideal) X (ix3 j r n)
      = X (ix3 (⟨(grid0.coords t 0).val * 33 + j.val, by have := coords0 t; omega⟩ : Fin 66) r
          (⟨(grid0.coords t 1).val * 512 + n.val, by have := coords1 t; omega⟩ : Fin 1024)) := by
  blk_ext [idx t]

theorem blk_2 (X : FVec Ideal S66x1024x256 .bf16) (t : Fin (cfg0 (F := Ideal)).N) (j : Fin 33) (n : Fin 512) (r : Fin 256) :
    (((cfg0 (F := Ideal)).win 2).blk t).view.read (Elt Ideal) X (ix3 j n r)
      = X (ix3 (⟨(grid0.coords t 0).val * 33 + j.val, by have := coords0 t; omega⟩ : Fin 66)
          (⟨(grid0.coords t 1).val * 512 + n.val, by have := coords1 t; omega⟩ : Fin 1024) r) := by
  blk_ext [idx t]

theorem q_at (h : Holds (m ((c : Thread nD τ).loc main_arg0)) Q) (t : Fin (cfg0 (F := Ideal)).N) (g : Fin 4) (d : Fin 128) (a : Fin 256) :
    (ins m c t).qt g (ix3 (0 : Fin 1) d a) = ((Q (grid0.coords t 0).val (256 * (grid0.coords t 2).val + a.val)
      ((4 * (grid0.coords t 1).val + g.val) * 128 + d.val) : ℝ) : EReal) := by
  have h0 := coords0 t
  have h2 := coords2 t
  refine (blk_0 (V m c main_v2) t ⟨128 * g.val + d.val, by omega⟩ a).trans ((v2_at m c Q h _ _ _).trans ?_)
  exact at_eq (by simp only; omega) (by simp only; omega) (by simp only; omega)

theorem k_at (h : Holds (m ((c : Thread nD τ).loc main_arg1)) K) (t : Fin (cfg0 (F := Ideal)).N) (j : Fin 33) (g : Fin 4) (a : Fin 256) (d : Fin 128) :
    (ins m c t).kt j g (ix3 (0 : Fin 1) a d) = ((K (grid0.coords t 0).val (256 * j.val + a.val)
      ((4 * (grid0.coords t 1).val + g.val) * 128 + d.val) : ℝ) : EReal) := by
  have h0 := coords0 t
  refine (blk_1 (V m c main_v9) t j a ⟨128 * g.val + d.val, by omega⟩).trans ((v9_at m c K h _ _ _).trans ?_)
  exact at_eq (by simp only; omega) (by simp only; omega) (by simp only; omega)

theorem w_at (h : Holds (m ((c : Thread nD τ).loc main_arg2)) W) (t : Fin (cfg0 (F := Ideal)).N) (j : Fin 33) (g : Fin 4) (d : Fin 128) (a : Fin 256) :
    (ins m c t).vt j g (ix3 (0 : Fin 1) d a) = ((W (grid0.coords t 0).val (256 * j.val + a.val)
      ((4 * (grid0.coords t 1).val + g.val) * 128 + d.val) : ℝ) : EReal) := by
  have h0 := coords0 t
  refine (blk_2 (V m c main_v8) t j ⟨128 * g.val + d.val, by omega⟩ a).trans ((v8_at m c W h _ _ _).trans ?_)
  exact at_eq (by simp only; omega) (by simp only; omega) (by simp only; omega)

/-- One head's result at a grid point. -/
theorem head_at (hq : Holds (m ((c : Thread nD τ).loc main_arg0)) Q) (hk : Holds (m ((c : Thread nD τ).loc main_arg1)) K)
    (hw : Holds (m ((c : Thread nD τ).loc main_arg2)) W) (t : Fin (cfg0 (F := Ideal)).N) (g : Fin 4) (a : Fin 256) (d : Fin 128) :
    outs (ins m c t) (tileOf (grid0.coords t)) g (ix2 a d) = ((attn Q K W (grid0.coords t 0).val (256 * (grid0.coords t 2).val + a.val)
      ((4 * (grid0.coords t 1).val + g.val) * 128 + d.val) : ℝ) : EReal) := by
  have hn : ((4 * (grid0.coords t 1).val + g.val) * 128 + d.val) / 128 = 4 * (grid0.coords t 1).val + g.val := by omega
  refine (outs_at (ins m c t) (tileOf (grid0.coords t))
    (fun g a l => score Q K (grid0.coords t 0).val (4 * (grid0.coords t 1).val + g.val) (256 * (grid0.coords t 2).val + a.val) l)
    (fun g d l => W (grid0.coords t 0).val l ((4 * (grid0.coords t 1).val + g.val) * 128 + d.val)) (fun j g b a => ?_) (fun j g d b => ?_) g a d).trans ?_
  · rw [sD_at, scale_coe]
    simp only [q_at m c Q hq t, k_at m c K hk t, ← EReal.coe_mul]
    rw [coe_sum, ← EReal.coe_mul]
    refine congrArg _ (congrArg (· * scale) ?_)
    exact Finset.sum_congr rfl fun _ _ => mul_comm _ _
  · exact w_at m c W hw t j g d b
  · unfold attn
    rw [hn]

/-- The output array after the run. -/
theorem out_array (hq : Holds (m ((c : Thread nD τ).loc main_arg0)) Q) (hk : Holds (m ((c : Thread nD τ).loc main_arg1)) K)
    (hw : Holds (m ((c : Thread nD τ).loc main_arg2)) W) :
    (dats m 0 c).arrAt 3 (cfg0 (F := Ideal)).N
      = (fun y : S16896x1024.Idx => ((attn Q K W ((y 0).val / 8448) ((y 0).val % 8448) (y 1).val : ℝ) : EReal)) := by
  refine (dats m 0 c).arrAt_eq_of_covers 3 _ (by decide +kernel) fun t _ y => ?_
  have h0 := coords0 t
  have h1 := coords1 t
  have h2 := coords2 t
  have hy0 : (y 0).val < 256 := (y 0).isLt
  have hy1 : (y 1).val < 512 := (y 1).isLt
  blk_simp [idx t]
  rw [after_3]
  unfold blk beside
  refine (head_at m c Q K W hq hk hw t ⟨(y 1).val / 128, by omega⟩ (y 0) ⟨(y 1).val % 128, by omega⟩).trans ?_
  exact at_eq (f := attn Q K W) (by omega) (by omega) (by simp only; omega)

theorem crop_at (X : FVec Ideal S16896x1024 .bf16) (b : Fin 2) (i : Fin 8208) (n : Fin 1024) :
    extractStridedSlice S2x8208x1024 ![0, 0, 0] (shapeCast S2x8448x1024 X shapeCasts_S16896x1024_S2x8448x1024)
      slices_S2x8448x1024_S2x8208x1024_0_0_0 (ix3 b i n) = X (ix2 (⟨b.val * 8448 + i.val, by omega⟩ : Fin 16896) n) := by
  pointwise

/-- The program's result. -/
theorem result_at (hq : Holds (m ((c : Thread nD τ).loc main_arg0)) Q) (hk : Holds (m ((c : Thread nD τ).loc main_arg1)) K)
    (hw : Holds (m ((c : Thread nD τ).loc main_arg2)) W) (b : Fin 2) (i : Fin 8208) (n : Fin 1024) :
    result m c (ix3 b i n) = ((attn Q K W b.val i.val n.val : ℝ) : EReal) := by
  unfold result
  refine (crop_at _ b i n).trans ((congrFun (out_array m c Q K W hq hk hw) _).trans ?_)
  show ((attn Q K W ((b.val * 8448 + i.val) / 8448) ((b.val * 8448 + i.val) % 8448) n.val : ℝ) : EReal) = _
  exact at_eq (f := attn Q K W) (by omega) (by omega) rfl

end Cert.KernelIdeal.Att

end
-- ==== Proof.Ref.Parts.lean ====
/-
  The reference's term in named parts: `REF` is that term over the three arrays, with its log-sigmoid, its mask, its scores and its
  reversed running sum named.
-/
module

public import proofs.«01_k».proof.Proof.Gen.ReferenceIdeal.Run

@[expose] public section

set_option maxRecDepth 16384

noncomputable section

namespace Cert.ReferenceIdeal.Att

open Cert.ReferenceIdeal Cert.ReferenceIdeal.Gen
open Idealize.ShloMosaic Idealize.ShloMosaic.TcCoe

/-! ## The reference's term in parts -/

section Parts

variable {F : FTy → Type} [FloatOps F]

/-- An array split by heads. -/
def heads (x : FVec F S2x8208x1024 .bf16) : FVec F S2x8x8208x128 .f32 :=
  transpose S2x8x8208x128 [0, 2, 1, 3] (shapeCast S2x8208x8x128 (extf .f32 x bitsLt_bf16_f32) shapeCasts_S2x8208x1024_S2x8208x8x128)
    transposes_S2x8208x8x128_S2x8x8208x128_0_2_1_3

/-- A constant everywhere. -/
def splat (b : BitVec 32) : FVec F S2x8x8208x8208 .f32 := broadcastInDim S2x8x8208x8208 ![] bcast_S_S2x8x8208x8208 (constant S_ .f32 b)

/-- The scores. -/
def scores (q k : FVec F S2x8208x1024 .bf16) : FVec F S2x8x8208x8208 .f32 :=
  mulf (Host.dotGeneral dot_S2x8x8208x128_S2x8x8208x128_S2x8x8208x8208_3_3_2_2_01_01 none (heads q) (heads k)) (splat 0x3DB504F3#32)

/-- The log-sigmoid as the reference computes it. -/
def logSig (x : FVec F S2x8x8208x8208 .f32) : FVec F S2x8x8208x8208 .f32 :=
  Host.negf (select (cmpf .une (subf (Host.negf x) (splat 0x00000000#32)) (subf (Host.negf x) (splat 0x00000000#32)))
    (addf (Host.negf x) (splat 0x00000000#32))
    (addf (maximumf (Host.negf x) (splat 0x00000000#32)) (Host.log1p (Host.exp (Host.negf (Host.absf (subf (Host.negf x) (splat 0x00000000#32))))))))

/-- The strictly causal mask. -/
def mask : IVec S2x8x8208x8208 1 :=
  broadcastInDim S2x8x8208x8208 ![2, 3] bcast_S8208x8208_S2x8x8208x8208_2_3
    (cmpi .slt (broadcastInDim S8208x8208 ![0, 1] bcast_S1x8208_S8208x8208_0_1 (broadcastInDim S1x8208 ![1] bcast_S8208_S1x8208_1 (iotaInDim S8208 32 0)))
      (broadcastInDim S8208x8208 ![0, 1] bcast_S8208x1_S8208x8208_0_1 (broadcastInDim S8208x1 ![0] bcast_S8208_S8208x1_0 (iotaInDim S8208 32 0))))

/-- `log (1 - β)` under the mask. -/
def left (q k : FVec F S2x8208x1024 .bf16) : FVec F S2x8x8208x8208 .f32 :=
  select mask (logSig (Host.negf (scores q k))) (splat 0x00000000#32)

/-- Its reversed running sum. -/
def sums (x : FVec F S2x8x8208x8208 .f32) : FVec F S2x8x8208x8208 .f32 :=
  Host.reduceWindowAdd ![1, 1, 1, 8208] ![1, 1, 1, 1] ![0, 0, 0, 0] ![0, 0, 0, 8207] x
    (broadcastInDim S_ ![] bcast_S_S_ (constant S_ .f32 0x00000000#32))
    reduceWindows_S2x8x8208x8208_S2x8x8208x8208_w1s1p0_0_w1s1p0_0_w1s1p0_0_w8208s1p0_8207 h_S_

/-- The weights. -/
def weights (q k : FVec F S2x8208x1024 .bf16) : FVec F S2x8x8208x8208 .f32 :=
  select mask (Host.exp (addf (logSig (scores q k)) (subf (sums (left q k)) (left q k)))) (splat 0x00000000#32)

/-- The reference's result. -/
def REF (q k v : FVec F S2x8208x1024 .bf16) : FVec F S2x8208x1024 .bf16 :=
  truncf .bf16 (shapeCast S2x8208x1024 (transpose S2x8208x8x128 [0, 2, 1, 3]
    (Host.dotGeneral dot_S2x8x8208x8208_S2x8x8208x128_S2x8x8208x128_3_2_2_3_01_01 none (weights q k) (heads v))
    transposes_S2x8x8208x128_S2x8208x8x128_0_2_1_3) shapeCasts_S2x8208x8x128_S2x8208x1024) bitsLt_bf16_f32

theorem res_eq (m : (ℓ : Loc nD τ sig) → Buf (Elt F) ℓ) (c : Dev nD) :
    Value.res_main_v30 m c = REF (m ((c.tc : Thread nD τ).loc main_arg0)) (m ((c.tc : Thread nD τ).loc main_arg1))
      (m ((c.tc : Thread nD τ).loc main_arg2)) := rfl

end Parts

end Cert.ReferenceIdeal.Att

end
-- ==== Proof.Ref.Value.lean ====
/-
  What the reference computes, entry by entry: the stick-breaking attention of Stick.lean.

  `REF` is the reference's term over its three arrays, with its log-sigmoid, its mask and its scores named. At real arrays each
  part is read at an index: the scores, the log-sigmoid of a real score, the masked `log (1 - β)`, and the reversed running sum
  as a sum over the later keys.
-/
module

public import proofs.«01_k».proof.Proof.Ref.Parts
public import proofs.«01_k».proof.Proof.Stick
public import Idealize.ShloMosaic.Lib.WordCmp

@[expose] public section

set_option maxRecDepth 16384

noncomputable section

namespace Cert.ReferenceIdeal.Att

open Cert.ReferenceIdeal Cert.ReferenceIdeal.Gen Cert.Stick
open Idealize.ShloMosaic Idealize.ShloMosaic.TcCoe

/-! ## The parts at an index -/

theorem splat_zero (j : S2x8x8208x8208.Idx) : splat (F := Ideal) 0x00000000#32 j = 0 := by pointwise [splat]

theorem splat_at (b : BitVec 32) (j : S2x8x8208x8208.Idx) : splat (F := Ideal) b j = Ideal.ofBits .f32 b := by pointwise [splat]

theorem heads_at (x : FVec Ideal S2x8208x1024 .bf16) (b : Fin 2) (h : Fin 8) (i : Fin 8208) (d : Fin 128) :
    heads x (ix4 b h i d) = x (ix3 b i (⟨h.val * 128 + d.val, by omega⟩ : Fin 1024)) := by
  pointwise [heads]

theorem scores_at (q k : FVec Ideal S2x8208x1024 .bf16) (b : Fin 2) (h : Fin 8) (i j : Fin 8208) :
    scores q k (ix4 b h i j) = (∑ d : Fin 128, heads q (ix4 b h i d) * heads k (ix4 b h j d)) * Ideal.ofBits .f32 0x3DB504F3#32 := by
  pointwise [scores, splat]

theorem logSig_at (x : FVec Ideal S2x8x8208x8208 .f32) (j : S2x8x8208x8208.Idx) (r : ℝ) (h : x j = (r : EReal)) :
    logSig x j = ((lb r : ℝ) : EReal) := by
  pointwise [logSig, splat]
  rw [if_neg (not_not.mpr rfl), h]
  exact lb_reference r

theorem mask_at (b : Fin 2) (h : Fin 8) (i j : Fin 8208) : mask (ix4 b h i j) = BitVec.ofBool (decide (j.val < i.val)) := by
  pointwise [mask]
  word_cmp

theorem REF_at (q k v : FVec Ideal S2x8208x1024 .bf16) (b : Fin 2) (i : Fin 8208) (n : Fin 1024) :
    REF q k v (ix3 b i n) = ∑ j : Fin 8208, weights q k (ix4 b (⟨n.val / 128, by omega⟩ : Fin 8) i j)
      * heads v (ix4 b (⟨n.val / 128, by omega⟩ : Fin 8) j (⟨n.val % 128, by omega⟩ : Fin 128)) := by
  pointwise [REF]

/-- The offset the window's `n`-th position stands at. -/
abbrev win (n : Fin (⟨4, ![1, 1, 1, 8208]⟩ : Shape).numel) : (⟨4, ![1, 1, 1, 8208]⟩ : Shape).Idx :=
  (Shape.rowMajor ⟨4, ![1, 1, 1, 8208]⟩).symm n

theorem sums_at (x : FVec Ideal S2x8x8208x8208 .f32) (b : Fin 2) (h : Fin 8) (i j : Fin 8208) :
    sums x (ix4 b h i j) = ∑ w : Fin 8208, if hw : j.val + w.val < 8208 then x (ix4 b h i (⟨j.val + w.val, hw⟩ : Fin 8208)) else 0 := by
  unfold sums Host.reduceWindowAdd
  rw [Ideal.hostReduceWindowAdd_def]
  unfold Ideal.hostReduceWindowAdd Host.reduceWindow
  dsimp only
  rw [foldl_add_finRange, show broadcastInDim (s := S_) S_ ![] bcast_S_S_ (constant (F := Ideal) S_ .f32 0x00000000#32) (Shape.Idx.first h_S_) = 0 from by pointwise,
    zero_add]
  refine (Fintype.sum_equiv (Shape.rowMajor ⟨4, ![1, 1, 1, 8208]⟩).symm _ (fun w : (⟨4, ![1, 1, 1, 8208]⟩ : Shape).Idx =>
    if hw : j.val + (w 3).val < 8208 then x (ix4 b h i (⟨j.val + (w 3).val, hw⟩ : Fin 8208)) else 0) fun n => ?_).trans ?_
  · have w0 : (win n 0).val = 0 := by have : (win n 0).val < 1 := (win n 0).isLt; omega
    have w1 : (win n 1).val = 0 := by have : (win n 1).val < 1 := (win n 1).isLt; omega
    have w2 : (win n 2).val = 0 := by have : (win n 2).val < 1 := (win n 2).isLt; omega
    by_cases hw : j.val + (win n 3).val < 8208
    · rw [dif_pos hw, dif_pos]
      · congr 1
        funext a
        match a with
        | ⟨0, _⟩ => exact Fin.ext (show b.val * 1 + (win n 0).val - 0 = b.val by omega)
        | ⟨1, _⟩ => exact Fin.ext (show h.val * 1 + (win n 1).val - 0 = h.val by omega)
        | ⟨2, _⟩ => exact Fin.ext (show i.val * 1 + (win n 2).val - 0 = i.val by omega)
        | ⟨3, _⟩ => exact Fin.ext (show j.val * 1 + (win n 3).val - 0 = j.val + (win n 3).val by omega)
      · intro a
        match a with
        | ⟨0, _⟩ => show 0 ≤ b.val * 1 + (win n 0).val ∧ b.val * 1 + (win n 0).val - 0 < 2; omega
        | ⟨1, _⟩ => show 0 ≤ h.val * 1 + (win n 1).val ∧ h.val * 1 + (win n 1).val - 0 < 8; omega
        | ⟨2, _⟩ => show 0 ≤ i.val * 1 + (win n 2).val ∧ i.val * 1 + (win n 2).val - 0 < 8208; omega
        | ⟨3, _⟩ => show 0 ≤ j.val * 1 + (win n 3).val ∧ j.val * 1 + (win n 3).val - 0 < 8208; omega
    · rw [dif_neg hw, dif_neg]
      intro H
      have h3 : 0 ≤ j.val * 1 + (win n 3).val ∧ j.val * 1 + (win n 3).val - 0 < 8208 := H 3
      omega
  · rw [sum_idx4, Fin.sum_univ_one, Fin.sum_univ_one, Fin.sum_univ_one]
    rfl

/-! ## Real arrays -/

section Real

variable {q k v : FVec Ideal S2x8208x1024 .bf16} {Q K V : ℕ → ℕ → ℕ → ℝ}
  (hq : ∀ (b : Fin 2) (i : Fin 8208) (n : Fin 1024), q (ix3 b i n) = ((Q b.val i.val n.val : ℝ) : EReal))
  (hk : ∀ (b : Fin 2) (i : Fin 8208) (n : Fin 1024), k (ix3 b i n) = ((K b.val i.val n.val : ℝ) : EReal))
  (hv : ∀ (b : Fin 2) (i : Fin 8208) (n : Fin 1024), v (ix3 b i n) = ((V b.val i.val n.val : ℝ) : EReal))

include hq hk

theorem scores_real (b : Fin 2) (h : Fin 8) (i j : Fin 8208) :
    scores q k (ix4 b h i j) = ((score Q K b.val h.val i.val j.val : ℝ) : EReal) := by
  rw [scores_at, scale_coe]
  unfold score
  rw [EReal.coe_mul, ← coe_sum]
  refine congrArg (· * _) (Finset.sum_congr rfl fun d _ => ?_)
  rw [heads_at, heads_at, hq, hk, ← EReal.coe_mul]

theorem left_real (b : Fin 2) (h : Fin 8) (i j : Fin 8208) :
    left q k (ix4 b h i j) = ((if j.val < i.val then lb (score Q K b.val h.val i.val j.val) - score Q K b.val h.val i.val j.val else 0 : ℝ) : EReal) := by
  unfold left
  show Scalar.select (mask (ix4 b h i j)) (logSig (Host.negf (scores q k)) (ix4 b h i j)) (splat (F := Ideal) 0x00000000#32 (ix4 b h i j)) = _
  rw [mask_at, splat_zero, logSig_at _ _ (-(score Q K b.val h.val i.val j.val)), lb_neg]
  · by_cases hji : j.val < i.val
    · simp [Scalar.select, hji]
    · simp [Scalar.select, hji]
  · show -(scores q k (ix4 b h i j)) = _
    rw [scores_real hq hk, EReal.coe_neg]

theorem later_real (b : Fin 2) (h : Fin 8) (i j : Fin 8208) :
    sums (left q k) (ix4 b h i j) - left q k (ix4 b h i j)
      = ((rest (fun l => score Q K b.val h.val i.val l) i.val (j.val + 1) : ℝ) : EReal) := by
  have hs : sums (left q k) (ix4 b h i j) = ((∑ l ∈ Finset.Ico j.val 8208,
      (if l < i.val then lb (score Q K b.val h.val i.val l) - score Q K b.val h.val i.val l else 0) : ℝ) : EReal) := by
    rw [sums_at, ← window_sum _ _ _ (by omega), ← coe_sum]
    refine Finset.sum_congr rfl fun w _ => ?_
    by_cases hw : j.val + w.val < 8208
    · rw [dif_pos hw, if_pos hw, left_real hq hk]
    · rw [dif_neg hw, if_neg hw]; rfl
  rw [hs, left_real hq hk, ← EReal.coe_sub, Finset.sum_eq_sum_Ico_succ_bot j.isLt, add_sub_cancel_left, Ico_causal _ _ _ _ (by omega)]
  rfl

theorem weights_real (b : Fin 2) (h : Fin 8) (i j : Fin 8208) :
    weights q k (ix4 b h i j)
      = ((if j.val < i.val then wgt (fun l => score Q K b.val h.val i.val l) i.val j.val else 0 : ℝ) : EReal) := by
  unfold weights
  show Scalar.select (mask (ix4 b h i j)) (Ideal.exp (logSig (scores q k) (ix4 b h i j)
    + (sums (left q k) (ix4 b h i j) - left q k (ix4 b h i j)))) (splat (F := Ideal) 0x00000000#32 (ix4 b h i j)) = _
  rw [mask_at, splat_zero, logSig_at _ _ _ (scores_real hq hk b h i j), later_real hq hk, ← EReal.coe_add, exp_coe]
  by_cases hji : j.val < i.val
  · simp [Scalar.select, hji, wgt]
  · simp [Scalar.select, hji]

include hv

/-- The reference's result is the attention. -/
theorem REF_real (b : Fin 2) (i : Fin 8208) (n : Fin 1024) :
    REF q k v (ix3 b i n) = ((attn Q K V b.val i.val n.val : ℝ) : EReal) := by
  rw [REF_at]
  unfold attn att part
  rw [← Ico_causal _ 0 i.val 8208 (by omega), ← Finset.range_eq_Ico, Finset.sum_range, ← coe_sum]
  refine Finset.sum_congr rfl fun j _ => ?_
  rw [weights_real hq hk, heads_at, hv, ← EReal.coe_mul]
  congr 1
  have hn : n.val / 128 * 128 + n.val % 128 = n.val := by omega
  by_cases hji : j.val < i.val
  · rw [if_pos hji, if_pos hji, mul_comm]; simp only [hn]
  · rw [if_neg hji, if_neg hji, zero_mul]

end Real

end Cert.ReferenceIdeal.Att

end
-- ==== Proof.Finite.lean ====
/-
  The precondition at the extended reals: every entry of the three arguments is a real number.
-/
module

public import proofs.«01_k».proof.Pre_finite_args
public import proofs.«01_k».proof.Proof.KI.Value

@[expose] public section

set_option maxRecDepth 16384

noncomputable section

namespace Cert.Finite

open Idealize.ShloMosaic Idealize.ShloMosaic.TcCoe
open Cert.KernelIdeal (S2x8208x1024)
open Cert.KernelIdeal.Att (Holds)

/-- The real numbers of an array, zero outside it. -/
def reals (x : FVec Ideal S2x8208x1024 .bf16) (b i n : ℕ) : ℝ :=
  if h : b < 2 ∧ i < 8208 ∧ n < 1024 then (x (ix3 ⟨b, h.1⟩ ⟨i, h.2.1⟩ ⟨n, h.2.2⟩) : EReal).toReal else 0

theorem bits_and {a b : Prop} [Decidable a] [Decidable b] {x : BitVec 1}
    (h : IntOp.andi (IntOp.andi (BitVec.ofBool (decide a)) (BitVec.ofBool (decide b))) x = 1#1) : (a ∧ b) ∧ x = 1#1 := by
  by_cases ha : a <;> by_cases hb : b <;> simp only [ha, hb, decide_true, decide_false] at h ⊢ <;> revert h <;> revert x <;> decide

theorem bit_one {a : Prop} [Decidable a] (h : BitVec.ofBool (decide a) = 1#1) : a := by
  by_contra ha
  rw [decide_eq_false ha] at h
  exact absurd h (by decide)

theorem real_of_abs {x : EReal} (h : max x (-x) < ⊤) : ((x.toReal : ℝ) : EReal) = x := by
  refine EReal.coe_toReal (fun e => ?_) (fun e => ?_)
  · rw [e] at h; simp at h
  · rw [e] at h; simp at h

theorem holds_reals (x : FVec Ideal S2x8208x1024 .bf16)
    (h : ∀ (b : Fin 2) (i : Fin 8208) (n : Fin 1024), max (x (ix3 b i n) : EReal) (-x (ix3 b i n)) < ⊤) : Holds x (reals x) := by
  refine ⟨fun b i n => ?_, fun b i n hi => dif_neg fun g => by omega⟩
  unfold reals
  rw [dif_pos ⟨b.isLt, i.isLt, n.isLt⟩]
  exact (real_of_abs (h b i n)).symm

variable [Cert.Pre_finite_args.Facts]

theorem entries (q k v : FVec Ideal S2x8208x1024 .bf16) (h : Cert.Pre_finite_args.fn (F := Ideal) q k v = fun _ => 1#1) :
    Holds q (reals q) ∧ Holds k (reals k) ∧ Holds v (reals v) := by
  have top : (Ideal.ofBits .bf16 0x7F80#16 : EReal) = ⊤ := by simp [Ideal.ofBits, Ideal.ieee]
  have key : ∀ (b : Fin 2) (i : Fin 8208) (n : Fin 1024),
      (max (q (ix3 b i n) : EReal) (-q (ix3 b i n)) < ⊤ ∧ max (k (ix3 b i n) : EReal) (-k (ix3 b i n)) < ⊤)
        ∧ max (v (ix3 b i n) : EReal) (-v (ix3 b i n)) < ⊤ := by
    intro b i n
    have hb := congrFun h (ix3 b i n)
    pointwise [Cert.Pre_finite_args.fn] at hb
    rw [top] at hb
    exact ⟨(bits_and hb).1, bit_one (bits_and hb).2⟩
  exact ⟨holds_reals q fun b i n => (key b i n).1.1, holds_reals k fun b i n => (key b i n).1.2, holds_reals v fun b i n => (key b i n).2⟩

end Cert.Finite

end
-- ==== Proof.Latents.Ref.lean ====
/-
  The latents' projections, as the reference writes them: the latents of queries and of keys with values, their norms, and
  from these the queries, the scaled keys and the values of each head, without the parts that carry positions.
-/
module

public import proofs.«01_k».proof.Proof.Gen.Reference10Ideal.Run
public import Idealize.ShloMosaic.Lib.Pointwise

@[expose] public section

set_option maxRecDepth 16384

noncomputable section

namespace Cert.Latents

open Idealize.ShloMosaic Idealize.ShloMosaic.TcCoe

/-- An entry of a row's latent. -/
def lat (x w : Fin 2048 → EReal) : EReal := ∑ k : Fin 2048, x k * w k

theorem lat_congr {x x' w w' : Fin 2048 → EReal} (hx : ∀ k, x k = x' k) (hw : ∀ k, w k = w' k) : lat x w = lat x' w' := by
  rw [funext hx, funext hw]

/-- The root-mean-square norm of a row of `p` entries, `d` the length as a float. -/
def norm {p : Nat} (d : EReal) (y g : Fin p → EReal) (n : Fin p) : EReal :=
  y n * Ideal.rsqrt (Ideal.div (∑ k : Fin p, y k * y k) d + Ideal.ofBits .f32 0x358637BD#32) * g n

theorem norm_congr {p : Nat} {d : EReal} {y y' g g' : Fin p → EReal} (hy : ∀ n, y n = y' n) (hg : ∀ n, g n = g' n) (n : Fin p) :
    norm d y g n = norm d y' g' n := by
  rw [funext hy, funext hg]

/-- An entry of a head, from the normed latent and a column of the weights. -/
def head {p : Nat} (y w : Fin p → EReal) : EReal := ∑ j : Fin p, y j * w j

theorem head_congr {p : Nat} {y y' w w' : Fin p → EReal} (hy : ∀ n, y n = y' n) (hw : ∀ n, w n = w' n) : head y w = head y' w' := by
  rw [funext hy, funext hw]

/-- The lengths of the two latents. -/
def len512 : EReal := Ideal.ofBits .f32 0x44000000#32
def len256 : EReal := Ideal.ofBits .f32 0x43800000#32

/-- The scale of the keys. -/
def scale : EReal := Ideal.ofBits .f32 0x3DD53B95#32

end Cert.Latents

namespace Cert.Reference10Ideal.Latents

open Cert.Reference10Ideal Cert.Reference10Ideal.Gen Cert.Latents
open Idealize.ShloMosaic Idealize.ShloMosaic.TcCoe

variable {F : FTy → Type} [FloatOps F]

/-- The latent of the queries, and its norm. -/
def latQ (x0 : FVec F S2x8208x2048 .bf16) (x1 : FVec F S2x2048x8000 .f32) : FVec F S2x8208x512 .f32 :=
  Host.dotGeneral dot_S2x8208x2048_S2048x512_S2x8208x512_2_0_01_1_n_n none (extf .f32 x0 bitsLt_bf16_f32) (shapeCast _ (extractStridedSlice S1x2048x512 ![0, 0, 3072] x1 slices_S2x2048x8000_S1x2048x512_0_0_3072) shapeCasts_S1x2048x512_S2048x512)

def cQ (x0 : FVec F S2x8208x2048 .bf16) (x1 : FVec F S2x2048x8000 .f32) (x2 : FVec F S2x512 .f32) : FVec F S2x8208x512 .f32 :=
  mulf (mulf (latQ x0 x1) (broadcastInDim S2x8208x512 ![0, 1, 2] bcast_S2x8208x1_S2x8208x512_0_1_2 (Host.rsqrt (addf (Host.divf (broadcastInDim S2x8208x1 ![0, 1] bcast_S2x8208_S2x8208x1_0_1 (Host.reduceAdd (mulf (latQ x0 x1) (latQ x0 x1)) (constant S_ .f32 0x00000000#32) reducesTo_S2x8208x512_S2x8208_d2 h_S_)) (broadcastInDim S2x8208x1 ![] bcast_S_S2x8208x1 (constant S_ .f32 0x44000000#32))) (broadcastInDim S2x8208x1 ![] bcast_S_S2x8208x1 (constant S_ .f32 0x358637BD#32)))))) (broadcastInDim S2x8208x512 ![0, 1, 2] bcast_S1x1x512_S2x8208x512_0_1_2 (broadcastInDim S1x1x512 ![2] bcast_S512_S1x1x512_2 (shapeCast _ (extractStridedSlice S1x512 ![0, 0] x2 slices_S2x512_S1x512_0_0) shapeCasts_S1x512_S512)))

/-- The latent of the keys and the values, and its norm. -/
def latK (x0 : FVec F S2x8208x2048 .bf16) (x1 : FVec F S2x2048x8000 .f32) : FVec F S2x8208x256 .f32 :=
  Host.dotGeneral dot_S2x8208x2048_S2048x256_S2x8208x256_2_0_01_1_n_n none (extf .f32 x0 bitsLt_bf16_f32) (shapeCast _ (extractStridedSlice S1x2048x256 ![0, 0, 3584] x1 slices_S2x2048x8000_S1x2048x256_0_0_3584) shapeCasts_S1x2048x256_S2048x256)

def cK (x0 : FVec F S2x8208x2048 .bf16) (x1 : FVec F S2x2048x8000 .f32) (x4 : FVec F S2x256 .f32) : FVec F S2x8208x256 .f32 :=
  mulf (mulf (latK x0 x1) (broadcastInDim S2x8208x256 ![0, 1, 2] bcast_S2x8208x1_S2x8208x256_0_1_2 (Host.rsqrt (addf (Host.divf (broadcastInDim S2x8208x1 ![0, 1] bcast_S2x8208_S2x8208x1_0_1 (Host.reduceAdd (mulf (latK x0 x1) (latK x0 x1)) (constant S_ .f32 0x00000000#32) reducesTo_S2x8208x256_S2x8208_d2 h_S_)) (broadcastInDim S2x8208x1 ![] bcast_S_S2x8208x1 (constant S_ .f32 0x43800000#32))) (broadcastInDim S2x8208x1 ![] bcast_S_S2x8208x1 (constant S_ .f32 0x358637BD#32)))))) (broadcastInDim S2x8208x256 ![0, 1, 2] bcast_S1x1x256_S2x8208x256_0_1_2 (broadcastInDim S1x1x256 ![2] bcast_S256_S1x1x256_2 (shapeCast _ (extractStridedSlice S1x256 ![0, 0] x4 slices_S2x256_S1x256_0_0) shapeCasts_S1x256_S256)))

/-- The heads' queries. -/
def queries (x0 : FVec F S2x8208x2048 .bf16) (x1 : FVec F S2x2048x8000 .f32) (x2 : FVec F S2x512 .f32) (x3 : FVec F S2x512x1536 .f32) : FVec F S2x8208x8x128 .bf16 :=
  truncf .bf16 (extractStridedSlice S2x8208x8x128 ![0, 0, 0, 0] (shapeCast _ (Host.dotGeneral dot_S2x8208x512_S512x1536_S2x8208x1536_2_0_01_1_n_n none (cQ x0 x1 x2) (shapeCast _ (extractStridedSlice S1x512x1536 ![0, 0, 0] x3 slices_S2x512x1536_S1x512x1536_0_0_0) shapeCasts_S1x512x1536_S512x1536)) shapeCasts_S2x8208x1536_S2x8208x8x192) slices_S2x8208x8x192_S2x8208x8x128_0_0_0_0) bitsLt_bf16_f32

/-- The heads' scaled keys. -/
def keys (x0 : FVec F S2x8208x2048 .bf16) (x1 : FVec F S2x2048x8000 .f32) (x4 : FVec F S2x256 .f32) (x5 : FVec F S2x256x2048 .f32) : FVec F S2x8208x8x128 .bf16 :=
  truncf .bf16 (mulf (extractStridedSlice S2x8208x8x128 ![0, 0, 0, 0] (shapeCast _ (Host.dotGeneral dot_S2x8208x256_S256x2048_S2x8208x2048_2_0_01_1_n_n none (cK x0 x1 x4) (shapeCast _ (extractStridedSlice S1x256x2048 ![0, 0, 0] x5 slices_S2x256x2048_S1x256x2048_0_0_0) shapeCasts_S1x256x2048_S256x2048)) shapeCasts_S2x8208x2048_S2x8208x8x256) slices_S2x8208x8x256_S2x8208x8x128_0_0_0_0) (broadcastInDim S2x8208x8x128 ![] bcast_S_S2x8208x8x128 (constant S_ .f32 0x3DD53B95#32))) bitsLt_bf16_f32

/-- The heads' values. -/
def values (x0 : FVec F S2x8208x2048 .bf16) (x1 : FVec F S2x2048x8000 .f32) (x4 : FVec F S2x256 .f32) (x5 : FVec F S2x256x2048 .f32) : FVec F S2x8208x8x128 .bf16 :=
  truncf .bf16 (extractStridedSlice S2x8208x8x128 ![0, 0, 0, 128] (shapeCast _ (Host.dotGeneral dot_S2x8208x256_S256x2048_S2x8208x2048_2_0_01_1_n_n none (cK x0 x1 x4) (shapeCast _ (extractStridedSlice S1x256x2048 ![0, 0, 0] x5 slices_S2x256x2048_S1x256x2048_0_0_0) shapeCasts_S1x256x2048_S256x2048)) shapeCasts_S2x8208x2048_S2x8208x8x256) slices_S2x8208x8x256_S2x8208x8x128_0_0_0_128) bitsLt_bf16_f32

theorem latQ_at (x0 : FVec Ideal S2x8208x2048 .bf16) (x1 : FVec Ideal S2x2048x8000 .f32) (b : Fin 2) (i : Fin 8208) (n : Fin 512) :
    latQ x0 x1 (ix3 b i n) = lat (fun k => x0 (ix3 b i k)) (fun k => x1 (ix3 (0 : Fin 2) k (⟨3072 + n.val, by omega⟩ : Fin 8000))) := by
  pointwise [latQ]
  rfl

theorem latK_at (x0 : FVec Ideal S2x8208x2048 .bf16) (x1 : FVec Ideal S2x2048x8000 .f32) (b : Fin 2) (i : Fin 8208) (n : Fin 256) :
    latK x0 x1 (ix3 b i n) = lat (fun k => x0 (ix3 b i k)) (fun k => x1 (ix3 (0 : Fin 2) k (⟨3584 + n.val, by omega⟩ : Fin 8000))) := by
  pointwise [latK]
  rfl

theorem cQ_at (x0 : FVec Ideal S2x8208x2048 .bf16) (x1 : FVec Ideal S2x2048x8000 .f32) (x2 : FVec Ideal S2x512 .f32) (b : Fin 2) (i : Fin 8208) (n : Fin 512) :
    cQ x0 x1 x2 (ix3 b i n) = norm len512 (fun j => latQ x0 x1 (ix3 b i j)) (fun j => x2 (ix2 (0 : Fin 2) j)) n := by
  pointwise [cQ]
  rfl

theorem cK_at (x0 : FVec Ideal S2x8208x2048 .bf16) (x1 : FVec Ideal S2x2048x8000 .f32) (x4 : FVec Ideal S2x256 .f32) (b : Fin 2) (i : Fin 8208) (n : Fin 256) :
    cK x0 x1 x4 (ix3 b i n) = norm len256 (fun j => latK x0 x1 (ix3 b i j)) (fun j => x4 (ix2 (0 : Fin 2) j)) n := by
  pointwise [cK]
  rfl

theorem queries_at (x0 : FVec Ideal S2x8208x2048 .bf16) (x1 : FVec Ideal S2x2048x8000 .f32) (x2 : FVec Ideal S2x512 .f32) (x3 : FVec Ideal S2x512x1536 .f32) (b : Fin 2) (i : Fin 8208) (h : Fin 8) (d : Fin 128) :
    queries x0 x1 x2 x3 (ix4 b i h d)
      = head (fun j => cQ x0 x1 x2 (ix3 b i j)) (fun j => x3 (ix3 (0 : Fin 2) j (⟨h.val * 192 + d.val, by omega⟩ : Fin 1536))) := by
  pointwise [queries]
  rfl

theorem keys_at (x0 : FVec Ideal S2x8208x2048 .bf16) (x1 : FVec Ideal S2x2048x8000 .f32) (x4 : FVec Ideal S2x256 .f32) (x5 : FVec Ideal S2x256x2048 .f32) (b : Fin 2) (i : Fin 8208) (h : Fin 8) (d : Fin 128) :
    keys x0 x1 x4 x5 (ix4 b i h d)
      = head (fun j => cK x0 x1 x4 (ix3 b i j)) (fun j => x5 (ix3 (0 : Fin 2) j (⟨h.val * 256 + d.val, by omega⟩ : Fin 2048))) * scale := by
  pointwise [keys]
  rfl

theorem values_at (x0 : FVec Ideal S2x8208x2048 .bf16) (x1 : FVec Ideal S2x2048x8000 .f32) (x4 : FVec Ideal S2x256 .f32) (x5 : FVec Ideal S2x256x2048 .f32) (b : Fin 2) (i : Fin 8208) (h : Fin 8) (d : Fin 128) :
    values x0 x1 x4 x5 (ix4 b i h d)
      = head (fun j => cK x0 x1 x4 (ix3 b i j)) (fun j => x5 (ix3 (0 : Fin 2) j (⟨h.val * 256 + (128 + d.val), by omega⟩ : Fin 2048))) := by
  pointwise [values]
  rfl

end Cert.Reference10Ideal.Latents

end
-- ==== Proof.Latents.Pay.lean ====
/-
  What a grid point of the latents' call computes before it stores, entry by entry.
-/
module

public import proofs.«01_k».proof.Proof.Latents.Ref
public import proofs.«01_k».proof.Proof.Gen.Kernel10Ideal.Frame
public import Idealize.ShloMosaic.Lib.Pipeline.ValueKit

@[expose] public section

set_option maxRecDepth 16384

noncomputable section

namespace Cert.Kernel10Ideal.Latents

open Cert.Kernel10Ideal Cert.Kernel10Ideal.Gen Cert.Latents
open Idealize.ShloMosaic Idealize.ShloMosaic.TcCoe

theorem pay5_at (x : Vec Ideal S256x2048 .bf16) (w : Vec Ideal S1x2048x896 .bf16) (r : Fin 256) (n : Fin 896) :
    k0_pay5 x w (ix2 r n) = lat (fun k => x (ix2 r k)) (fun k => w (ix3 (0 : Fin 1) k n)) := by
  pointwise [k0_pay5]
  rfl

theorem pay6_at (x : Vec Ideal S256x2048 .bf16) (w : Vec Ideal S1x2048x896 .bf16) (g : Vec Ideal S1x512 .f32) (r : Fin 256) (n : Fin 512) :
    k0_pay6 x w g (ix2 r n)
      = norm len512 (fun j : Fin 512 => k0_pay5 x w (ix2 r (⟨j.val, by omega⟩ : Fin 896))) (fun j => g (ix2 (0 : Fin 1) j)) n := by
  pointwise [k0_pay6]
  rfl

theorem pay7_at (x : Vec Ideal S256x2048 .bf16) (w : Vec Ideal S1x2048x896 .bf16) (g : Vec Ideal S1x256 .f32) (r : Fin 256) (n : Fin 256) :
    k0_pay7 x w g (ix2 r n)
      = norm len256 (fun j : Fin 256 => k0_pay5 x w (ix2 r (⟨512 + j.val, by omega⟩ : Fin 896))) (fun j => g (ix2 (0 : Fin 1) j)) n := by
  pointwise [k0_pay7]
  rfl

/-- The heads' queries of 256 rows, turned: one row for each entry of a head. -/
def qs (y : FVec Ideal S256x512 .bf16) (w : Vec Ideal S2048x512 .bf16) : FVec Ideal S2048x256 .f32 :=
  k0_pay10 y (k0_pay9 w) (constant S2048x256 .f32 0x00000000#32)

theorem qs_at (y : FVec Ideal S256x512 .bf16) (w : Vec Ideal S2048x512 .bf16) (n : Fin 2048) (r : Fin 256) :
    qs y w (ix2 n r) = head (fun j => w (ix2 n j)) (fun j => y (ix2 r j)) := by
  pointwise [qs, k0_pay10, k0_pay9]
  rfl

theorem ks_at (y : FVec Ideal S256x256 .bf16) (w : Vec Ideal S256x1024 .bf16) (r : Fin 256) (n : Fin 1024) :
    k0_pay41 y w (ix2 r n) = head (fun j => y (ix2 r j)) (fun j => w (ix2 j n)) * scale := by
  pointwise [k0_pay41]
  rfl

theorem vs_at (y : FVec Ideal S256x256 .bf16) (w : Vec Ideal S1024x256 .bf16) (n : Fin 1024) (r : Fin 256) :
    k0_pay51 y w (ix2 n r) = head (fun j => w (ix2 n j)) (fun j => y (ix2 r j)) := by
  pointwise [k0_pay51]
  rfl

/-! ## The stored tiles, as parts of these -/

theorem pay13_at (y : FVec Ideal S256x512 .bf16) (v : FVec Ideal S2048x512 .bf16) (z : FVec Ideal S2048x256 .f32) (n : Fin 128) (r : Fin 256) :
    k0_pay13 y v z (ix3 (0 : Fin 1) n r) = k0_pay10 y v z (ix2 (⟨0 + n.val, by omega⟩ : Fin 2048) r) := by
  pointwise [k0_pay13]

theorem pay16_at (y : FVec Ideal S256x512 .bf16) (v : FVec Ideal S2048x512 .bf16) (z : FVec Ideal S2048x256 .f32) (n : Fin 128) (r : Fin 256) :
    k0_pay16 y v z (ix3 (0 : Fin 1) n r) = k0_pay10 y v z (ix2 (⟨256 + n.val, by omega⟩ : Fin 2048) r) := by
  pointwise [k0_pay16]

theorem pay20_at (z : FVec Ideal S2048x256 .f32) (n : Fin 128) (r : Fin 256) :
    k0_pay20 z (ix3 (0 : Fin 1) n r) = z (ix2 (⟨512 + n.val, by omega⟩ : Fin 2048) r) := by
  pointwise [k0_pay20]

theorem pay23_at (z : FVec Ideal S2048x256 .f32) (n : Fin 128) (r : Fin 256) :
    k0_pay23 z (ix3 (0 : Fin 1) n r) = z (ix2 (⟨768 + n.val, by omega⟩ : Fin 2048) r) := by
  pointwise [k0_pay23]

theorem pay27_at (z : FVec Ideal S2048x256 .f32) (n : Fin 128) (r : Fin 256) :
    k0_pay27 z (ix3 (0 : Fin 1) n r) = z (ix2 (⟨1024 + n.val, by omega⟩ : Fin 2048) r) := by
  pointwise [k0_pay27]

theorem pay30_at (z : FVec Ideal S2048x256 .f32) (n : Fin 128) (r : Fin 256) :
    k0_pay30 z (ix3 (0 : Fin 1) n r) = z (ix2 (⟨1280 + n.val, by omega⟩ : Fin 2048) r) := by
  pointwise [k0_pay30]

theorem pay34_at (z : FVec Ideal S2048x256 .f32) (n : Fin 128) (r : Fin 256) :
    k0_pay34 z (ix3 (0 : Fin 1) n r) = z (ix2 (⟨1536 + n.val, by omega⟩ : Fin 2048) r) := by
  pointwise [k0_pay34]

theorem pay37_at (z : FVec Ideal S2048x256 .f32) (n : Fin 128) (r : Fin 256) :
    k0_pay37 z (ix3 (0 : Fin 1) n r) = z (ix2 (⟨1792 + n.val, by omega⟩ : Fin 2048) r) := by
  pointwise [k0_pay37]

theorem pay43_at (y : FVec Ideal S256x256 .bf16) (w : Vec Ideal S256x1024 .bf16) (r : Fin 256) (n : Fin 128) :
    k0_pay43 y w (ix2 r n) = k0_pay41 y w (ix2 r (⟨0 + n.val, by omega⟩ : Fin 1024)) := by
  pointwise [k0_pay43]

theorem pay44_at (y : FVec Ideal S256x256 .bf16) (w : Vec Ideal S256x1024 .bf16) (r : Fin 256) (n : Fin 128) :
    k0_pay44 y w (ix2 r n) = k0_pay41 y w (ix2 r (⟨128 + n.val, by omega⟩ : Fin 1024)) := by
  pointwise [k0_pay44]

theorem pay45_at (z : FVec Ideal S256x1024 .f32) (r : Fin 256) (n : Fin 128) :
    k0_pay45 z (ix2 r n) = z (ix2 r (⟨256 + n.val, by omega⟩ : Fin 1024)) := by
  pointwise [k0_pay45]

theorem pay46_at (z : FVec Ideal S256x1024 .f32) (r : Fin 256) (n : Fin 128) :
    k0_pay46 z (ix2 r n) = z (ix2 r (⟨384 + n.val, by omega⟩ : Fin 1024)) := by
  pointwise [k0_pay46]

theorem pay47_at (z : FVec Ideal S256x1024 .f32) (r : Fin 256) (n : Fin 128) :
    k0_pay47 z (ix2 r n) = z (ix2 r (⟨512 + n.val, by omega⟩ : Fin 1024)) := by
  pointwise [k0_pay47]

theorem pay48_at (z : FVec Ideal S256x1024 .f32) (r : Fin 256) (n : Fin 128) :
    k0_pay48 z (ix2 r n) = z (ix2 r (⟨640 + n.val, by omega⟩ : Fin 1024)) := by
  pointwise [k0_pay48]

theorem pay49_at (z : FVec Ideal S256x1024 .f32) (r : Fin 256) (n : Fin 128) :
    k0_pay49 z (ix2 r n) = z (ix2 r (⟨768 + n.val, by omega⟩ : Fin 1024)) := by
  pointwise [k0_pay49]

theorem pay50_at (z : FVec Ideal S256x1024 .f32) (r : Fin 256) (n : Fin 128) :
    k0_pay50 z (ix2 r n) = z (ix2 r (⟨896 + n.val, by omega⟩ : Fin 1024)) := by
  pointwise [k0_pay50]

theorem pay52_at (y : FVec Ideal S256x256 .bf16) (w : Vec Ideal S1024x256 .bf16) (n : Fin 128) (r : Fin 256) :
    k0_pay52 y w (ix3 (0 : Fin 1) n r) = k0_pay51 y w (ix2 (⟨0 + n.val, by omega⟩ : Fin 1024) r) := by
  pointwise [k0_pay52]

theorem pay54_at (y : FVec Ideal S256x256 .bf16) (w : Vec Ideal S1024x256 .bf16) (n : Fin 128) (r : Fin 256) :
    k0_pay54 y w (ix3 (0 : Fin 1) n r) = k0_pay51 y w (ix2 (⟨128 + n.val, by omega⟩ : Fin 1024) r) := by
  pointwise [k0_pay54]

theorem pay56_at (y : FVec Ideal S256x256 .bf16) (w : Vec Ideal S1024x256 .bf16) (n : Fin 128) (r : Fin 256) :
    k0_pay56 y w (ix3 (0 : Fin 1) n r) = k0_pay51 y w (ix2 (⟨256 + n.val, by omega⟩ : Fin 1024) r) := by
  pointwise [k0_pay56]

theorem pay59_at (z : FVec Ideal S1024x256 .f32) (n : Fin 128) (r : Fin 256) :
    k0_pay59 z (ix3 (0 : Fin 1) n r) = z (ix2 (⟨384 + n.val, by omega⟩ : Fin 1024) r) := by
  pointwise [k0_pay59]

theorem pay61_at (z : FVec Ideal S1024x256 .f32) (n : Fin 128) (r : Fin 256) :
    k0_pay61 z (ix3 (0 : Fin 1) n r) = z (ix2 (⟨512 + n.val, by omega⟩ : Fin 1024) r) := by
  pointwise [k0_pay61]

theorem pay63_at (z : FVec Ideal S1024x256 .f32) (n : Fin 128) (r : Fin 256) :
    k0_pay63 z (ix3 (0 : Fin 1) n r) = z (ix2 (⟨640 + n.val, by omega⟩ : Fin 1024) r) := by
  pointwise [k0_pay63]

theorem pay1_at (z : FVec Ideal S1024x256 .f32) (n : Fin 128) (r : Fin 256) :
    k0_pay1 (k0_pay65 z) (ix3 (0 : Fin 1) n r) = z (ix2 (⟨768 + n.val, by omega⟩ : Fin 1024) r) := by
  pointwise [k0_pay1, k0_pay65]

theorem pay3_at (z : FVec Ideal S1024x256 .f32) (n : Fin 128) (r : Fin 256) :
    k0_pay3 z (ix3 (0 : Fin 1) n r) = z (ix2 (⟨896 + n.val, by omega⟩ : Fin 1024) r) := by
  pointwise [k0_pay3]

end Cert.Kernel10Ideal.Latents

end
-- ==== Proof.Latents.Points.lean ====
/-
  What a grid point of the latents' call leaves in its three blocks, at the parts of the heads without positions.
-/
module

public import proofs.«01_k».proof.Proof.Latents.Pay
public import proofs.«01_k».proof.Proof.Gen.Kernel10Ideal.Frame
public import Idealize.ShloMosaic.Lib.Pipeline.ValueKit

@[expose] public section

set_option maxRecDepth 16384

noncomputable section

namespace Cert.Kernel10Ideal.Latents

open Cert.Kernel10Ideal Cert.Kernel10Ideal.Gen Cert.Latents
open Idealize.ShloMosaic Idealize.ShloMosaic.TcCoe

variable (m : (ℓ : Loc nD τ sig) → Buf (Elt Ideal) ℓ) (c : Dev nD)

/-- The normed latents of a point's rows. -/
abbrev normedQ (t : Fin cfg0.N) : FVec Ideal S256x512 .bf16 := k0_pay6 (iblk m c 0 t) (iblk m c 1 t) (iblk m c 2 t)
abbrev normedK (t : Fin cfg0.N) : FVec Ideal S256x256 .bf16 := k0_pay7 (iblk m c 0 t) (iblk m c 1 t) (iblk m c 3 t)

theorem row_eq {p q : Nat} {a a' : Fin p} (r : Fin q) (h : a.val = a'.val) : ix2 a r = ix2 a' r := by rw [Fin.ext h]
theorem col_eq {p q : Nat} {a a' : Fin p} (r : Fin q) (h : a.val = a'.val) : ix2 r a = ix2 r a' := by rw [Fin.ext h]

theorem tile_at (u : S1x128x256.Idx) (r : Fin 256) (h0 : (u 0).val < 1) (h2 : r.val = (u 2).val) : u = ix3 (0 : Fin 1) (u 1 : Fin 128) r := by
  funext a
  fin_cases a
  · exact Fin.ext (Nat.lt_one_iff.mp h0)
  · rfl
  · exact Fin.ext h2.symm

theorem k_at (u : S256x128.Idx) (r : Fin 256) (h0 : r.val = (u 0).val) : u = ix2 r (u 1 : Fin 128) := by
  funext a
  fin_cases a
  · exact Fin.ext h0.symm
  · rfl

/-- The stores of the queries: each head's part without positions, and the rest of the head. -/
abbrev qTiles (y : FVec Ideal S256x512 .bf16) (v : FVec Ideal S2048x512 .bf16) (z : FVec Ideal S2048x256 .f32)
    (a0 b0 a1 b1 a2 b2 a3 b3 a4 b4 a5 b5 a6 b6 a7 b7 : FVec Ideal S1x64x256 .bf16) : List (View.Piece (Elt Ideal) S1x2048x256 .bf16) :=
  [⟨Rect.unit (s := S1x2048x256) ![0, 1984, 0] ![1, 64, 256] inb_S1x2048x256_S1x64x256_0_1984_0, b7⟩,
    ⟨Rect.unit (s := S1x2048x256) ![0, 1920, 0] ![1, 64, 256] inb_S1x2048x256_S1x64x256_0_1920_0, a7⟩,
    ⟨Rect.unit (s := S1x2048x256) ![0, 1792, 0] ![1, 128, 256] inb_S1x2048x256_S1x128x256_0_1792_0, k0_pay37 (k0_pay10 y v z)⟩,
    ⟨Rect.unit (s := S1x2048x256) ![0, 1728, 0] ![1, 64, 256] inb_S1x2048x256_S1x64x256_0_1728_0, b6⟩,
    ⟨Rect.unit (s := S1x2048x256) ![0, 1664, 0] ![1, 64, 256] inb_S1x2048x256_S1x64x256_0_1664_0, a6⟩,
    ⟨Rect.unit (s := S1x2048x256) ![0, 1536, 0] ![1, 128, 256] inb_S1x2048x256_S1x128x256_0_1536_0, k0_pay34 (k0_pay10 y v z)⟩,
    ⟨Rect.unit (s := S1x2048x256) ![0, 1472, 0] ![1, 64, 256] inb_S1x2048x256_S1x64x256_0_1472_0, b5⟩,
    ⟨Rect.unit (s := S1x2048x256) ![0, 1408, 0] ![1, 64, 256] inb_S1x2048x256_S1x64x256_0_1408_0, a5⟩,
    ⟨Rect.unit (s := S1x2048x256) ![0, 1280, 0] ![1, 128, 256] inb_S1x2048x256_S1x128x256_0_1280_0, k0_pay30 (k0_pay10 y v z)⟩,
    ⟨Rect.unit (s := S1x2048x256) ![0, 1216, 0] ![1, 64, 256] inb_S1x2048x256_S1x64x256_0_1216_0, b4⟩,
    ⟨Rect.unit (s := S1x2048x256) ![0, 1152, 0] ![1, 64, 256] inb_S1x2048x256_S1x64x256_0_1152_0, a4⟩,
    ⟨Rect.unit (s := S1x2048x256) ![0, 1024, 0] ![1, 128, 256] inb_S1x2048x256_S1x128x256_0_1024_0, k0_pay27 (k0_pay10 y v z)⟩,
    ⟨Rect.unit (s := S1x2048x256) ![0, 960, 0] ![1, 64, 256] inb_S1x2048x256_S1x64x256_0_960_0, b3⟩,
    ⟨Rect.unit (s := S1x2048x256) ![0, 896, 0] ![1, 64, 256] inb_S1x2048x256_S1x64x256_0_896_0, a3⟩,
    ⟨Rect.unit (s := S1x2048x256) ![0, 768, 0] ![1, 128, 256] inb_S1x2048x256_S1x128x256_0_768_0, k0_pay23 (k0_pay10 y v z)⟩,
    ⟨Rect.unit (s := S1x2048x256) ![0, 704, 0] ![1, 64, 256] inb_S1x2048x256_S1x64x256_0_704_0, b2⟩,
    ⟨Rect.unit (s := S1x2048x256) ![0, 640, 0] ![1, 64, 256] inb_S1x2048x256_S1x64x256_0_640_0, a2⟩,
    ⟨Rect.unit (s := S1x2048x256) ![0, 512, 0] ![1, 128, 256] inb_S1x2048x256_S1x128x256_0_512_0, k0_pay20 (k0_pay10 y v z)⟩,
    ⟨Rect.unit (s := S1x2048x256) ![0, 448, 0] ![1, 64, 256] inb_S1x2048x256_S1x64x256_0_448_0, b1⟩,
    ⟨Rect.unit (s := S1x2048x256) ![0, 384, 0] ![1, 64, 256] inb_S1x2048x256_S1x64x256_0_384_0, a1⟩,
    ⟨Rect.unit (s := S1x2048x256) ![0, 256, 0] ![1, 128, 256] inb_S1x2048x256_S1x128x256_0_256_0, k0_pay16 y v z⟩,
    ⟨Rect.unit (s := S1x2048x256) ![0, 192, 0] ![1, 64, 256] inb_S1x2048x256_S1x64x256_0_192_0, b0⟩,
    ⟨Rect.unit (s := S1x2048x256) ![0, 128, 0] ![1, 64, 256] inb_S1x2048x256_S1x64x256_0_128_0, a0⟩,
    ⟨Rect.unit (s := S1x2048x256) ![0, 0, 0] ![1, 128, 256] inb_S1x2048x256_S1x128x256_0_0_0, k0_pay13 y v z⟩]

theorem q_tiles (y : FVec Ideal S256x512 .bf16) (v : FVec Ideal S2048x512 .bf16) (z : FVec Ideal S2048x256 .f32)
    (a0 b0 a1 b1 a2 b2 a3 b3 a4 b4 a5 b5 a6 b6 a7 b7 : FVec Ideal S1x64x256 .bf16) (e : Fin 8) (d : Fin 128) (r : Fin 256) :
    View.canon (qTiles y v z a0 b0 a1 b1 a2 b2 a3 b3 a4 b4 a5 b5 a6 b6 a7 b7) (ix3 (0 : Fin 1) (⟨e.val * 256 + d.val, by omega⟩ : Fin 2048) r)
      = k0_pay10 y v z (ix2 (⟨e.val * 256 + d.val, by omega⟩ : Fin 2048) r) := by
  unfold qTiles
  canon_tiles u h using View.cover_of_tiledBy _ ![1, 64, 256] (by sl_kernel_rfl) _
  all_goals
    have e1 : e.val * 256 + d.val = _ := h1
    have e2 : r.val = (u 2).val := h2
    have hd := d.isLt
  · exfalso
    omega
  · exfalso
    omega
  · rw [tile_at u r u0_lt e2]
    exact (pay37_at _ _ _).trans (congrArg _ (row_eq _ (by simp only; omega)))
  · exfalso
    omega
  · exfalso
    omega
  · rw [tile_at u r u0_lt e2]
    exact (pay34_at _ _ _).trans (congrArg _ (row_eq _ (by simp only; omega)))
  · exfalso
    omega
  · exfalso
    omega
  · rw [tile_at u r u0_lt e2]
    exact (pay30_at _ _ _).trans (congrArg _ (row_eq _ (by simp only; omega)))
  · exfalso
    omega
  · exfalso
    omega
  · rw [tile_at u r u0_lt e2]
    exact (pay27_at _ _ _).trans (congrArg _ (row_eq _ (by simp only; omega)))
  · exfalso
    omega
  · exfalso
    omega
  · rw [tile_at u r u0_lt e2]
    exact (pay23_at _ _ _).trans (congrArg _ (row_eq _ (by simp only; omega)))
  · exfalso
    omega
  · exfalso
    omega
  · rw [tile_at u r u0_lt e2]
    exact (pay20_at _ _ _).trans (congrArg _ (row_eq _ (by simp only; omega)))
  · exfalso
    omega
  · exfalso
    omega
  · rw [tile_at u r u0_lt e2]
    exact (pay16_at _ _ _ _ _).trans (congrArg _ (row_eq _ (by simp only; omega)))
  · exfalso
    omega
  · exfalso
    omega
  · rw [tile_at u r u0_lt e2]
    exact (pay13_at _ _ _ _ _).trans (congrArg _ (row_eq _ (by simp only; omega)))

/-- The stores of the keys: each head's part without positions, and the rest of the head. -/
abbrev kTiles (y : FVec Ideal S256x256 .bf16) (w : Vec Ideal S256x1024 .bf16)
    (a0 a1 a2 a3 a4 a5 a6 a7 : FVec Ideal S256x128 .bf16) : List (View.Piece (Elt Ideal) S256x2048 .bf16) :=
  [⟨Rect.unit (s := S256x2048) ![0, 1920] ![256, 128] inb_S256x2048_S256x128_0_1920, a7⟩,
    ⟨Rect.unit (s := S256x2048) ![0, 1792] ![256, 128] inb_S256x2048_S256x128_0_1792, k0_pay50 (k0_pay41 y w)⟩,
    ⟨Rect.unit (s := S256x2048) ![0, 1664] ![256, 128] inb_S256x2048_S256x128_0_1664, a6⟩,
    ⟨Rect.unit (s := S256x2048) ![0, 1536] ![256, 128] inb_S256x2048_S256x128_0_1536, k0_pay49 (k0_pay41 y w)⟩,
    ⟨Rect.unit (s := S256x2048) ![0, 1408] ![256, 128] inb_S256x2048_S256x128_0_1408, a5⟩,
    ⟨Rect.unit (s := S256x2048) ![0, 1280] ![256, 128] inb_S256x2048_S256x128_0_1280, k0_pay48 (k0_pay41 y w)⟩,
    ⟨Rect.unit (s := S256x2048) ![0, 1152] ![256, 128] inb_S256x2048_S256x128_0_1152, a4⟩,
    ⟨Rect.unit (s := S256x2048) ![0, 1024] ![256, 128] inb_S256x2048_S256x128_0_1024, k0_pay47 (k0_pay41 y w)⟩,
    ⟨Rect.unit (s := S256x2048) ![0, 896] ![256, 128] inb_S256x2048_S256x128_0_896, a3⟩,
    ⟨Rect.unit (s := S256x2048) ![0, 768] ![256, 128] inb_S256x2048_S256x128_0_768, k0_pay46 (k0_pay41 y w)⟩,
    ⟨Rect.unit (s := S256x2048) ![0, 640] ![256, 128] inb_S256x2048_S256x128_0_640, a2⟩,
    ⟨Rect.unit (s := S256x2048) ![0, 512] ![256, 128] inb_S256x2048_S256x128_0_512, k0_pay45 (k0_pay41 y w)⟩,
    ⟨Rect.unit (s := S256x2048) ![0, 384] ![256, 128] inb_S256x2048_S256x128_0_384, a1⟩,
    ⟨Rect.unit (s := S256x2048) ![0, 256] ![256, 128] inb_S256x2048_S256x128_0_256, k0_pay44 y w⟩,
    ⟨Rect.unit (s := S256x2048) ![0, 128] ![256, 128] inb_S256x2048_S256x128_0_128, a0⟩,
    ⟨Rect.unit (s := S256x2048) ![0, 0] ![256, 128] inb_S256x2048_S256x128_0_0, k0_pay43 y w⟩]

theorem k_tiles (y : FVec Ideal S256x256 .bf16) (w : Vec Ideal S256x1024 .bf16)
    (a0 a1 a2 a3 a4 a5 a6 a7 : FVec Ideal S256x128 .bf16) (e : Fin 8) (d : Fin 128) (r : Fin 256) :
    View.canon (kTiles y w a0 a1 a2 a3 a4 a5 a6 a7) (ix2 r (⟨e.val * 256 + d.val, by omega⟩ : Fin 2048))
      = k0_pay41 y w (ix2 r (⟨e.val * 128 + d.val, by omega⟩ : Fin 1024)) := by
  unfold kTiles
  canon_tiles u h
  all_goals
    have e0 : r.val = (u 0).val := h0
    have e1 : e.val * 256 + d.val = _ := h1
    have hd := d.isLt
  · exfalso
    omega
  · rw [k_at u r e0]
    exact (pay50_at _ _ _).trans (congrArg _ (col_eq _ (by simp only; omega)))
  · exfalso
    omega
  · rw [k_at u r e0]
    exact (pay49_at _ _ _).trans (congrArg _ (col_eq _ (by simp only; omega)))
  · exfalso
    omega
  · rw [k_at u r e0]
    exact (pay48_at _ _ _).trans (congrArg _ (col_eq _ (by simp only; omega)))
  · exfalso
    omega
  · rw [k_at u r e0]
    exact (pay47_at _ _ _).trans (congrArg _ (col_eq _ (by simp only; omega)))
  · exfalso
    omega
  · rw [k_at u r e0]
    exact (pay46_at _ _ _).trans (congrArg _ (col_eq _ (by simp only; omega)))
  · exfalso
    omega
  · rw [k_at u r e0]
    exact (pay45_at _ _ _).trans (congrArg _ (col_eq _ (by simp only; omega)))
  · exfalso
    omega
  · rw [k_at u r e0]
    exact (pay44_at _ _ _ _).trans (congrArg _ (col_eq _ (by simp only; omega)))
  · exfalso
    omega
  · rw [k_at u r e0]
    exact (pay43_at _ _ _ _).trans (congrArg _ (col_eq _ (by simp only; omega)))

/-- The stores of the values: each head's part without positions, and the rest of the head. -/
abbrev vTiles (y : FVec Ideal S256x256 .bf16) (w : Vec Ideal S1024x256 .bf16)
    (a0 a1 a2 a3 a4 a5 a6 a7 : FVec Ideal S1x16x256 .bf16) : List (View.Piece (Elt Ideal) S1x1152x256 .bf16) :=
  [⟨Rect.unit (s := S1x1152x256) ![0, 1136, 0] ![1, 16, 256] inb_S1x1152x256_S1x16x256_0_1136_0, a7⟩,
    ⟨Rect.unit (s := S1x1152x256) ![0, 1008, 0] ![1, 128, 256] inb_S1x1152x256_S1x128x256_0_1008_0, k0_pay3 (k0_pay51 y w)⟩,
    ⟨Rect.unit (s := S1x1152x256) ![0, 992, 0] ![1, 16, 256] inb_S1x1152x256_S1x16x256_0_992_0, a6⟩,
    ⟨Rect.unit (s := S1x1152x256) ![0, 864, 0] ![1, 128, 256] inb_S1x1152x256_S1x128x256_0_864_0, k0_pay1 (k0_pay65 (k0_pay51 y w))⟩,
    ⟨Rect.unit (s := S1x1152x256) ![0, 848, 0] ![1, 16, 256] inb_S1x1152x256_S1x16x256_0_848_0, a5⟩,
    ⟨Rect.unit (s := S1x1152x256) ![0, 720, 0] ![1, 128, 256] inb_S1x1152x256_S1x128x256_0_720_0, k0_pay63 (k0_pay51 y w)⟩,
    ⟨Rect.unit (s := S1x1152x256) ![0, 704, 0] ![1, 16, 256] inb_S1x1152x256_S1x16x256_0_704_0, a4⟩,
    ⟨Rect.unit (s := S1x1152x256) ![0, 576, 0] ![1, 128, 256] inb_S1x1152x256_S1x128x256_0_576_0, k0_pay61 (k0_pay51 y w)⟩,
    ⟨Rect.unit (s := S1x1152x256) ![0, 560, 0] ![1, 16, 256] inb_S1x1152x256_S1x16x256_0_560_0, a3⟩,
    ⟨Rect.unit (s := S1x1152x256) ![0, 432, 0] ![1, 128, 256] inb_S1x1152x256_S1x128x256_0_432_0, k0_pay59 (k0_pay51 y w)⟩,
    ⟨Rect.unit (s := S1x1152x256) ![0, 416, 0] ![1, 16, 256] inb_S1x1152x256_S1x16x256_0_416_0, a2⟩,
    ⟨Rect.unit (s := S1x1152x256) ![0, 288, 0] ![1, 128, 256] inb_S1x1152x256_S1x128x256_0_288_0, k0_pay56 y w⟩,
    ⟨Rect.unit (s := S1x1152x256) ![0, 272, 0] ![1, 16, 256] inb_S1x1152x256_S1x16x256_0_272_0, a1⟩,
    ⟨Rect.unit (s := S1x1152x256) ![0, 144, 0] ![1, 128, 256] inb_S1x1152x256_S1x128x256_0_144_0, k0_pay54 y w⟩,
    ⟨Rect.unit (s := S1x1152x256) ![0, 128, 0] ![1, 16, 256] inb_S1x1152x256_S1x16x256_0_128_0, a0⟩,
    ⟨Rect.unit (s := S1x1152x256) ![0, 0, 0] ![1, 128, 256] inb_S1x1152x256_S1x128x256_0_0_0, k0_pay52 y w⟩]

theorem v_tiles (y : FVec Ideal S256x256 .bf16) (w : Vec Ideal S1024x256 .bf16)
    (a0 a1 a2 a3 a4 a5 a6 a7 : FVec Ideal S1x16x256 .bf16) (e : Fin 8) (d : Fin 128) (r : Fin 256) :
    View.canon (vTiles y w a0 a1 a2 a3 a4 a5 a6 a7) (ix3 (0 : Fin 1) (⟨e.val * 144 + d.val, by omega⟩ : Fin 1152) r)
      = k0_pay51 y w (ix2 (⟨e.val * 128 + d.val, by omega⟩ : Fin 1024) r) := by
  unfold vTiles
  canon_tiles u h using View.cover_of_tiledBy _ ![1, 16, 256] (by sl_kernel_rfl) _
  all_goals
    have e1 : e.val * 144 + d.val = _ := h1
    have e2 : r.val = (u 2).val := h2
    have hd := d.isLt
  · exfalso
    omega
  · rw [tile_at u r u0_lt e2]
    exact (pay3_at _ _ _).trans (congrArg _ (row_eq _ (by simp only; omega)))
  · exfalso
    omega
  · rw [tile_at u r u0_lt e2]
    exact (pay1_at _ _ _).trans (congrArg _ (row_eq _ (by simp only; omega)))
  · exfalso
    omega
  · rw [tile_at u r u0_lt e2]
    exact (pay63_at _ _ _).trans (congrArg _ (row_eq _ (by simp only; omega)))
  · exfalso
    omega
  · rw [tile_at u r u0_lt e2]
    exact (pay61_at _ _ _).trans (congrArg _ (row_eq _ (by simp only; omega)))
  · exfalso
    omega
  · rw [tile_at u r u0_lt e2]
    exact (pay59_at _ _ _).trans (congrArg _ (row_eq _ (by simp only; omega)))
  · exfalso
    omega
  · rw [tile_at u r u0_lt e2]
    exact (pay56_at _ _ _ _).trans (congrArg _ (row_eq _ (by simp only; omega)))
  · exfalso
    omega
  · rw [tile_at u r u0_lt e2]
    exact (pay54_at _ _ _ _).trans (congrArg _ (row_eq _ (by simp only; omega)))
  · exfalso
    omega
  · rw [tile_at u r u0_lt e2]
    exact (pay52_at _ _ _ _).trans (congrArg _ (row_eq _ (by simp only; omega)))

theorem q_point (t : Fin cfg0.N) (e : Fin 8) (d : Fin 128) (r : Fin 256) :
    (outsAt0 m c t).1 (ix3 (0 : Fin 1) (⟨e.val * 256 + d.val, by omega⟩ : Fin 2048) r)
      = qs (normedQ m c t) (iblk m c 4 t) (ix2 (⟨e.val * 256 + d.val, by omega⟩ : Fin 2048) r) := by
  unfold outsAt0
  frame_out
  exact q_tiles _ _ _ _ _ _ _ _ _ _ _ _ _ _ _ _ _ _ _ e d r

theorem k_point (t : Fin cfg0.N) (e : Fin 8) (d : Fin 128) (r : Fin 256) :
    (outsAt0 m c t).2.1 (ix2 r (⟨e.val * 256 + d.val, by omega⟩ : Fin 2048))
      = k0_pay41 (normedK m c t) (iblk m c 5 t) (ix2 r (⟨e.val * 128 + d.val, by omega⟩ : Fin 1024)) := by
  unfold outsAt0
  frame_out
  exact k_tiles _ _ _ _ _ _ _ _ _ _ e d r

theorem v_point (t : Fin cfg0.N) (e : Fin 8) (d : Fin 128) (r : Fin 256) :
    (outsAt0 m c t).2.2 (ix3 (0 : Fin 1) (⟨e.val * 144 + d.val, by omega⟩ : Fin 1152) r)
      = k0_pay51 (normedK m c t) (iblk m c 6 t) (ix2 (⟨e.val * 128 + d.val, by omega⟩ : Fin 1024) r) := by
  unfold outsAt0
  frame_out
  exact v_tiles _ _ _ _ _ _ _ _ _ _ e d r

end Cert.Kernel10Ideal.Latents

end
-- ==== Proof.Latents.Host.lean ====
/-
  The arrays the latents' call starts from, as the host prepares them, and the blocks its points read.
-/
module

public import proofs.«01_k».proof.Proof.Latents.Ref
public import proofs.«01_k».proof.Proof.Gen.Kernel10Ideal.Frame
public import Idealize.ShloMosaic.Lib.Pipeline.ValueKit

@[expose] public section

set_option maxRecDepth 16384

noncomputable section

namespace Cert.Kernel10Ideal.Latents

open Cert.Kernel10Ideal Cert.Kernel10Ideal.Gen Cert.Latents
open Idealize.ShloMosaic Idealize.ShloMosaic.TcCoe

/-- The windows' blocks at a grid point. -/
theorem idx : ∀ t : Fin cfg0.N,
    win0_0.index t = ![t.val, 0] ∧ win0_1.index t = ![0, 0, 0] ∧ win0_2.index t = ![0, 0] ∧ win0_3.index t = ![0, 0]
      ∧ win0_4.index t = ![0, 0] ∧ win0_5.index t = ![0, 0] ∧ win0_6.index t = ![0, 0]
      ∧ win0_11.index t = ![t.val, 0, 0] ∧ win0_12.index t = ![t.val, 0] ∧ win0_13.index t = ![t.val, 0, 0] :=
  (by decide +kernel : ∀ t : Fin grid0.N, _)

theorem lt (t : Fin cfg0.N) : t.val < 66 := lt_of_lt_of_eq t.isLt (show cfg0.N = 66 from N_0)

theorem ix3_eq {p q s : Nat} {a a' : Fin p} {b b' : Fin q} {k k' : Fin s} (ha : a.val = a'.val) (hb : b.val = b'.val) (hk : k.val = k'.val) :
    ix3 a b k = ix3 a' b' k' := by
  rw [Fin.ext ha, Fin.ext hb, Fin.ext hk]

variable (m : (ℓ : Loc nD τ sig) → Buf (Elt Ideal) ℓ) (c : Dev nD)

theorem v54_at (b : Fin 2) (i : Fin 8208) (k : Fin 2048) (R : Fin 16896) (h : R.val = b.val * 8448 + i.val) :
    V m c main_v54 (ix2 R k) = m ((c : Thread nD τ).loc main_arg0) (ix3 b i k) := by
  show StableHlo.after hostOps0 (fun b => m (c, b)) (Proc.devRef .tc main_v54) _ = _
  after_results
  pointwise
  rw [dif_pos (by omega)]
  exact congrArg _ (ix3_eq (by simp only; omega) (by simp only; omega) rfl)

theorem v29_at (k : Fin 2048) (n : Fin 896) (h : n.val < 768) :
    V m c main_v29 (ix3 (0 : Fin 2) k n) = m ((c : Thread nD τ).loc main_arg1) (ix3 (0 : Fin 2) k (⟨3072 + n.val, by omega⟩ : Fin 8000)) := by
  show StableHlo.after hostOps0 (fun b => m (c, b)) (Proc.devRef .tc main_v29) _ = _
  after_results
  pointwise
  rw [dif_pos (by omega)]

theorem v59_at (n : Fin 512) : V m c main_v59 (ix2 (0 : Fin 1) n) = m ((c : Thread nD τ).loc main_arg2) (ix2 (0 : Fin 2) n) := by
  show StableHlo.after hostOps0 (fun b => m (c, b)) (Proc.devRef .tc main_v59) _ = _
  after_results
  pointwise

theorem v60_at (n : Fin 256) : V m c main_v60 (ix2 (0 : Fin 1) n) = m ((c : Thread nD τ).loc main_arg4) (ix2 (0 : Fin 2) n) := by
  show StableHlo.after hostOps0 (fun b => m (c, b)) (Proc.devRef .tc main_v60) _ = _
  after_results
  pointwise

/-- The weights of the queries' parts without positions. -/
def queryWeights (X : FVec Ideal S2x512x1536 .f32) : FVec Ideal S512x8x128 .f32 :=
  extractStridedSlice S512x8x128 ![0, 0, 0] (shapeCast S512x8x192 (shapeCast S512x1536
    (extractStridedSlice S1x512x1536 ![0, 0, 0] X slices_S2x512x1536_S1x512x1536_0_0_0) shapeCasts_S1x512x1536_S512x1536)
    shapeCasts_S512x1536_S512x8x192) slices_S512x8x192_S512x8x128_0_0_0

theorem queryWeights_at (X : FVec Ideal S2x512x1536 .f32) (j : Fin 512) (a : Fin 8) (n : Fin 128) :
    queryWeights X (ix3 j a n) = X (ix3 (0 : Fin 2) j (⟨a.val * 192 + n.val, by omega⟩ : Fin 1536)) := by
  pointwise [queryWeights]

theorem v42_at (h : Fin 8) (d : Fin 128) (j : Fin 512) :
    V m c main_v42 (ix2 (⟨h.val * 256 + d.val, by omega⟩ : Fin 2048) j)
      = m ((c : Thread nD τ).loc main_arg3) (ix3 (0 : Fin 2) j (⟨h.val * 192 + d.val, by omega⟩ : Fin 1536)) := by
  show StableHlo.after hostOps0 (fun b => m (c, b)) (Proc.devRef .tc main_v42) _ = _
  after_results
  pointwise
  rw [dif_pos (by omega)]
  refine Eq.trans (congrFun (?_ : _ = queryWeights (m ((c : Thread nD τ).loc main_arg3))) _) ?_
  · repeat (first
      | rw [StableHlo.unary_result] | rw [StableHlo.reshape_result]
      | (rw [StableHlo.unary_result_ne]; rotate_left; decide)
      | (rw [StableHlo.binary_result_ne]; rotate_left; decide)
      | (rw [StableHlo.nullary_result_ne]; rotate_left; decide)
      | (rw [StableHlo.reshape_result_ne]; rotate_left; decide))
    rfl
  · exact (queryWeights_at _ _ _ _).trans (congrArg _ (ix3_eq rfl rfl (by simp only; omega)))

theorem v48_at (j : Fin 256) (h : Fin 8) (d : Fin 128) :
    V m c main_v48 (ix2 j (⟨h.val * 128 + d.val, by omega⟩ : Fin 1024))
      = m ((c : Thread nD τ).loc main_arg5) (ix3 (0 : Fin 2) j (⟨h.val * 256 + d.val, by omega⟩ : Fin 2048)) := by
  show StableHlo.after hostOps0 (fun b => m (c, b)) (Proc.devRef .tc main_v48) _ = _
  after_results
  pointwise
  exact congrArg _ (ix3_eq rfl rfl (by simp only; omega))

theorem v52_at (h : Fin 8) (d : Fin 128) (j : Fin 256) :
    V m c main_v52 (ix2 (⟨h.val * 128 + d.val, by omega⟩ : Fin 1024) j)
      = m ((c : Thread nD τ).loc main_arg5) (ix3 (0 : Fin 2) j (⟨h.val * 256 + (128 + d.val), by omega⟩ : Fin 2048)) := by
  show StableHlo.after hostOps0 (fun b => m (c, b)) (Proc.devRef .tc main_v52) _ = _
  after_results
  pointwise
  exact congrArg _ (ix3_eq rfl rfl (by simp only; omega))

/-! ## The blocks -/

theorem blk_0 (X : FVec Ideal S16896x2048 .bf16) (t : Fin cfg0.N) (r : Fin 256) (k : Fin 2048) :
    ((cfg0.win 0).blk t).view.read (Elt Ideal) X (ix2 r k) = X (ix2 (⟨t.val * 256 + r.val, by have := lt t; omega⟩ : Fin 16896) k) := by
  blk_ext [idx t]

theorem blk_1 (X : FVec Ideal S2x2048x896 .bf16) (t : Fin cfg0.N) (k : Fin 2048) (n : Fin 896) :
    ((cfg0.win 1).blk t).view.read (Elt Ideal) X (ix3 (0 : Fin 1) k n) = X (ix3 (0 : Fin 2) k n) := by
  blk_ext [idx t]

theorem blk_2 (X : FVec Ideal S1x512 .f32) (t : Fin cfg0.N) (n : Fin 512) :
    ((cfg0.win 2).blk t).view.read (Elt Ideal) X (ix2 (0 : Fin 1) n) = X (ix2 (0 : Fin 1) n) := by
  blk_ext [idx t]

theorem blk_3 (X : FVec Ideal S1x256 .f32) (t : Fin cfg0.N) (n : Fin 256) :
    ((cfg0.win 3).blk t).view.read (Elt Ideal) X (ix2 (0 : Fin 1) n) = X (ix2 (0 : Fin 1) n) := by
  blk_ext [idx t]

theorem blk_4 (X : FVec Ideal S2048x512 .bf16) (t : Fin cfg0.N) (n : Fin 2048) (j : Fin 512) :
    ((cfg0.win 4).blk t).view.read (Elt Ideal) X (ix2 n j) = X (ix2 n j) := by
  blk_ext [idx t]

theorem blk_5 (X : FVec Ideal S256x1024 .bf16) (t : Fin cfg0.N) (j : Fin 256) (n : Fin 1024) :
    ((cfg0.win 5).blk t).view.read (Elt Ideal) X (ix2 j n) = X (ix2 j n) := by
  blk_ext [idx t]

theorem blk_6 (X : FVec Ideal S1024x256 .bf16) (t : Fin cfg0.N) (n : Fin 1024) (j : Fin 256) :
    ((cfg0.win 6).blk t).view.read (Elt Ideal) X (ix2 n j) = X (ix2 n j) := by
  blk_ext [idx t]

end Cert.Kernel10Ideal.Latents

end
-- ==== Proof.Latents.Value.lean ====
/-
  The latents' projections: queries, scaled keys and values of each head, without the parts that carry positions.

  A grid point reads 256 rows of the padded array and the layer's weights, and writes the heads' queries and values turned,
  and the heads' keys row by row. The results are the parts of these arrays that hold no positions, without the padding.
-/
module

public import proofs.«01_k».proof.Proof.Latents.Points
public import proofs.«01_k».proof.Proof.Latents.Host

@[expose] public section

set_option maxRecDepth 16384

noncomputable section

namespace Cert.Kernel10Ideal.Latents

open Cert.Kernel10Ideal Cert.Kernel10Ideal.Gen Cert.Latents
open Idealize.ShloMosaic Idealize.ShloMosaic.TcCoe
open Cert.Reference10Ideal.Latents (queries keys values queries_at keys_at values_at cQ_at cK_at latQ_at latK_at)

variable (m : (ℓ : Loc nD τ sig) → Buf (Elt Ideal) ℓ) (c : Dev nD)

/-! ## The arrays the points leave -/

def point (k : Nat) (h : k < 66) : Fin cfg0.N := ⟨k, lt_of_lt_of_eq h (show 66 = cfg0.N from N_0.symm)⟩

theorem point_eq (t : Fin cfg0.N) (k : Nat) (h : k < 66) (hk : k = t.val) : point k h = t := Fin.ext hk

/-- The three arrays, entry by entry. -/
def qAt (p : Fin 66) (n : Fin 2048) (r : Fin 256) : Ideal .bf16 := (outsAt0 m c (point p.val p.isLt)).1 (ix3 (0 : Fin 1) n r)
def kAt (R : Fin 16896) (n : Fin 2048) : Ideal .bf16 :=
  (outsAt0 m c (point (R.val / 256) (by omega))).2.1 (ix2 (⟨R.val % 256, by omega⟩ : Fin 256) n)
def vAt (p : Fin 66) (n : Fin 1152) (r : Fin 256) : Ideal .bf16 := (outsAt0 m c (point p.val p.isLt)).2.2 (ix3 (0 : Fin 1) n r)

theorem qAt_eq (t : Fin cfg0.N) (p : Fin 66) (n n' : Fin 2048) (r r' : Fin 256) (hp : p.val = t.val) (hn : n.val = n'.val) (hr : r.val = r'.val) :
    (outsAt0 m c t).1 (ix3 (0 : Fin 1) n' r') = qAt m c p n r := by
  unfold qAt
  rw [point_eq t _ _ hp, Fin.ext hn, Fin.ext hr]

theorem kAt_eq (t : Fin cfg0.N) (R : Fin 16896) (n n' : Fin 2048) (r : Fin 256) (hR : R.val = t.val * 256 + r.val) (hn : n.val = n'.val) :
    (outsAt0 m c t).2.1 (ix2 r n') = kAt m c R n := by
  unfold kAt
  rw [point_eq t (R.val / 256) _ (by omega), Fin.ext hn, show (⟨R.val % 256, by omega⟩ : Fin 256) = r from Fin.ext (by simp only; omega)]

theorem vAt_eq (t : Fin cfg0.N) (p : Fin 66) (n n' : Fin 1152) (r r' : Fin 256) (hp : p.val = t.val) (hn : n.val = n'.val) (hr : r.val = r'.val) :
    (outsAt0 m c t).2.2 (ix3 (0 : Fin 1) n' r') = vAt m c p n r := by
  unfold vAt
  rw [point_eq t _ _ hp, Fin.ext hn, Fin.ext hr]

theorem out11 : (dats m 0 c).arrAt 11 cfg0.N = (fun y : S66x2048x256.Idx => qAt m c (y 0) (y 1) (y 2)) := by
  refine (dats m 0 c).arrAt_eq_of_covers 11 _ (by decide +kernel) fun t _ y => ?_
  have hy0 : (y 0).val < 1 := (y 0).isLt
  have hy1 : (y 1).val < 2048 := (y 1).isLt
  have hy2 : (y 2).val < 256 := (y 2).isLt
  have hy : y = ix3 (0 : Fin 1) (⟨(y 1).val, hy1⟩ : Fin 2048) (⟨(y 2).val, hy2⟩ : Fin 256) := by
    funext a
    fin_cases a
    · exact Fin.ext (Nat.lt_one_iff.mp hy0)
    · rfl
    · rfl
  have ht := lt t
  blk_simp [idx t]
  rw [after0_11]
  refine (congrArg (outsAt0 m c t).1 hy).trans (qAt_eq m c t _ _ ⟨_, hy1⟩ _ ⟨_, hy2⟩ ?_ ?_ ?_)
  all_goals blk_simp [idx t] <;> try omega

theorem out12 : (dats m 0 c).arrAt 12 cfg0.N = (fun y : S16896x2048.Idx => kAt m c (y 0) (y 1)) := by
  refine (dats m 0 c).arrAt_eq_of_covers 12 _ (by decide +kernel) fun t _ y => ?_
  have hy0 : (y 0).val < 256 := (y 0).isLt
  have hy1 : (y 1).val < 2048 := (y 1).isLt
  have hy : y = ix2 (⟨(y 0).val, hy0⟩ : Fin 256) (⟨(y 1).val, hy1⟩ : Fin 2048) := by
    funext a
    fin_cases a <;> rfl
  have ht := lt t
  blk_simp [idx t]
  rw [after0_12]
  refine (congrArg (outsAt0 m c t).2.1 hy).trans (kAt_eq m c t _ _ ⟨_, hy1⟩ ⟨_, hy0⟩ ?_ ?_)
  all_goals blk_simp [idx t] <;> try omega

theorem out13 : (dats m 0 c).arrAt 13 cfg0.N = (fun y : S66x1152x256.Idx => vAt m c (y 0) (y 1) (y 2)) := by
  refine (dats m 0 c).arrAt_eq_of_covers 13 _ (by decide +kernel) fun t _ y => ?_
  have hy0 : (y 0).val < 1 := (y 0).isLt
  have hy1 : (y 1).val < 1152 := (y 1).isLt
  have hy2 : (y 2).val < 256 := (y 2).isLt
  have hy : y = ix3 (0 : Fin 1) (⟨(y 1).val, hy1⟩ : Fin 1152) (⟨(y 2).val, hy2⟩ : Fin 256) := by
    funext a
    fin_cases a
    · exact Fin.ext (Nat.lt_one_iff.mp hy0)
    · rfl
    · rfl
  have ht := lt t
  blk_simp [idx t]
  rw [after0_13]
  refine (congrArg (outsAt0 m c t).2.2 hy).trans (vAt_eq m c t _ _ ⟨_, hy1⟩ _ ⟨_, hy2⟩ ?_ ?_ ?_)
  all_goals blk_simp [idx t] <;> try omega

/-! ## The results: the parts without positions, without the padding -/

def cropQ (X : FVec Ideal S66x2048x256 .bf16) : FVec Ideal S2x8208x8x128 .bf16 :=
  extractStridedSlice S2x8208x8x128 ![0, 0, 0, 0] (shapeCast S2x8208x8x256 (extractStridedSlice S2x8208x2048 ![0, 0, 0]
    (shapeCast S2x8448x2048 (shapeCast S16896x2048 (transpose S66x256x2048 [0, 2, 1] X transposes_S66x2048x256_S66x256x2048_0_2_1)
      shapeCasts_S66x256x2048_S16896x2048) shapeCasts_S16896x2048_S2x8448x2048) slices_S2x8448x2048_S2x8208x2048_0_0_0)
    shapeCasts_S2x8208x2048_S2x8208x8x256) slices_S2x8208x8x256_S2x8208x8x128_0_0_0_0

def cropK (X : FVec Ideal S16896x2048 .bf16) : FVec Ideal S2x8208x8x128 .bf16 :=
  extractStridedSlice S2x8208x8x128 ![0, 0, 0, 0] (shapeCast S2x8208x8x256 (extractStridedSlice S2x8208x2048 ![0, 0, 0]
    (shapeCast S2x8448x2048 X shapeCasts_S16896x2048_S2x8448x2048) slices_S2x8448x2048_S2x8208x2048_0_0_0)
    shapeCasts_S2x8208x2048_S2x8208x8x256) slices_S2x8208x8x256_S2x8208x8x128_0_0_0_0

def cropV (X : FVec Ideal S66x1152x256 .bf16) : FVec Ideal S2x8208x8x128 .bf16 :=
  extractStridedSlice S2x8208x8x128 ![0, 0, 0, 0] (shapeCast S2x8208x8x144 (extractStridedSlice S2x8208x1152 ![0, 0, 0]
    (shapeCast S2x8448x1152 (shapeCast S16896x1152 (transpose S66x256x1152 [0, 2, 1] X transposes_S66x1152x256_S66x256x1152_0_2_1)
      shapeCasts_S66x256x1152_S16896x1152) shapeCasts_S16896x1152_S2x8448x1152) slices_S2x8448x1152_S2x8208x1152_0_0_0)
    shapeCasts_S2x8208x1152_S2x8208x8x144) slices_S2x8208x8x144_S2x8208x8x128_0_0_0_0

theorem cropQ_at (X : FVec Ideal S66x2048x256 .bf16) (b : Fin 2) (i : Fin 8208) (e : Fin 8) (d : Fin 128) :
    cropQ X (ix4 b i e d) = X (ix3 (⟨b.val * 33 + i.val / 256, by omega⟩ : Fin 66) (⟨e.val * 256 + d.val, by omega⟩ : Fin 2048)
      (⟨i.val % 256, by omega⟩ : Fin 256)) := by
  pointwise [cropQ]

theorem cropK_at (X : FVec Ideal S16896x2048 .bf16) (b : Fin 2) (i : Fin 8208) (e : Fin 8) (d : Fin 128) :
    cropK X (ix4 b i e d) = X (ix2 (⟨b.val * 8448 + i.val, by omega⟩ : Fin 16896) (⟨e.val * 256 + d.val, by omega⟩ : Fin 2048)) := by
  pointwise [cropK]

theorem cropV_at (X : FVec Ideal S66x1152x256 .bf16) (b : Fin 2) (i : Fin 8208) (e : Fin 8) (d : Fin 128) :
    cropV X (ix4 b i e d) = X (ix3 (⟨b.val * 33 + i.val / 256, by omega⟩ : Fin 66) (⟨e.val * 144 + d.val, by omega⟩ : Fin 1152)
      (⟨i.val % 256, by omega⟩ : Fin 256)) := by
  pointwise [cropV]

def resultQ : FVec Ideal S2x8208x8x128 .bf16 := cropQ ((dats m 0 c).arrAt 11 cfg0.N)
def resultK : FVec Ideal S2x8208x8x128 .bf16 := cropK ((dats m 0 c).arrAt 12 cfg0.N)
def resultV : FVec Ideal S2x8208x8x128 .bf16 := cropV ((dats m 0 c).arrAt 13 cfg0.N)

/-- The kernel's start, read at the arguments. -/
abbrev hn : FVec Ideal S2x8208x2048 .bf16 := m ((c : Thread nD τ).loc main_arg0)
abbrev wIn : FVec Ideal S2x2048x8000 .f32 := m ((c : Thread nD τ).loc main_arg1)
abbrev gQ : FVec Ideal S2x512 .f32 := m ((c : Thread nD τ).loc main_arg2)
abbrev wQ : FVec Ideal S2x512x1536 .f32 := m ((c : Thread nD τ).loc main_arg3)
abbrev gK : FVec Ideal S2x256 .f32 := m ((c : Thread nD τ).loc main_arg4)
abbrev wKV : FVec Ideal S2x256x2048 .f32 := m ((c : Thread nD τ).loc main_arg5)

theorem lat_of (t : Fin cfg0.N) (r : Fin 256) (b : Fin 2) (i : Fin 8208) (h : t.val * 256 + r.val = b.val * 8448 + i.val)
    (n : Fin 896) (hn' : n.val < 768) :
    k0_pay5 (iblk m c 0 t) (iblk m c 1 t) (ix2 r n)
      = lat (fun k => hn m c (ix3 b i k)) (fun k => wIn m c (ix3 (0 : Fin 2) k (⟨3072 + n.val, by omega⟩ : Fin 8000))) :=
  (pay5_at _ _ r n).trans (lat_congr (fun k => (blk_0 (V m c main_v54) t r k).trans (v54_at m c b i k _ h))
    (fun k => (blk_1 (V m c main_v29) t k n).trans (v29_at m c k n hn')))

theorem normedQ_of (t : Fin cfg0.N) (r : Fin 256) (b : Fin 2) (i : Fin 8208) (h : t.val * 256 + r.val = b.val * 8448 + i.val) (n : Fin 512) :
    normedQ m c t (ix2 r n) = Cert.Reference10Ideal.Latents.cQ (hn m c) (wIn m c) (gQ m c) (ix3 b i n) := by
  rw [cQ_at]
  refine (pay6_at _ _ _ r n).trans (norm_congr (fun j => ?_) (fun j => (blk_2 (V m c main_v59) t j).trans (v59_at m c j)) n)
  rw [latQ_at]
  exact lat_of m c t r b i h _ (by simp only; omega)

theorem normedK_of (t : Fin cfg0.N) (r : Fin 256) (b : Fin 2) (i : Fin 8208) (h : t.val * 256 + r.val = b.val * 8448 + i.val) (n : Fin 256) :
    normedK m c t (ix2 r n) = Cert.Reference10Ideal.Latents.cK (hn m c) (wIn m c) (gK m c) (ix3 b i n) := by
  rw [cK_at]
  refine (pay7_at _ _ _ r n).trans (norm_congr (fun j => ?_) (fun j => (blk_3 (V m c main_v60) t j).trans (v60_at m c j)) n)
  rw [latK_at]
  refine (lat_of m c t r b i h _ (by simp only; omega)).trans (lat_congr (fun _ => rfl) fun k => ?_)
  exact congrArg (wIn m c) (ix3_eq rfl rfl (by simp only; omega))

theorem swap {p : Nat} (y w : Fin p → EReal) : head w y = head y w := Finset.sum_congr rfl fun _ _ => mul_comm _ _

theorem row_of (b : Fin 2) (i : Fin 8208) : (b.val * 33 + i.val / 256) * 256 + i.val % 256 = b.val * 8448 + i.val := by omega

theorem q_row (k : Nat) (hk : k < 66) (r : Fin 256) (b : Fin 2) (i : Fin 8208) (h : k * 256 + r.val = b.val * 8448 + i.val) (j : Fin 512) :
    normedQ m c (point k hk) (ix2 r j) = Cert.Reference10Ideal.Latents.cQ (hn m c) (wIn m c) (gQ m c) (ix3 b i j) :=
  normedQ_of m c (point k hk) r b i h j

theorem k_row (k : Nat) (hk : k < 66) (r : Fin 256) (b : Fin 2) (i : Fin 8208) (h : k * 256 + r.val = b.val * 8448 + i.val) (j : Fin 256) :
    normedK m c (point k hk) (ix2 r j) = Cert.Reference10Ideal.Latents.cK (hn m c) (wIn m c) (gK m c) (ix3 b i j) :=
  normedK_of m c (point k hk) r b i h j

theorem q_entry (t : Fin cfg0.N) (e : Fin 8) (d : Fin 128) (r : Fin 256) :
    (outsAt0 m c t).1 (ix3 (0 : Fin 1) (⟨e.val * 256 + d.val, by omega⟩ : Fin 2048) r)
      = head (fun j => normedQ m c t (ix2 r j)) (fun j => wQ m c (ix3 (0 : Fin 2) j (⟨e.val * 192 + d.val, by omega⟩ : Fin 1536))) := by
  rw [q_point, qs_at, swap]
  exact head_congr (fun _ => rfl) fun j => (blk_4 (V m c main_v42) t _ j).trans (v42_at m c e d j)

theorem k_entry (t : Fin cfg0.N) (e : Fin 8) (d : Fin 128) (r : Fin 256) :
    (outsAt0 m c t).2.1 (ix2 r (⟨e.val * 256 + d.val, by omega⟩ : Fin 2048))
      = head (fun j => normedK m c t (ix2 r j)) (fun j => wKV m c (ix3 (0 : Fin 2) j (⟨e.val * 256 + d.val, by omega⟩ : Fin 2048))) * scale := by
  rw [k_point, ks_at]
  exact congrArg (fun x : EReal => x * scale)
    (head_congr (fun _ => rfl) fun j => (blk_5 (V m c main_v48) t j _).trans (v48_at m c j e d))

theorem v_entry (t : Fin cfg0.N) (e : Fin 8) (d : Fin 128) (r : Fin 256) :
    (outsAt0 m c t).2.2 (ix3 (0 : Fin 1) (⟨e.val * 144 + d.val, by omega⟩ : Fin 1152) r)
      = head (fun j => normedK m c t (ix2 r j))
          (fun j => wKV m c (ix3 (0 : Fin 2) j (⟨e.val * 256 + (128 + d.val), by omega⟩ : Fin 2048))) := by
  rw [v_point, vs_at, swap]
  exact head_congr (fun _ => rfl) fun j => (blk_6 (V m c main_v52) t _ j).trans (v52_at m c e d j)

theorem q_of (p : Fin 66) (r : Fin 256) (b : Fin 2) (i : Fin 8208) (h : p.val * 256 + r.val = b.val * 8448 + i.val) (e : Fin 8) (d : Fin 128) :
    qAt m c p (⟨e.val * 256 + d.val, by omega⟩ : Fin 2048) r = queries (hn m c) (wIn m c) (gQ m c) (wQ m c) (ix4 b i e d) := by
  unfold qAt
  rw [q_entry, queries_at]
  exact head_congr (fun j => q_row m c _ _ r b i h j) fun _ => rfl

theorem k_of (R : Fin 16896) (b : Fin 2) (i : Fin 8208) (h : R.val = b.val * 8448 + i.val) (e : Fin 8) (d : Fin 128) :
    kAt m c R (⟨e.val * 256 + d.val, by omega⟩ : Fin 2048) = keys (hn m c) (wIn m c) (gK m c) (wKV m c) (ix4 b i e d) := by
  unfold kAt
  rw [k_entry, keys_at]
  exact congrArg (fun x : EReal => x * scale)
    (head_congr (fun j => k_row m c _ _ _ b i (by simp only; omega) j) fun _ => rfl)

theorem v_of (p : Fin 66) (r : Fin 256) (b : Fin 2) (i : Fin 8208) (h : p.val * 256 + r.val = b.val * 8448 + i.val) (e : Fin 8) (d : Fin 128) :
    vAt m c p (⟨e.val * 144 + d.val, by omega⟩ : Fin 1152) r = values (hn m c) (wIn m c) (gK m c) (wKV m c) (ix4 b i e d) := by
  unfold vAt
  rw [v_entry, values_at]
  exact head_congr (fun j => k_row m c _ _ r b i h j) fun _ => rfl

theorem resultQ_at (b : Fin 2) (i : Fin 8208) (e : Fin 8) (d : Fin 128) :
    resultQ m c (ix4 b i e d) = queries (hn m c) (wIn m c) (gQ m c) (wQ m c) (ix4 b i e d) := by
  unfold resultQ
  rw [cropQ_at, out11]
  exact q_of m c ⟨b.val * 33 + i.val / 256, by omega⟩ ⟨i.val % 256, by omega⟩ b i (row_of b i) e d

theorem resultK_at (b : Fin 2) (i : Fin 8208) (e : Fin 8) (d : Fin 128) :
    resultK m c (ix4 b i e d) = keys (hn m c) (wIn m c) (gK m c) (wKV m c) (ix4 b i e d) := by
  unfold resultK
  rw [cropK_at, out12]
  exact k_of m c ⟨b.val * 8448 + i.val, by omega⟩ b i rfl e d

theorem resultV_at (b : Fin 2) (i : Fin 8208) (e : Fin 8) (d : Fin 128) :
    resultV m c (ix4 b i e d) = values (hn m c) (wIn m c) (gK m c) (wKV m c) (ix4 b i e d) := by
  unfold resultV
  rw [cropV_at, out13]
  exact v_of m c ⟨b.val * 33 + i.val / 256, by omega⟩ ⟨i.val % 256, by omega⟩ b i (row_of b i) e d

theorem ix_of (y : S2x8208x8x128.Idx) : y = ix4 (y 0 : Fin 2) (y 1 : Fin 8208) (y 2 : Fin 8) (y 3 : Fin 128) := by
  funext a
  fin_cases a <;> rfl

theorem resultQ_eq : resultQ m c = queries (hn m c) (wIn m c) (gQ m c) (wQ m c) := by
  funext y
  rw [ix_of y]
  exact resultQ_at m c _ _ _ _

theorem resultK_eq : resultK m c = keys (hn m c) (wIn m c) (gK m c) (wKV m c) := by
  funext y
  rw [ix_of y]
  exact resultK_at m c _ _ _ _

theorem resultV_eq : resultV m c = values (hn m c) (wIn m c) (gK m c) (wKV m c) := by
  funext y
  rw [ix_of y]
  exact resultV_at m c _ _ _ _

/-! ## The run -/

theorem tailQ (σ : Valuation τ sig (Elt Ideal)) : StableHlo.after hostOps1 σ (Proc.devRef .tc main_v75) = cropQ (σ (Proc.devRef .tc main_v61_0)) := by
  after_results
  rfl

theorem tailK (σ : Valuation τ sig (Elt Ideal)) : StableHlo.after hostOps1 σ (Proc.devRef .tc main_v76) = cropK (σ (Proc.devRef .tc main_v61_1)) := by
  after_results
  rfl

theorem tailV (σ : Valuation τ sig (Elt Ideal)) : StableHlo.after hostOps1 σ (Proc.devRef .tc main_v77) = cropV (σ (Proc.devRef .tc main_v61_2)) := by
  after_results
  rfl

theorem resQ : Pipeline.afterTail₀ cfgs (dats m) 0 (V0 m) [hostOps1] c main_v75 = resultQ m c := by
  unfold Pipeline.afterTail₀ resultQ
  rw [show [hostOps1 (F := Ideal)].flatten = hostOps1 from rfl]
  exact (tailQ _).trans (congrArg cropQ (Pipeline.withArrays_arr spec0 (by decide) c _ (fun w => (dats m 0 c).arrAt w cfg0.N) 11))

theorem resK : Pipeline.afterTail₀ cfgs (dats m) 0 (V0 m) [hostOps1] c main_v76 = resultK m c := by
  unfold Pipeline.afterTail₀ resultK
  rw [show [hostOps1 (F := Ideal)].flatten = hostOps1 from rfl]
  exact (tailK _).trans (congrArg cropK (Pipeline.withArrays_arr spec0 (by decide) c _ (fun w => (dats m 0 c).arrAt w cfg0.N) 12))

theorem resV : Pipeline.afterTail₀ cfgs (dats m) 0 (V0 m) [hostOps1] c main_v77 = resultV m c := by
  unfold Pipeline.afterTail₀ resultV
  rw [show [hostOps1 (F := Ideal)].flatten = hostOps1 from rfl]
  exact (tailV _).trans (congrArg cropV (Pipeline.withArrays_arr spec0 (by decide) c _ (fun w => (dats m 0 c).arrAt w cfg0.N) 13))

theorem restQ : main_v75 ∈ Pipeline.restRefs sig spec0 := by decide
theorem restK : main_v76 ∈ Pipeline.restRefs sig spec0 := by decide
theorem restV : main_v77 ∈ Pipeline.restRefs sig spec0 := by decide

/-- The program's run, read at its three results. -/
theorem run (ρ : Dev nD → PrngReg) : θ_run defs (onTc (τ := τ) (main (F := Ideal))) (s₀ m ρ) fun r =>
    ∀ c : Dev nD, r.2.mem ((c : Thread nD τ).loc main_v75) = resultQ m c ∧ r.2.mem ((c : Thread nD τ).loc main_v76) = resultK m c
      ∧ r.2.mem ((c : Thread nD τ).loc main_v77) = resultV m c :=
  θ_run_mono (run_main m ρ) fun _ hr c =>
    ⟨((hr c).2 main_v75 restQ).trans (resQ m c), ((hr c).2 main_v76 restK).trans (resK m c), ((hr c).2 main_v77 restV).trans (resV m c)⟩

end Cert.Kernel10Ideal.Latents

end
-- ==== Proof.Rows.lean ====
/-
  The norm of a row over the extended reals, as the model writes it.
-/
module

public import Idealize.ShloMosaic.Lib.Pointwise

@[expose] public section

set_option maxRecDepth 16384

noncomputable section

namespace Cert.Rows

open Idealize.ShloMosaic Idealize.ShloMosaic.TcCoe

/-- The root-mean-square norm of a row of 2048 entries, at one place. -/
def norm (y g : Fin 2048 → EReal) (n : Fin 2048) : EReal :=
  y n * Ideal.rsqrt (Ideal.div (∑ k : Fin 2048, y k * y k) (Ideal.ofBits .f32 0x45000000#32) + Ideal.ofBits .f32 0x358637BD#32) * g n

theorem norm_congr {y y' g g' : Fin 2048 → EReal} (hy : ∀ n, y n = y' n) (hg : ∀ n, g n = g' n) (n : Fin 2048) :
    norm y g n = norm y' g' n := by
  rw [funext hy, funext hg]

end Cert.Rows

end
-- ==== Proof.Down.Ref.lean ====
/-
  The last call's reference, entry by entry: residual plus down projection, then the norm of the row.
-/
module

public import proofs.«01_k».proof.Proof.Gen.Reference2Ideal.Run
public import proofs.«01_k».proof.Proof.Rows

@[expose] public section

set_option maxRecDepth 16384

noncomputable section

namespace Cert.Reference2Ideal.Down

open Cert.Reference2Ideal Cert.Reference2Ideal.Gen Cert.Rows
open Idealize.ShloMosaic Idealize.ShloMosaic.TcCoe

variable {F : FTy → Type} [FloatOps F]

/-- The rows before the norm. -/
def hidden (a : FVec F S2x8208x5632 .bf16) (h : FVec F S2x8208x2048 .f32) (w : FVec F S2x5632x2048 .f32) : FVec F S2x8192x2048 .f32 :=
  extractStridedSlice S2x8192x2048 ![0, 16, 0] (addf h (Host.dotGeneral dot_S2x8208x5632_S5632x2048_S2x8208x2048_2_0_01_1_n_n none (extf .f32 a bitsLt_bf16_f32) (shapeCast S5632x2048 (extractStridedSlice S1x5632x2048 ![1, 0, 0] w slices_S2x5632x2048_S1x5632x2048_1_0_0) shapeCasts_S1x5632x2048_S5632x2048))) slices_S2x8208x2048_S2x8192x2048_0_16_0

/-- The reference's result. -/
def REF (a : FVec F S2x8208x5632 .bf16) (h : FVec F S2x8208x2048 .f32) (w : FVec F S2x5632x2048 .f32) (g : FVec F S2048 .f32) :
    FVec F S16384x2048 .f32 :=
  shapeCast S16384x2048 (mulf (mulf (hidden a h w) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (hidden a h w) (hidden a h w)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) shapeCasts_S2x8192x2048_S16384x2048

theorem hidden_at (a : FVec Ideal S2x8208x5632 .bf16) (h : FVec Ideal S2x8208x2048 .f32) (w : FVec Ideal S2x5632x2048 .f32)
    (b : Fin 2) (i : Fin 8192) (n : Fin 2048) : hidden a h w (ix3 b i n)
      = h (ix3 b (⟨16 + i.val, by omega⟩ : Fin 8208) n) + ∑ k : Fin 5632, a (ix3 b (⟨16 + i.val, by omega⟩ : Fin 8208) k) * w (ix3 (1 : Fin 2) k n) := by
  pointwise [hidden]

theorem REF_at (a : FVec Ideal S2x8208x5632 .bf16) (h : FVec Ideal S2x8208x2048 .f32) (w : FVec Ideal S2x5632x2048 .f32)
    (g : FVec Ideal S2048 .f32) (r : Fin 16384) (n : Fin 2048) : REF a h w g (ix2 r n)
      = norm (fun k => hidden a h w (ix3 (⟨r.val / 8192, by omega⟩ : Fin 2) (⟨r.val % 8192, by omega⟩ : Fin 8192) k)) (fun k => g (ix1 k)) n := by
  pointwise [REF]
  rfl

end Cert.Reference2Ideal.Down

end
-- ==== Proof.Down.Value.lean ====
/-
  The last call: down projection, residual, and the final norm of the kept rows.

  A grid point reads 256 rows of the padded activations and of the residual stream, 16 rows on from the start of a sequence, and
  writes the normed rows. `final` is the whole output array: the reference's term over the program's arguments.
-/
module

public import proofs.«01_k».proof.Proof.Down.Ref
public import proofs.«01_k».proof.Proof.Gen.Kernel2Ideal.Frame
public import Idealize.ShloMosaic.Lib.Pipeline.ValueKit

@[expose] public section

set_option maxRecDepth 16384

noncomputable section

namespace Cert.Kernel2Ideal.Down

open Cert.Kernel2Ideal Cert.Kernel2Ideal.Gen Cert.Rows
open Idealize.ShloMosaic Idealize.ShloMosaic.TcCoe
open Cert.Reference2Ideal.Down (hidden REF hidden_at REF_at)

/-- The windows' blocks at a grid point. -/
theorem idx : ∀ t : Fin cfg0.N,
    win0_0.index t = ![(grid0.coords t 0).val / 32 * 8448 + 16 + (grid0.coords t 0).val % 32 * 256, 0]
      ∧ win0_1.index t = ![(grid0.coords t 0).val / 32 * 8448 + 16 + (grid0.coords t 0).val % 32 * 256, 0]
      ∧ win0_2.index t = ![1, 0, 0] ∧ win0_3.index t = ![0, 0] ∧ win0_4.index t = ![(grid0.coords t 0).val, 0] :=
  (by decide +kernel : ∀ t : Fin grid0.N, _)

theorem coord (t : Fin cfg0.N) : (grid0.coords t 0).val < 64 := (grid0.coords t 0).isLt

variable (m : (ℓ : Loc nD τ sig) → Buf (Elt Ideal) ℓ) (c : Dev nD)

theorem ix3_eq {p q s : Nat} {a a' : Fin p} {b b' : Fin q} {k : Fin s} (ha : a.val = a'.val) (hb : b.val = b'.val) : ix3 a b k = ix3 a' b' k := by
  rw [Fin.ext ha, Fin.ext hb]

/-- What the body stores, at a place of the block. -/
theorem pay_at (h : Vec Ideal S256x2048 .f32) (a : Vec Ideal S256x5632 .bf16) (w : Vec Ideal S1x5632x2048 .bf16) (g : Vec Ideal S1x2048 .f32)
    (r : Fin 256) (n : Fin 2048) : k0_pay1 h a w g (ix2 r n)
      = norm (fun n => (h (ix2 r n) : EReal) + ∑ k : Fin 5632, (a (ix2 r k) : EReal) * w (ix3 (0 : Fin 1) k n)) (fun n => g (ix2 (0 : Fin 1) n)) n := by
  pointwise [k0_pay1]
  rfl

/-! ## The padded arrays and the blocks of them -/

theorem v1_at (b : Fin 2) (i : Fin 8208) (k : Fin 5632) (R : Fin 16896) (h : R.val = b.val * 8448 + i.val) :
    V m c main_v1 (ix2 R k) = m ((c : Thread nD τ).loc main_arg0) (ix3 b i k) := by
  unfold V
  after_results
  pointwise
  rw [dif_pos (by omega)]
  exact congrArg _ (ix3_eq (by simp only; omega) (by simp only; omega))

theorem v3_at (b : Fin 2) (i : Fin 8208) (k : Fin 2048) (R : Fin 16896) (h : R.val = b.val * 8448 + i.val) :
    V m c main_v3 (ix2 R k) = m ((c : Thread nD τ).loc main_arg1) (ix3 b i k) := by
  unfold V
  after_results
  pointwise
  rw [dif_pos (by omega)]
  exact congrArg _ (ix3_eq (by simp only; omega) (by simp only; omega))

theorem v4_at (l : Fin 2) (k : Fin 5632) (n : Fin 2048) :
    V m c main_v4 (ix3 l k n) = m ((c : Thread nD τ).loc main_arg2) (ix3 l k n) := by
  unfold V
  after_results
  pointwise

theorem v5_at (l : Fin 1) (n : Fin 2048) : V m c main_v5 (ix2 l n) = m ((c : Thread nD τ).loc main_arg3) (ix1 n) := by
  unfold V
  after_results
  pointwise

theorem blk_0 (X : FVec Ideal S16896x5632 .bf16) (t : Fin cfg0.N) (r : Fin 256) (k : Fin 5632) (R : Fin 16896)
    (hR : R.val = (grid0.coords t 0).val / 32 * 8448 + 16 + (grid0.coords t 0).val % 32 * 256 + r.val) :
    (((cfg0).win 0).blk t).view.read (Elt Ideal) X (ix2 r k) = X (ix2 R k) := by
  refine congrArg X (funext fun a => Fin.ext ?_)
  refine (ValueKit.view_emb_slice_whole_unit_val main_v1 _ _ _ _ _).trans ?_
  refine (congrArg (· + _) (congrFun (idx t).1 a)).trans ?_
  fin_cases a
  · exact hR.symm
  · exact Nat.zero_add _

theorem blk_1 (X : FVec Ideal S16896x2048 .f32) (t : Fin cfg0.N) (r : Fin 256) (k : Fin 2048) (R : Fin 16896)
    (hR : R.val = (grid0.coords t 0).val / 32 * 8448 + 16 + (grid0.coords t 0).val % 32 * 256 + r.val) :
    (((cfg0).win 1).blk t).view.read (Elt Ideal) X (ix2 r k) = X (ix2 R k) := by
  refine congrArg X (funext fun a => Fin.ext ?_)
  refine (ValueKit.view_emb_slice_whole_unit_val main_v3 _ _ _ _ _).trans ?_
  refine (congrArg (· + _) (congrFun (idx t).2.1 a)).trans ?_
  fin_cases a
  · exact hR.symm
  · exact Nat.zero_add _

theorem blk_2 (X : FVec Ideal S2x5632x2048 .bf16) (t : Fin cfg0.N) (k : Fin 5632) (n : Fin 2048) :
    (((cfg0).win 2).blk t).view.read (Elt Ideal) X (ix3 (0 : Fin 1) k n) = X (ix3 (1 : Fin 2) k n) := by
  blk_ext [idx t]

theorem blk_3 (X : FVec Ideal S1x2048 .f32) (t : Fin cfg0.N) (n : Fin 2048) :
    (((cfg0).win 3).blk t).view.read (Elt Ideal) X (ix2 (0 : Fin 1) n) = X (ix2 (0 : Fin 1) n) := by
  blk_ext [idx t]

/-! ## The output array -/

theorem point (t : Fin cfg0.N) (r : Fin 256) (n : Fin 2048) (R : Fin 16384) (hR : R.val = (grid0.coords t 0).val * 256 + r.val) :
    k0_pay1 (iblk m c 1 t) (iblk m c 0 t) (iblk m c 2 t) (iblk m c 3 t) (ix2 r n)
      = REF (m ((c : Thread nD τ).loc main_arg0)) (m ((c : Thread nD τ).loc main_arg1)) (m ((c : Thread nD τ).loc main_arg2))
          (m ((c : Thread nD τ).loc main_arg3)) (ix2 R n) := by
  have hc := coord t
  have hb : (grid0.coords t 0).val / 32 < 2 := by omega
  have hi : 16 + ((grid0.coords t 0).val % 32 * 256 + r.val) < 8208 := by omega
  have hP : (grid0.coords t 0).val / 32 * 8448 + 16 + (grid0.coords t 0).val % 32 * 256 + r.val < 16896 := by omega
  refine (pay_at _ _ _ _ r n).trans (.trans ?_ (REF_at _ _ _ _ R n).symm)
  refine norm_congr (fun n => ?_) (fun n => ?_) n
  · refine .trans (congrArg₂ (· + ·)
      ((blk_1 (V m c main_v3) t r n ⟨_, hP⟩ rfl).trans (v3_at m c ⟨_, hb⟩ ⟨_, hi⟩ n _ (by simp only; omega)))
      (Finset.sum_congr rfl fun k _ => congrArg₂ (· * ·)
        ((blk_0 (V m c main_v1) t r k ⟨_, hP⟩ rfl).trans (v1_at m c ⟨_, hb⟩ ⟨_, hi⟩ k _ (by simp only; omega)))
        ((blk_2 (V m c main_v4) t k n).trans (v4_at m c 1 k n)))) ?_
    refine .trans ?_ (hidden_at _ _ _ _ _ n).symm
    have e1 : (⟨(grid0.coords t 0).val / 32, hb⟩ : Fin 2) = ⟨R.val / 8192, by omega⟩ := Fin.ext (by simp only; omega)
    have e2 : (⟨16 + ((grid0.coords t 0).val % 32 * 256 + r.val), hi⟩ : Fin 8208) = ⟨16 + R.val % 8192, by omega⟩ :=
      Fin.ext (by simp only; omega)
    rw [e1, e2]
  · exact (blk_3 (V m c main_v5) t n).trans (v5_at m c 0 n)

theorem final : (dats m 0 c).arrAt 4 cfg0.N
      = (fun y : S16384x2048.Idx => REF (F := Ideal) (m ((c : Thread nD τ).loc main_arg0)) (m ((c : Thread nD τ).loc main_arg1)) (m ((c : Thread nD τ).loc main_arg2))
          (m ((c : Thread nD τ).loc main_arg3)) y) := by
  refine (dats m 0 c).arrAt_eq_of_covers 4 _ (by decide +kernel) fun t _ y => ?_
  have hy0 : (y 0).val < 256 := (y 0).isLt
  have hy1 : (y 1).val < 2048 := (y 1).isLt
  have hc := coord t
  blk_simp [idx t]
  rw [after0_4]
  frame_out
  refine (congrArg _ (?_ : y = ix2 (⟨(y 0).val, hy0⟩ : Fin 256) (⟨(y 1).val, hy1⟩ : Fin 2048))).trans
    ((point m c t ⟨_, hy0⟩ ⟨_, hy1⟩ ⟨(grid0.coords t 0).val * 256 + (y 0).val, by omega⟩ rfl).trans (congrArg _ ?_))
  · funext a
    fin_cases a <;> rfl
  · funext a
    refine Fin.ext ?_
    fin_cases a
    · blk_simp [idx t]
      rfl
    · blk_simp [idx t]
      rfl

end Cert.Kernel2Ideal.Down

end
-- ==== Proof.Merge.Ref.lean ====
/-
  The merge of the two attentions, as the reference writes it, and its elements.
-/
module

public import proofs.«01_k».proof.Proof.Gen.Reference3Ideal.Run
public import proofs.«01_k».proof.Proof.Rows

@[expose] public section

set_option maxRecDepth 16384

noncomputable section

namespace Cert.Rows

/-- One row of the merged residual stream: the stream, and the gated sum of the two attentions' projections, projected. -/
def merge (o p : Fin 1024 → EReal) (e f h : Fin 2048 → EReal) (v w : Fin 1024 → Fin 2048 → EReal) (z : Fin 2048 → Fin 2048 → EReal)
    (n : Fin 2048) : EReal :=
  h n + ∑ k : Fin 2048, (e k * (∑ j : Fin 1024, o j * v j k) + f k * ∑ j : Fin 1024, p j * w j k) * z k n

theorem merge_congr {o o' p p' : Fin 1024 → EReal} {e e' f f' h h' : Fin 2048 → EReal} {v v' w w' : Fin 1024 → Fin 2048 → EReal}
    {z z' : Fin 2048 → Fin 2048 → EReal} (ho : ∀ j, o j = o' j) (hp : ∀ j, p j = p' j) (he : ∀ k, e k = e' k) (hf : ∀ k, f k = f' k)
    (hh : ∀ k, h k = h' k) (hv : ∀ j k, v j k = v' j k) (hw : ∀ j k, w j k = w' j k) (hz : ∀ k n, z k n = z' k n) (n : Fin 2048) :
    merge o p e f h v w z n = merge o' p' e' f' h' v' w' z' n := by
  rw [funext ho, funext hp, funext he, funext hf, funext hh, funext fun j => funext (hv j), funext fun j => funext (hw j),
    funext fun k => funext (hz k)]

end Cert.Rows

namespace Cert.Reference3Ideal.Merge

open Cert.Reference3Ideal Cert.Reference3Ideal.Gen Cert.Rows
open Idealize.ShloMosaic Idealize.ShloMosaic.TcCoe

variable {F : FTy → Type} [FloatOps F]

/-- The merged residual stream. -/
def merged (x0 : FVec F S2x8208x1024 .bf16) (x1 : FVec F S2x8208x1024 .bf16) (x2 : FVec F S2x8208x4096 .bf16) (x3 : FVec F S2x8208x2048 .f32) (x4 : FVec F S2x1024x2048 .f32) (x5 : FVec F S2x1024x2048 .f32) (x6 : FVec F S2x2048x2048 .f32) : FVec F S2x8208x2048 .f32 :=
  addf x3 (Host.dotGeneral dot_S2x8208x2048_S2048x2048_S2x8208x2048_2_0_01_1_n_n none (addf (mulf (extractStridedSlice S2x8208x2048 ![0, 0, 0] (extf .f32 x2 bitsLt_bf16_f32) slices_S2x8208x4096_S2x8208x2048_0_0_0) (Host.dotGeneral dot_S2x8208x1024_S1024x2048_S2x8208x2048_2_0_01_1_n_n none (extf .f32 x0 bitsLt_bf16_f32) (shapeCast _ (extractStridedSlice S1x1024x2048 ![0, 0, 0] x4 slices_S2x1024x2048_S1x1024x2048_0_0_0) shapeCasts_S1x1024x2048_S1024x2048))) (mulf (extractStridedSlice S2x8208x2048 ![0, 0, 2048] (extf .f32 x2 bitsLt_bf16_f32) slices_S2x8208x4096_S2x8208x2048_0_0_2048) (Host.dotGeneral dot_S2x8208x1024_S1024x2048_S2x8208x2048_2_0_01_1_n_n none (extf .f32 x1 bitsLt_bf16_f32) (shapeCast _ (extractStridedSlice S1x1024x2048 ![0, 0, 0] x5 slices_S2x1024x2048_S1x1024x2048_0_0_0) shapeCasts_S1x1024x2048_S1024x2048)))) (shapeCast _ (extractStridedSlice S1x2048x2048 ![0, 0, 0] x6 slices_S2x2048x2048_S1x2048x2048_0_0_0) shapeCasts_S1x2048x2048_S2048x2048))

/-- Its norm. -/
def normed (x0 : FVec F S2x8208x1024 .bf16) (x1 : FVec F S2x8208x1024 .bf16) (x2 : FVec F S2x8208x4096 .bf16) (x3 : FVec F S2x8208x2048 .f32) (x4 : FVec F S2x1024x2048 .f32) (x5 : FVec F S2x1024x2048 .f32) (x6 : FVec F S2x2048x2048 .f32) (x7 : FVec F S2x2048 .f32) : FVec F S2x8208x2048 .bf16 :=
  truncf .bf16 (mulf (mulf (merged x0 x1 x2 x3 x4 x5 x6) (broadcastInDim S2x8208x2048 ![0, 1, 2] bcast_S2x8208x1_S2x8208x2048_0_1_2 (Host.rsqrt (addf (Host.divf (broadcastInDim S2x8208x1 ![0, 1] bcast_S2x8208_S2x8208x1_0_1 (Host.reduceAdd (mulf (merged x0 x1 x2 x3 x4 x5 x6) (merged x0 x1 x2 x3 x4 x5 x6)) (constant S_ .f32 0x00000000#32) reducesTo_S2x8208x2048_S2x8208_d2 h_S_)) (broadcastInDim S2x8208x1 ![] bcast_S_S2x8208x1 (constant S_ .f32 0x45000000#32))) (broadcastInDim S2x8208x1 ![] bcast_S_S2x8208x1 (constant S_ .f32 0x358637BD#32)))))) (broadcastInDim S2x8208x2048 ![0, 1, 2] bcast_S1x1x2048_S2x8208x2048_0_1_2 (broadcastInDim S1x1x2048 ![2] bcast_S2048_S1x1x2048_2 (shapeCast _ (extractStridedSlice S1x2048 ![0, 0] x7 slices_S2x2048_S1x2048_0_0) shapeCasts_S1x2048_S2048)))) bitsLt_bf16_f32

theorem res_eq (m : (ℓ : Loc nD τ sig) → Buf (Elt F) ℓ) (c : Dev nD) : Value.res_main_v33 m c
    = normed (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem merged_at (x0 : FVec Ideal S2x8208x1024 .bf16) (x1 : FVec Ideal S2x8208x1024 .bf16) (x2 : FVec Ideal S2x8208x4096 .bf16) (x3 : FVec Ideal S2x8208x2048 .f32) (x4 : FVec Ideal S2x1024x2048 .f32) (x5 : FVec Ideal S2x1024x2048 .f32) (x6 : FVec Ideal S2x2048x2048 .f32) (b : Fin 2) (i : Fin 8208) (n : Fin 2048) :
    merged x0 x1 x2 x3 x4 x5 x6 (ix3 b i n)
      = merge (fun j => x0 (ix3 b i j)) (fun j => x1 (ix3 b i j)) (fun k => x2 (ix3 b i (⟨k.val, by omega⟩ : Fin 4096)))
          (fun k => x2 (ix3 b i (⟨2048 + k.val, by omega⟩ : Fin 4096))) (fun k => x3 (ix3 b i k))
          (fun j k => x4 (ix3 (0 : Fin 2) j k)) (fun j k => x5 (ix3 (0 : Fin 2) j k)) (fun k n => x6 (ix3 (0 : Fin 2) k n)) n := by
  pointwise [merged]
  rfl

theorem normed_at (x0 : FVec Ideal S2x8208x1024 .bf16) (x1 : FVec Ideal S2x8208x1024 .bf16) (x2 : FVec Ideal S2x8208x4096 .bf16) (x3 : FVec Ideal S2x8208x2048 .f32) (x4 : FVec Ideal S2x1024x2048 .f32) (x5 : FVec Ideal S2x1024x2048 .f32) (x6 : FVec Ideal S2x2048x2048 .f32) (x7 : FVec Ideal S2x2048 .f32) (b : Fin 2) (i : Fin 8208) (n : Fin 2048) :
    normed x0 x1 x2 x3 x4 x5 x6 x7 (ix3 b i n)
      = norm (fun k => merged x0 x1 x2 x3 x4 x5 x6 (ix3 b i k)) (fun k => x7 (ix2 (0 : Fin 2) k)) n := by
  pointwise [normed]
  rfl

end Cert.Reference3Ideal.Merge

end
-- ==== Proof.Merge.Value.lean ====
/-
  The merge: both attentions' projections, gates, output projection, residual, and the norm before the feed-forward part.

  A grid point reads 256 rows of the padded arrays and the layer's weights, and writes the merged rows and the normed rows.
-/
module

public import proofs.«01_k».proof.Proof.Merge.Ref
public import proofs.«01_k».proof.Proof.Gen.Kernel3Ideal.Frame
public import Idealize.ShloMosaic.Lib.Pipeline.ValueKit

@[expose] public section

set_option maxRecDepth 16384

noncomputable section

namespace Cert.Kernel3Ideal.Merge

open Cert.Kernel3Ideal Cert.Kernel3Ideal.Gen Cert.Rows
open Idealize.ShloMosaic Idealize.ShloMosaic.TcCoe
open Cert.Reference3Ideal.Merge (merged normed merged_at normed_at)

/-- The windows' blocks at a grid point. -/
theorem idx : ∀ t : Fin cfg0.N,
    win0_0.index t = ![(grid0.coords t 0).val, 0] ∧ win0_1.index t = ![(grid0.coords t 0).val, 0]
      ∧ win0_2.index t = ![(grid0.coords t 0).val, 0] ∧ win0_3.index t = ![(grid0.coords t 0).val, 0]
      ∧ win0_4.index t = ![0, 0, 0] ∧ win0_5.index t = ![0, 0, 0] ∧ win0_6.index t = ![0, 0, 0] ∧ win0_7.index t = ![0, 0]
      ∧ win0_8.index t = ![(grid0.coords t 0).val, 0] ∧ win0_9.index t = ![(grid0.coords t 0).val, 0] :=
  (by decide +kernel : ∀ t : Fin grid0.N, _)

theorem coord (t : Fin cfg0.N) : (grid0.coords t 0).val < 66 := (grid0.coords t 0).isLt

theorem ix3_eq {p q s : Nat} {a a' : Fin p} {b b' : Fin q} {k : Fin s} (ha : a.val = a'.val) (hb : b.val = b'.val) : ix3 a b k = ix3 a' b' k := by
  rw [Fin.ext ha, Fin.ext hb]

/-! ## What the body stores -/

theorem pay2_at (v0 v5 : Vec Ideal S256x1024 .bf16) (v2 v7 : Vec Ideal S1x1024x2048 .bf16) (v10 v14 : Vec Ideal S256x2048 .bf16)
    (v19 : Vec Ideal S256x2048 .f32) (v22 : Vec Ideal S1x2048x2048 .bf16) (r : Fin 256) (n : Fin 2048) :
    k0_pay2 v0 v2 v5 v7 v10 v14 v19 v22 (ix2 r n)
      = merge (fun j => v0 (ix2 r j)) (fun j => v5 (ix2 r j)) (fun k => v10 (ix2 r k)) (fun k => v14 (ix2 r k)) (fun k => v19 (ix2 r k))
          (fun j k => v2 (ix3 (0 : Fin 1) j k)) (fun j k => v7 (ix3 (0 : Fin 1) j k)) (fun k n => v22 (ix3 (0 : Fin 1) k n)) n := by
  pointwise [k0_pay2]
  rfl

theorem pay1_at (v0 v5 : Vec Ideal S256x1024 .bf16) (v2 v7 : Vec Ideal S1x1024x2048 .bf16) (v10 v14 : Vec Ideal S256x2048 .bf16)
    (v19 : Vec Ideal S256x2048 .f32) (v22 : Vec Ideal S1x2048x2048 .bf16) (v27 : Vec Ideal S1x2048 .f32) (r : Fin 256) (n : Fin 2048) :
    k0_pay1 (k0_pay2 v0 v2 v5 v7 v10 v14 v19 v22) (k0_pay3 v27) (k0_pay4 v0 v2 v5 v7 v10 v14 v19 v22) (ix2 r n)
      = norm (fun k => k0_pay2 v0 v2 v5 v7 v10 v14 v19 v22 (ix2 r k)) (fun k => v27 (ix2 (0 : Fin 1) k)) n := by
  pointwise [k0_pay1, k0_pay3, k0_pay4]
  rfl

/-- The two halves of a block of gates. -/
theorem ld_lo (X : Vec Ideal S256x4096 .bf16) (r : Fin 256) (k : Fin 2048) :
    View.ld X r0_2 (ix2 r k) = X (ix2 r (⟨k.val, by omega⟩ : Fin 4096)) := by
  refine congrArg X (funext fun a => Fin.ext ?_)
  refine (ValueKit.rect_emb_unit_val _ _ _ _ _).trans ?_
  fin_cases a
  · exact Nat.zero_add _
  · exact Nat.zero_add _

theorem ld_hi (X : Vec Ideal S256x4096 .bf16) (r : Fin 256) (k : Fin 2048) :
    View.ld X r0_3 (ix2 r k) = X (ix2 r (⟨2048 + k.val, by omega⟩ : Fin 4096)) := by
  refine congrArg X (funext fun a => Fin.ext ?_)
  refine (ValueKit.rect_emb_unit_val _ _ _ _ _).trans ?_
  fin_cases a
  · exact Nat.zero_add _
  · rfl

variable (m : (ℓ : Loc nD τ sig) → Buf (Elt Ideal) ℓ) (c : Dev nD)

/-! ## The arrays at the kernel's start -/

theorem v1_at (b : Fin 2) (i : Fin 8208) (k : Fin 1024) (R : Fin 16896) (h : R.val = b.val * 8448 + i.val) :
    V m c main_v1 (ix2 R k) = m ((c : Thread nD τ).loc main_arg0) (ix3 b i k) := by
  show StableHlo.after hostOps0 (fun b => m (c, b)) (Proc.devRef .tc main_v1) _ = _
  after_results
  pointwise
  rw [dif_pos (by omega)]
  exact congrArg _ (ix3_eq (by simp only; omega) (by simp only; omega))

theorem v3_at (b : Fin 2) (i : Fin 8208) (k : Fin 1024) (R : Fin 16896) (h : R.val = b.val * 8448 + i.val) :
    V m c main_v3 (ix2 R k) = m ((c : Thread nD τ).loc main_arg1) (ix3 b i k) := by
  show StableHlo.after hostOps0 (fun b => m (c, b)) (Proc.devRef .tc main_v3) _ = _
  after_results
  pointwise
  rw [dif_pos (by omega)]
  exact congrArg _ (ix3_eq (by simp only; omega) (by simp only; omega))

theorem v5_at (b : Fin 2) (i : Fin 8208) (k : Fin 4096) (R : Fin 16896) (h : R.val = b.val * 8448 + i.val) :
    V m c main_v5 (ix2 R k) = m ((c : Thread nD τ).loc main_arg2) (ix3 b i k) := by
  show StableHlo.after hostOps0 (fun b => m (c, b)) (Proc.devRef .tc main_v5) _ = _
  after_results
  pointwise
  rw [dif_pos (by omega)]
  exact congrArg _ (ix3_eq (by simp only; omega) (by simp only; omega))

theorem v7_at (b : Fin 2) (i : Fin 8208) (k : Fin 2048) (R : Fin 16896) (h : R.val = b.val * 8448 + i.val) :
    V m c main_v7 (ix2 R k) = m ((c : Thread nD τ).loc main_arg3) (ix3 b i k) := by
  show StableHlo.after hostOps0 (fun b => m (c, b)) (Proc.devRef .tc main_v7) _ = _
  after_results
  pointwise
  rw [dif_pos (by omega)]
  exact congrArg _ (ix3_eq (by simp only; omega) (by simp only; omega))

theorem v8_at (l : Fin 2) (k : Fin 1024) (n : Fin 2048) :
    V m c main_v8 (ix3 l k n) = m ((c : Thread nD τ).loc main_arg4) (ix3 l k n) := by
  show StableHlo.after hostOps0 (fun b => m (c, b)) (Proc.devRef .tc main_v8) _ = _
  after_results
  pointwise

theorem v9_at (l : Fin 2) (k : Fin 1024) (n : Fin 2048) :
    V m c main_v9 (ix3 l k n) = m ((c : Thread nD τ).loc main_arg5) (ix3 l k n) := by
  show StableHlo.after hostOps0 (fun b => m (c, b)) (Proc.devRef .tc main_v9) _ = _
  after_results
  pointwise

theorem v10_at (l : Fin 2) (k : Fin 2048) (n : Fin 2048) :
    V m c main_v10 (ix3 l k n) = m ((c : Thread nD τ).loc main_arg6) (ix3 l k n) := by
  show StableHlo.after hostOps0 (fun b => m (c, b)) (Proc.devRef .tc main_v10) _ = _
  after_results
  pointwise

theorem v13_at (n : Fin 2048) : V m c main_v13 (ix2 (0 : Fin 1) n) = m ((c : Thread nD τ).loc main_arg7) (ix2 (0 : Fin 2) n) := by
  show StableHlo.after hostOps0 (fun b => m (c, b)) (Proc.devRef .tc main_v13) _ = _
  after_results
  pointwise

/-! ## The blocks -/

theorem blk_0 (X : FVec Ideal S16896x1024 .bf16) (t : Fin cfg0.N) (r : Fin 256) (k : Fin 1024) :
    ((cfg0.win 0).blk t).view.read (Elt Ideal) X (ix2 r k)
      = X (ix2 (⟨(grid0.coords t 0).val * 256 + r.val, by have := coord t; omega⟩ : Fin 16896) k) := by
  blk_ext [idx t]

theorem blk_1 (X : FVec Ideal S16896x1024 .bf16) (t : Fin cfg0.N) (r : Fin 256) (k : Fin 1024) :
    ((cfg0.win 1).blk t).view.read (Elt Ideal) X (ix2 r k)
      = X (ix2 (⟨(grid0.coords t 0).val * 256 + r.val, by have := coord t; omega⟩ : Fin 16896) k) := by
  blk_ext [idx t]

theorem blk_2 (X : FVec Ideal S16896x4096 .bf16) (t : Fin cfg0.N) (r : Fin 256) (k : Fin 4096) :
    ((cfg0.win 2).blk t).view.read (Elt Ideal) X (ix2 r k)
      = X (ix2 (⟨(grid0.coords t 0).val * 256 + r.val, by have := coord t; omega⟩ : Fin 16896) k) := by
  blk_ext [idx t]

theorem blk_3 (X : FVec Ideal S16896x2048 .f32) (t : Fin cfg0.N) (r : Fin 256) (k : Fin 2048) :
    ((cfg0.win 3).blk t).view.read (Elt Ideal) X (ix2 r k)
      = X (ix2 (⟨(grid0.coords t 0).val * 256 + r.val, by have := coord t; omega⟩ : Fin 16896) k) := by
  blk_ext [idx t]

theorem blk_4 (X : FVec Ideal S2x1024x2048 .bf16) (t : Fin cfg0.N) (k : Fin 1024) (n : Fin 2048) :
    ((cfg0.win 4).blk t).view.read (Elt Ideal) X (ix3 (0 : Fin 1) k n) = X (ix3 (0 : Fin 2) k n) := by
  blk_ext [idx t]

theorem blk_5 (X : FVec Ideal S2x1024x2048 .bf16) (t : Fin cfg0.N) (k : Fin 1024) (n : Fin 2048) :
    ((cfg0.win 5).blk t).view.read (Elt Ideal) X (ix3 (0 : Fin 1) k n) = X (ix3 (0 : Fin 2) k n) := by
  blk_ext [idx t]

theorem blk_6 (X : FVec Ideal S2x2048x2048 .bf16) (t : Fin cfg0.N) (k : Fin 2048) (n : Fin 2048) :
    ((cfg0.win 6).blk t).view.read (Elt Ideal) X (ix3 (0 : Fin 1) k n) = X (ix3 (0 : Fin 2) k n) := by
  blk_ext [idx t]

theorem blk_7 (X : FVec Ideal S1x2048 .f32) (t : Fin cfg0.N) (n : Fin 2048) :
    ((cfg0.win 7).blk t).view.read (Elt Ideal) X (ix2 (0 : Fin 1) n) = X (ix2 (0 : Fin 1) n) := by
  blk_ext [idx t]

/-! ## The output arrays -/

/-- Row `R` of the merged stream, from the arrays at the kernel's start. -/
def row (R : Fin 16896) (n : Fin 2048) : EReal :=
  merge (fun j => V m c main_v1 (ix2 R j)) (fun j => V m c main_v3 (ix2 R j)) (fun k => V m c main_v5 (ix2 R (⟨k.val, by omega⟩ : Fin 4096)))
    (fun k => V m c main_v5 (ix2 R (⟨2048 + k.val, by omega⟩ : Fin 4096))) (fun k => V m c main_v7 (ix2 R k))
    (fun j k => V m c main_v8 (ix3 (0 : Fin 2) j k)) (fun j k => V m c main_v9 (ix3 (0 : Fin 2) j k)) (fun k n => V m c main_v10 (ix3 (0 : Fin 2) k n)) n

theorem point (t : Fin cfg0.N) (r : Fin 256) (n : Fin 2048) :
    k0_pay2 (iblk m c 0 t) (iblk m c 4 t) (iblk m c 1 t) (iblk m c 5 t) (View.ld (iblk m c 2 t) r0_2) (View.ld (iblk m c 2 t) r0_3)
        (iblk m c 3 t) (iblk m c 6 t) (ix2 r n)
      = row m c ⟨(grid0.coords t 0).val * 256 + r.val, by have := coord t; omega⟩ n := by
  refine (pay2_at _ _ _ _ _ _ _ _ r n).trans (merge_congr (fun j => blk_0 (V m c main_v1) t r j) (fun j => blk_1 (V m c main_v3) t r j)
    (fun k => ?_) (fun k => ?_) (fun k => blk_3 (V m c main_v7) t r k) (fun j k => blk_4 (V m c main_v8) t j k)
    (fun j k => blk_5 (V m c main_v9) t j k) (fun k n => blk_6 (V m c main_v10) t k n) n)
  · exact (ld_lo _ r k).trans (blk_2 (V m c main_v5) t r _)
  · exact (ld_hi _ r k).trans (blk_2 (V m c main_v5) t r _)

theorem out8 : (dats m 0 c).arrAt 8 cfg0.N = (fun y : S16896x2048.Idx => row m c (y 0) (y 1)) := by
  refine (dats m 0 c).arrAt_eq_of_covers 8 _ (by decide +kernel) fun t _ y => ?_
  have hy0 : (y 0).val < 256 := (y 0).isLt
  have hy1 : (y 1).val < 2048 := (y 1).isLt
  have hc := coord t
  rw [after0_8]
  frame_out
  refine (congrArg _ (?_ : y = ix2 (⟨(y 0).val, hy0⟩ : Fin 256) (⟨(y 1).val, hy1⟩ : Fin 2048))).trans
    ((point m c t ⟨_, hy0⟩ ⟨_, hy1⟩).trans (congrArg₂ (row m c) (Fin.ext ?_) (Fin.ext ?_)))
  · funext a
    fin_cases a <;> rfl
  · blk_simp [idx t]
  · blk_simp [idx t]

theorem out9 : (dats m 0 c).arrAt 9 cfg0.N
    = (fun y : S16896x2048.Idx => norm (fun k => row m c (y 0) k) (fun k => V m c main_v13 (ix2 (0 : Fin 1) k)) (y 1)) := by
  refine (dats m 0 c).arrAt_eq_of_covers 9 _ (by decide +kernel) fun t _ y => ?_
  have hy0 : (y 0).val < 256 := (y 0).isLt
  have hy1 : (y 1).val < 2048 := (y 1).isLt
  have hc := coord t
  rw [after0_9]
  frame_out
  refine (congrArg _ (?_ : y = ix2 (⟨(y 0).val, hy0⟩ : Fin 256) (⟨(y 1).val, hy1⟩ : Fin 2048))).trans
    ((pay1_at _ _ _ _ _ _ _ _ _ ⟨_, hy0⟩ ⟨_, hy1⟩).trans ?_)
  · funext a
    fin_cases a <;> rfl
  · refine (norm_congr (fun k => point m c t ⟨_, hy0⟩ k) (fun k => blk_7 (V m c main_v13) t k) _).trans ?_
    refine congrArg₂ (fun R n => norm (fun k => row m c R k) (fun k => V m c main_v13 (ix2 (0 : Fin 1) k)) n) (Fin.ext ?_) (Fin.ext ?_)
    · blk_simp [idx t]
    · blk_simp [idx t]

/-! ## The results: the arrays without the padding -/

/-- The kept rows of an array of padded rows. -/
def crop (φ : FTy) (X : FVec Ideal S16896x2048 φ) : FVec Ideal S2x8208x2048 φ :=
  extractStridedSlice S2x8208x2048 ![0, 0, 0] (shapeCast S2x8448x2048 X shapeCasts_S16896x2048_S2x8448x2048)
    slices_S2x8448x2048_S2x8208x2048_0_0_0

theorem crop_at (φ : FTy) (X : FVec Ideal S16896x2048 φ) (b : Fin 2) (i : Fin 8208) (n : Fin 2048) :
    crop φ X (ix3 b i n) = X (ix2 (⟨b.val * 8448 + i.val, by omega⟩ : Fin 16896) n) := by
  pointwise [crop]

/-- A kept row of the merged stream, from the program's arguments. -/
theorem row_at (b : Fin 2) (i : Fin 8208) (n : Fin 2048) : row m c ⟨b.val * 8448 + i.val, by omega⟩ n
    = merged (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix3 b i n) :=
  .trans (merge_congr (fun j => v1_at m c b i j _ rfl) (fun j => v3_at m c b i j _ rfl) (fun k => v5_at m c b i _ _ rfl)
    (fun k => v5_at m c b i _ _ rfl) (fun k => v7_at m c b i k _ rfl) (fun j k => v8_at m c 0 j k) (fun j k => v9_at m c 0 j k)
    (fun k n => v10_at m c 0 k n) n) (merged_at _ _ _ _ _ _ _ b i n).symm

/-- What the program's results hold. -/
def result0 : FVec Ideal S2x8208x2048 .f32 :=
  crop .f32 ((dats m 0 c).arrAt 8 cfg0.N)

def result1 : FVec Ideal S2x8208x2048 .bf16 :=
  crop .bf16 ((dats m 0 c).arrAt 9 cfg0.N)

theorem result0_eq : result0 m c = merged (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext y
  have hy : y = ix3 (y 0 : Fin 2) (y 1 : Fin 8208) (y 2 : Fin 2048) := by funext a; fin_cases a <;> rfl
  rw [hy]
  exact (crop_at .f32 _ _ _ _).trans ((congrFun (out8 m c) _).trans (row_at m c _ _ _))

theorem result1_eq : result1 m c = normed (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  funext y
  have hy : y = ix3 (y 0 : Fin 2) (y 1 : Fin 8208) (y 2 : Fin 2048) := by funext a; fin_cases a <;> rfl
  rw [hy]
  exact (crop_at .bf16 _ _ _ _).trans ((congrFun (out9 m c) _).trans
    (.trans (norm_congr (fun k => row_at m c _ _ k) (fun k => v13_at m c k) _) (normed_at _ _ _ _ _ _ _ _ _ _ _).symm))

/-! ## The run -/

theorem tail_0 (σ : Valuation τ sig (Elt Ideal)) : StableHlo.after hostOps1 σ (Proc.devRef .tc main_v16)
    = crop .f32 (σ (Proc.devRef .tc main_v14_0)) := by
  after_results
  rfl

theorem tail_1 (σ : Valuation τ sig (Elt Ideal)) : StableHlo.after hostOps1 σ (Proc.devRef .tc main_v18)
    = crop .bf16 (σ (Proc.devRef .tc main_v14_1)) := by
  after_results
  rfl

theorem res_0 : Pipeline.afterTail₀ cfgs (dats m) 0 (V0 m) [hostOps1] c main_v16 = result0 m c := by
  unfold Pipeline.afterTail₀ result0
  rw [show [hostOps1 (F := Ideal)].flatten = hostOps1 from rfl]
  exact (tail_0 _).trans (congrArg (crop .f32) (Pipeline.withArrays_arr spec0 (by decide) c _ (fun w => (dats m 0 c).arrAt w cfg0.N) 8))

theorem res_1 : Pipeline.afterTail₀ cfgs (dats m) 0 (V0 m) [hostOps1] c main_v18 = result1 m c := by
  unfold Pipeline.afterTail₀ result1
  rw [show [hostOps1 (F := Ideal)].flatten = hostOps1 from rfl]
  exact (tail_1 _).trans (congrArg (crop .bf16) (Pipeline.withArrays_arr spec0 (by decide) c _ (fun w => (dats m 0 c).arrAt w cfg0.N) 9))

theorem rest_0 : main_v16 ∈ Pipeline.restRefs sig spec0 := by decide
theorem rest_1 : main_v18 ∈ Pipeline.restRefs sig spec0 := by decide

/-- The program's run, read at its two results: they are the reference's. -/
theorem run (ρ : Dev nD → PrngReg) : θ_run defs (onTc (τ := τ) (main (F := Ideal))) (s₀ m ρ) fun r =>
    ∀ c : Dev nD, r.2.mem ((c : Thread nD τ).loc main_v16) = result0 m c ∧ r.2.mem ((c : Thread nD τ).loc main_v18) = result1 m c :=
  θ_run_mono (run_main m ρ) fun _ hr c =>
    ⟨((hr c).2 main_v16 rest_0).trans (res_0 m c), ((hr c).2 main_v18 rest_1).trans (res_1 m c)⟩

end Cert.Kernel3Ideal.Merge

end
-- ==== Proof.Gates.Ref.lean ====
/-
  The attention gates, as the reference writes them, and their elements.
-/
module

public import proofs.«01_k».proof.Proof.Gen.Reference4Ideal.Run
public import Idealize.ShloMosaic.Lib.Pointwise

@[expose] public section

set_option maxRecDepth 16384

noncomputable section

namespace Cert.Reference4Ideal.Gates

open Cert.Reference4Ideal Cert.Reference4Ideal.Gen
open Idealize.ShloMosaic Idealize.ShloMosaic.TcCoe

variable {F : FTy → Type} [FloatOps F]

/-- The gates. -/
def gates (x0 : FVec F S2x8208x2048 .bf16) (x1 : FVec F S2x2048x8000 .f32) : FVec F S2x8208x4096 .bf16 :=
  truncf .bf16 (Host.divf (broadcastInDim S2x8208x4096 ![] bcast_S_S2x8208x4096 (constant S_ .f32 0x3F800000#32)) (addf (broadcastInDim S2x8208x4096 ![] bcast_S_S2x8208x4096 (constant S_ .f32 0x3F800000#32)) (Host.exp (Host.negf (Host.dotGeneral dot_S2x8208x2048_S2048x4096_S2x8208x4096_2_0_01_1_n_n none (extf .f32 x0 bitsLt_bf16_f32) (shapeCast _ (extractStridedSlice S1x2048x4096 ![0, 0, 3904] x1 slices_S2x2048x8000_S1x2048x4096_0_0_3904) shapeCasts_S1x2048x4096_S2048x4096)))))) bitsLt_bf16_f32

theorem gates_at (x0 : FVec Ideal S2x8208x2048 .bf16) (x1 : FVec Ideal S2x2048x8000 .f32) (b : Fin 2) (i : Fin 8208) (n : Fin 4096) :
    gates x0 x1 (ix3 b i n) = Ideal.logistic (∑ k : Fin 2048, x0 (ix3 b i k) * x1 (ix3 (0 : Fin 2) k (⟨3904 + n.val, by omega⟩ : Fin 8000))) := by
  pointwise [gates]
  rfl

end Cert.Reference4Ideal.Gates

end
-- ==== Proof.Gates.Value.lean ====
/-
  The attention gates: one projection of the normed rows, and its logistic.

  A grid point reads 768 padded rows and 1024 columns of the weights, and writes the gates in three bands of 256 rows.
-/
module

public import proofs.«01_k».proof.Proof.Gates.Ref
public import proofs.«01_k».proof.Proof.Gen.Kernel4Ideal.Frame
public import Idealize.ShloMosaic.Lib.Pipeline.ValueKit

@[expose] public section

set_option maxRecDepth 16384

noncomputable section

namespace Cert.Kernel4Ideal.Gates

open Cert.Kernel4Ideal Cert.Kernel4Ideal.Gen
open Idealize.ShloMosaic Idealize.ShloMosaic.TcCoe
open Cert.Reference4Ideal.Gates (gates gates_at)

/-- The windows' blocks at a grid point. -/
theorem idx : ∀ t : Fin cfg0.N,
    win0_0.index t = ![(grid0.coords t 1).val, 0] ∧ win0_1.index t = ![0, 0, (grid0.coords t 0).val]
      ∧ win0_2.index t = ![(grid0.coords t 1).val, (grid0.coords t 0).val] :=
  (by decide +kernel : ∀ t : Fin grid0.N, _)

theorem coord0 (t : Fin cfg0.N) : (grid0.coords t 0).val < 4 := (grid0.coords t 0).isLt
theorem coord1 (t : Fin cfg0.N) : (grid0.coords t 1).val < 22 := (grid0.coords t 1).isLt

theorem ix3_eq {p q s : Nat} {a a' : Fin p} {b b' : Fin q} {k : Fin s} (ha : a.val = a'.val) (hb : b.val = b'.val) : ix3 a b k = ix3 a' b' k := by
  rw [Fin.ext ha, Fin.ext hb]

/-- A gate, from its row and its column. -/
def gate (x w : Fin 2048 → EReal) : EReal := Ideal.logistic (∑ k : Fin 2048, x k * w k)

theorem pay1_at (x : Vec Ideal S256x2048 .bf16) (w : Vec Ideal S1x2048x1024 .bf16) (r : Fin 256) (n : Fin 1024) :
    k0_pay1 x w (ix2 r n) = gate (fun k => x (ix2 r k)) (fun k => w (ix3 (0 : Fin 1) k n)) := by
  pointwise [k0_pay1]
  rfl

theorem pay2_at (x : Vec Ideal S256x2048 .bf16) (w : Vec Ideal S1x2048x1024 .bf16) (r : Fin 256) (n : Fin 1024) :
    k0_pay2 x w (ix2 r n) = gate (fun k => x (ix2 r k)) (fun k => w (ix3 (0 : Fin 1) k n)) := by
  pointwise [k0_pay2]
  rfl

theorem pay3_at (x : Vec Ideal S256x2048 .bf16) (w : Vec Ideal S1x2048x1024 .bf16) (r : Fin 256) (n : Fin 1024) :
    k0_pay3 x w (ix2 r n) = gate (fun k => x (ix2 r k)) (fun k => w (ix3 (0 : Fin 1) k n)) := by
  pointwise [k0_pay3]
  rfl

variable (m : (ℓ : Loc nD τ sig) → Buf (Elt Ideal) ℓ) (c : Dev nD)

theorem v3_at (b : Fin 2) (i : Fin 8208) (k : Fin 2048) (R : Fin 16896) (h : R.val = b.val * 8448 + i.val) :
    V m c main_v3 (ix2 R k) = m ((c : Thread nD τ).loc main_arg0) (ix3 b i k) := by
  show StableHlo.after hostOps0 (fun b => m (c, b)) (Proc.devRef .tc main_v3) _ = _
  after_results
  pointwise
  rw [dif_pos (by omega)]
  exact congrArg _ (ix3_eq (by simp only; omega) (by simp only; omega))

theorem v1_at (k : Fin 2048) (n : Fin 4096) :
    V m c main_v1 (ix3 (0 : Fin 2) k n) = m ((c : Thread nD τ).loc main_arg1) (ix3 (0 : Fin 2) k (⟨3904 + n.val, by omega⟩ : Fin 8000)) := by
  show StableHlo.after hostOps0 (fun b => m (c, b)) (Proc.devRef .tc main_v1) _ = _
  after_results
  pointwise

theorem blk_0 (X : FVec Ideal S16896x2048 .bf16) (t : Fin cfg0.N) (r : Fin 768) (k : Fin 2048) :
    ((cfg0.win 0).blk t).view.read (Elt Ideal) X (ix2 r k)
      = X (ix2 (⟨(grid0.coords t 1).val * 768 + r.val, by have := coord1 t; omega⟩ : Fin 16896) k) := by
  blk_ext [idx t]

theorem blk_1 (X : FVec Ideal S2x2048x4096 .bf16) (t : Fin cfg0.N) (k : Fin 2048) (n : Fin 1024) :
    ((cfg0.win 1).blk t).view.read (Elt Ideal) X (ix3 (0 : Fin 1) k n)
      = X (ix3 (0 : Fin 2) k (⟨(grid0.coords t 0).val * 1024 + n.val, by have := coord0 t; omega⟩ : Fin 4096)) := by
  blk_ext [idx t]

theorem ld_1 (X : Vec Ideal S1x2048x1024 .bf16) : View.ld X r0_1 = X :=
  View.ld_unit_zero (by funext a; fin_cases a <;> rfl) _ X

/-- A load of 256 rows of a block of 768. -/
theorem ld_rows (X : Vec Ideal S768x2048 .bf16) (o : Nat) (inb) (r : Fin 256) (k : Fin 2048) (R : Fin 768) (h : R.val = o + r.val) :
    View.ld X (Rect.unit (s := S768x2048) ![o, 0] S256x2048.size inb) (ix2 r k) = X (ix2 R k) := by
  refine congrArg X (funext fun a => Fin.ext ?_)
  refine (ValueKit.rect_emb_unit_val _ _ _ _ _).trans ?_
  fin_cases a
  · exact h.symm
  · exact Nat.zero_add _

theorem gate_congr {x x' w w' : Fin 2048 → EReal} (hx : ∀ k, x k = x' k) (hw : ∀ k, w k = w' k) : gate x w = gate x' w' := by
  rw [funext hx, funext hw]

/-- What the body stores, at a place of the block. -/
theorem block_at (x : Vec Ideal S768x2048 .bf16) (w : Vec Ideal S1x2048x1024 .bf16) (R : Fin 768) (n : Fin 1024) :
    out0_2 x w (ix2 R n) = gate (fun k => x (ix2 R k)) (fun k => w (ix3 (0 : Fin 1) k n)) := by
  canon_tiles y h
  all_goals
    have hy : y = ix2 (y 0 : Fin 256) (y 1 : Fin 1024) := by funext a; fin_cases a <;> rfl
    have hn : (y 1 : Fin 1024) = n := Fin.ext h1.symm
    rw [hy, hn, ld_1]
  · exact (pay3_at _ _ _ _).trans (gate_congr (fun k => ld_rows x 512 _ _ k R h0) fun _ => rfl)
  · exact (pay2_at _ _ _ _).trans (gate_congr (fun k => ld_rows x 256 _ _ k R h0) fun _ => rfl)
  · exact (pay1_at _ _ _ _).trans (gate_congr (fun k => ld_rows x 0 _ _ k R (h0.trans (Nat.zero_add _).symm)) fun _ => rfl)

/-- The gate at a place of the padded array, from the arrays at the kernel's start. -/
def gateAt (R : Fin 16896) (n : Fin 4096) : EReal :=
  gate (fun k => V m c main_v3 (ix2 R k)) (fun k => V m c main_v1 (ix3 (0 : Fin 2) k n))

theorem point (t : Fin cfg0.N) (r : Fin 768) (n : Fin 1024) :
    out0_2 (iblk m c 0 t) (iblk m c 1 t) (ix2 r n)
      = gateAt m c ⟨(grid0.coords t 1).val * 768 + r.val, by have := coord1 t; omega⟩
          ⟨(grid0.coords t 0).val * 1024 + n.val, by have := coord0 t; omega⟩ :=
  (block_at _ _ r n).trans (gate_congr (fun k => blk_0 (V m c main_v3) t r k) (fun k => blk_1 (V m c main_v1) t k n))

theorem out2 : (dats m 0 c).arrAt 2 cfg0.N = (fun y : S16896x4096.Idx => gateAt m c (y 0) (y 1)) := by
  refine (dats m 0 c).arrAt_eq_of_covers 2 _ (by decide +kernel) fun t _ y => ?_
  have hy0 : (y 0).val < 768 := (y 0).isLt
  have hy1 : (y 1).val < 1024 := (y 1).isLt
  have hy : y = ix2 (⟨(y 0).val, hy0⟩ : Fin 768) (⟨(y 1).val, hy1⟩ : Fin 1024) := by
    funext a
    fin_cases a <;> rfl
  blk_simp [idx t]
  rw [after0_2]
  refine (congrArg (out0_2 (iblk m c 0 t) (iblk m c 1 t)) hy).trans ((point m c t ⟨_, hy0⟩ ⟨_, hy1⟩).trans
    (congrArg₂ (gateAt m c) (Fin.ext ?_) (Fin.ext ?_)))
  · blk_simp [idx t]
  · blk_simp [idx t]

/-! ## The result: the array without the padding -/

/-- The kept rows of an array of padded rows. -/
def crop (X : FVec Ideal S16896x4096 .bf16) : FVec Ideal S2x8208x4096 .bf16 :=
  extractStridedSlice S2x8208x4096 ![0, 0, 0] (shapeCast S2x8448x4096 X shapeCasts_S16896x4096_S2x8448x4096)
    slices_S2x8448x4096_S2x8208x4096_0_0_0

theorem crop_at (X : FVec Ideal S16896x4096 .bf16) (b : Fin 2) (i : Fin 8208) (n : Fin 4096) :
    crop X (ix3 b i n) = X (ix2 (⟨b.val * 8448 + i.val, by omega⟩ : Fin 16896) n) := by
  pointwise [crop]

def result : FVec Ideal S2x8208x4096 .bf16 := crop ((dats m 0 c).arrAt 2 cfg0.N)

theorem result_eq : result m c = gates (F := Ideal) (m ((c : Thread nD τ).loc main_arg0)) (m ((c : Thread nD τ).loc main_arg1)) := by
  funext y
  have hy : y = ix3 (y 0 : Fin 2) (y 1 : Fin 8208) (y 2 : Fin 4096) := by funext a; fin_cases a <;> rfl
  rw [hy]
  exact (crop_at _ _ _ _).trans ((congrFun (out2 m c) _).trans
    (.trans (gate_congr (fun k => v3_at m c _ _ k _ rfl) (fun k => v1_at m c k _)) (gates_at _ _ _ _ _).symm))

/-! ## The run -/

theorem tail (σ : Valuation τ sig (Elt Ideal)) : StableHlo.after hostOps1 σ (Proc.devRef .tc main_v6) = crop (σ (Proc.devRef .tc main_v4)) := by
  after_results
  rfl

theorem res : Pipeline.afterTail₀ cfgs (dats m) 0 (V0 m) [hostOps1] c main_v6 = result m c := by
  unfold Pipeline.afterTail₀ result
  rw [show [hostOps1 (F := Ideal)].flatten = hostOps1 from rfl]
  exact (tail _).trans (congrArg crop (Pipeline.withArrays_arr spec0 (by decide) c _ (fun w => (dats m 0 c).arrAt w cfg0.N) 2))

theorem rest : main_v6 ∈ Pipeline.restRefs sig spec0 := by decide

/-- The program's run, read at its result. -/
theorem run (ρ : Dev nD → PrngReg) : θ_run defs (onTc (τ := τ) (main (F := Ideal))) (s₀ m ρ) fun r =>
    ∀ c : Dev nD, r.2.mem ((c : Thread nD τ).loc main_v6) = result m c :=
  θ_run_mono (run_main m ρ) fun _ hr c => ((hr c).2 main_v6 rest).trans (res m c)

end Cert.Kernel4Ideal.Gates

end
-- ==== Proof.Up.Ref.lean ====
/-
  The up projection with the causal convolution and the gated activation, as the reference writes them, and their elements.
-/
module

public import proofs.«01_k».proof.Proof.Gen.Reference5Ideal.Run
public import Idealize.ShloMosaic.Lib.Pointwise

@[expose] public section

set_option maxRecDepth 16384

noncomputable section

namespace Cert.Reference5Ideal.Up

open Cert.Reference5Ideal Cert.Reference5Ideal.Gen
open Idealize.ShloMosaic Idealize.ShloMosaic.TcCoe

variable {F : FTy → Type} [FloatOps F]

/-- The projected rows, convolved. -/
def conved (x0 : FVec F S2x8208x2048 .bf16) (x1 : FVec F S2x2048x11264 .f32) (x2 : FVec F S2x3x11264 .f32) (x3 : FVec F S2x11264 .f32) : FVec F S2x8208x11264 .f32 :=
  addf (addf (addf (broadcastInDim S2x8208x11264 ![0, 1, 2] bcast_S1x1x11264_S2x8208x11264_0_1_2 (broadcastInDim S1x1x11264 ![2] bcast_S11264_S1x1x11264_2 (shapeCast _ (extractStridedSlice S1x11264 ![0, 0] x3 slices_S2x11264_S1x11264_0_0) shapeCasts_S1x11264_S11264))) (mulf (extractStridedSlice S2x8208x11264 ![0, 0, 0] (pad S2x8210x11264 ![0, 2, 0] ![0, 0, 0] ![0, 0, 0] (Host.dotGeneral dot_S2x8208x2048_S2048x11264_S2x8208x11264_2_0_01_1_n_n none (extf .f32 x0 bitsLt_bf16_f32) (shapeCast _ (extractStridedSlice S1x2048x11264 ![0, 0, 0] x1 slices_S2x2048x11264_S1x2048x11264_0_0_0) shapeCasts_S1x2048x11264_S2048x11264)) (constant S_ .f32 0x00000000#32) pads_S2x8208x11264_S2x8210x11264_000_200_000 h_S_) slices_S2x8210x11264_S2x8208x11264_0_0_0) (broadcastInDim S2x8208x11264 ![0, 1, 2] bcast_S1x1x11264_S2x8208x11264_0_1_2 (broadcastInDim S1x1x11264 ![2] bcast_S11264_S1x1x11264_2 (shapeCast _ (extractStridedSlice S1x11264 ![0, 0] (shapeCast _ (extractStridedSlice S1x3x11264 ![0, 0, 0] x2 slices_S2x3x11264_S1x3x11264_0_0_0) shapeCasts_S1x3x11264_S3x11264) slices_S3x11264_S1x11264_0_0) shapeCasts_S1x11264_S11264))))) (mulf (extractStridedSlice S2x8208x11264 ![0, 1, 0] (pad S2x8210x11264 ![0, 2, 0] ![0, 0, 0] ![0, 0, 0] (Host.dotGeneral dot_S2x8208x2048_S2048x11264_S2x8208x11264_2_0_01_1_n_n none (extf .f32 x0 bitsLt_bf16_f32) (shapeCast _ (extractStridedSlice S1x2048x11264 ![0, 0, 0] x1 slices_S2x2048x11264_S1x2048x11264_0_0_0) shapeCasts_S1x2048x11264_S2048x11264)) (constant S_ .f32 0x00000000#32) pads_S2x8208x11264_S2x8210x11264_000_200_000 h_S_) slices_S2x8210x11264_S2x8208x11264_0_1_0) (broadcastInDim S2x8208x11264 ![0, 1, 2] bcast_S1x1x11264_S2x8208x11264_0_1_2 (broadcastInDim S1x1x11264 ![2] bcast_S11264_S1x1x11264_2 (shapeCast _ (extractStridedSlice S1x11264 ![1, 0] (shapeCast _ (extractStridedSlice S1x3x11264 ![0, 0, 0] x2 slices_S2x3x11264_S1x3x11264_0_0_0) shapeCasts_S1x3x11264_S3x11264) slices_S3x11264_S1x11264_1_0) shapeCasts_S1x11264_S11264))))) (mulf (extractStridedSlice S2x8208x11264 ![0, 2, 0] (pad S2x8210x11264 ![0, 2, 0] ![0, 0, 0] ![0, 0, 0] (Host.dotGeneral dot_S2x8208x2048_S2048x11264_S2x8208x11264_2_0_01_1_n_n none (extf .f32 x0 bitsLt_bf16_f32) (shapeCast _ (extractStridedSlice S1x2048x11264 ![0, 0, 0] x1 slices_S2x2048x11264_S1x2048x11264_0_0_0) shapeCasts_S1x2048x11264_S2048x11264)) (constant S_ .f32 0x00000000#32) pads_S2x8208x11264_S2x8210x11264_000_200_000 h_S_) slices_S2x8210x11264_S2x8208x11264_0_2_0) (broadcastInDim S2x8208x11264 ![0, 1, 2] bcast_S1x1x11264_S2x8208x11264_0_1_2 (broadcastInDim S1x1x11264 ![2] bcast_S11264_S1x1x11264_2 (shapeCast _ (extractStridedSlice S1x11264 ![2, 0] (shapeCast _ (extractStridedSlice S1x3x11264 ![0, 0, 0] x2 slices_S2x3x11264_S1x3x11264_0_0_0) shapeCasts_S1x3x11264_S3x11264) slices_S3x11264_S1x11264_2_0) shapeCasts_S1x11264_S11264))))

/-- The gated activations. -/
def act (x0 : FVec F S2x8208x2048 .bf16) (x1 : FVec F S2x2048x11264 .f32) (x2 : FVec F S2x3x11264 .f32) (x3 : FVec F S2x11264 .f32) : FVec F S2x8208x5632 .bf16 :=
  truncf .bf16 (mulf (mulf (extractStridedSlice S2x8208x5632 ![0, 0, 0] (conved x0 x1 x2 x3) slices_S2x8208x11264_S2x8208x5632_0_0_0) (Host.divf (broadcastInDim S2x8208x5632 ![] bcast_S_S2x8208x5632 (constant S_ .f32 0x3F800000#32)) (addf (broadcastInDim S2x8208x5632 ![] bcast_S_S2x8208x5632 (constant S_ .f32 0x3F800000#32)) (Host.exp (Host.negf (extractStridedSlice S2x8208x5632 ![0, 0, 0] (conved x0 x1 x2 x3) slices_S2x8208x11264_S2x8208x5632_0_0_0)))))) (extractStridedSlice S2x8208x5632 ![0, 0, 5632] (conved x0 x1 x2 x3) slices_S2x8208x11264_S2x8208x5632_0_0_5632)) bitsLt_bf16_f32

theorem res_eq (m : (ℓ : Loc nD τ sig) → Buf (Elt F) ℓ) (c : Dev nD) :
    Value.res_main_v36 m c = act (m ((c.tc : Thread nD τ).loc main_arg0)) (m ((c.tc : Thread nD τ).loc main_arg1)) (m ((c.tc : Thread nD τ).loc main_arg2)) (m ((c.tc : Thread nD τ).loc main_arg3)) := rfl

/-- A tap's weights over three rows, and a bias. -/
def taps (z w0 w1 w2 u2 u1 u0 : EReal) : EReal := z + w0 * u2 + w1 * u1 + w2 * u0

/-- The gated activation. -/
def glu (a g : EReal) : EReal := a * Ideal.logistic a * g

/-- A projected row, two zero rows in front. -/
def row (x0 : FVec Ideal S2x8208x2048 .bf16) (x1 : FVec Ideal S2x2048x11264 .f32) (b : Fin 2) (n : Fin 11264) (q : Nat) : EReal :=
  if h : 2 ≤ q ∧ q - 2 < 8208 then ∑ k : Fin 2048, x0 (ix3 b (⟨q - 2, h.2⟩ : Fin 8208) k) * x1 (ix3 (0 : Fin 2) k n) else 0

theorem conved_at (x0 : FVec Ideal S2x8208x2048 .bf16) (x1 : FVec Ideal S2x2048x11264 .f32) (x2 : FVec Ideal S2x3x11264 .f32) (x3 : FVec Ideal S2x11264 .f32) (b : Fin 2) (i : Fin 8208) (n : Fin 11264) :
    conved x0 x1 x2 x3 (ix3 b i n) = taps (x3 (ix2 (0 : Fin 2) n)) (x2 (ix3 (0 : Fin 2) (0 : Fin 3) n)) (x2 (ix3 (0 : Fin 2) (1 : Fin 3) n))
      (x2 (ix3 (0 : Fin 2) (2 : Fin 3) n)) (row x0 x1 b n i.val) (row x0 x1 b n (i.val + 1)) (row x0 x1 b n (i.val + 2)) := by
  pointwise [conved]
  rw [Nat.add_comm i.val 1, show row x0 x1 b n (i.val + 2) = ∑ k : Fin 2048, x0 (ix3 b i k) * x1 (ix3 (0 : Fin 2) k n) from
    dif_pos ⟨by omega, by omega⟩]
  simp only [taps, mul_comm (x2 _)]
  rfl

theorem act_at (x0 : FVec Ideal S2x8208x2048 .bf16) (x1 : FVec Ideal S2x2048x11264 .f32) (x2 : FVec Ideal S2x3x11264 .f32) (x3 : FVec Ideal S2x11264 .f32) (b : Fin 2) (i : Fin 8208) (n : Fin 5632) :
    act x0 x1 x2 x3 (ix3 b i n) = glu (conved x0 x1 x2 x3 (ix3 b i (⟨n.val, by omega⟩ : Fin 11264)))
      (conved x0 x1 x2 x3 (ix3 b i (⟨5632 + n.val, by omega⟩ : Fin 11264))) := by
  pointwise [act]
  rfl

end Cert.Reference5Ideal.Up

end
-- ==== Proof.Up.Tile.lean ====
/-
  What the up projection's call does at one grid point, over any contents of its buffers.

  The point projects 768 rows into rows 8 to 776 of a buffer whose first 8 rows are the last 8 of the point before, and adds
  three rows of the buffer, weighted, to the bias.
-/
module

public import proofs.«01_k».proof.Proof.Up.Ref
public import proofs.«01_k».proof.Proof.Gen.Kernel5Ideal.Frame
public import Idealize.ShloMosaic.Lib.Pipeline.ValueKit
public import Idealize.ShloMosaic.Lib.WritesUnit

@[expose] public section

set_option maxRecDepth 16384

noncomputable section

namespace Cert.Kernel5Ideal.Up

open Cert.Kernel5Ideal Cert.Kernel5Ideal.Gen
open Idealize.ShloMosaic Idealize.ShloMosaic.TcCoe
open Cert.Reference5Ideal.Up (taps glu)

/-! ## The values the body computes -/

theorem pay7_at (x : Vec Ideal S768x2048 .bf16) (w : Vec Ideal S2048x512 .bf16) (r : Fin 768) (n : Fin 512) :
    k0_pay7 x w (ix2 r n) = ∑ k : Fin 2048, x (ix2 r k) * w (ix2 k n) := by
  pointwise [k0_pay7]

theorem pay13_at (x : Vec Ideal S768x2048 .bf16) (w : Vec Ideal S2048x512 .bf16) (r : Fin 768) (n : Fin 512) :
    k0_pay13 x w (ix2 r n) = ∑ k : Fin 2048, x (ix2 r k) * w (ix2 k n) := by
  pointwise [k0_pay13]

theorem pay3_at (w : Vec Ideal S1x2048x512 .f32) (k : Fin 2048) (n : Fin 512) : k0_pay3 w (ix2 k n) = w (ix3 (0 : Fin 1) k n) := by
  pointwise [k0_pay3]

theorem pay4_at (w : Vec Ideal S1x2048x512 .f32) (k : Fin 2048) (n : Fin 512) : k0_pay4 w (ix2 k n) = w (ix3 (0 : Fin 1) k n) := by
  pointwise [k0_pay4]

theorem pay5_at (r : Fin 8) (n : Fin 512) : k0_pay5 (F := Ideal) (ix2 r n) = 0 := by
  pointwise [k0_pay5]

theorem pay6_at (r : Fin 8) (n : Fin 512) : k0_pay6 (F := Ideal) (ix2 r n) = 0 := by
  pointwise [k0_pay6]

theorem pay12_at (x : Vec Ideal S8x512 .f32) (r : Fin 8) (n : Fin 512) : k0_pay12 x (ix2 r n) = x (ix2 r n) := by
  pointwise [k0_pay12]

theorem pay1_at (x : Vec Ideal S8x512 .f32) (r : Fin 8) (n : Fin 512) : k0_pay1 x (ix2 r n) = x (ix2 r n) := by
  pointwise [k0_pay1]

theorem pay2_at (Y Z : Vec Ideal S776x512 .f32) (y z y0 y1 y2 z0 z1 z2 : Vec Ideal S1x1x512 .f32) (r : Fin 768) (n : Fin 512) :
    k0_pay2 (k0_pay11 Y (k0_pay8 Y) (k0_pay9 Y) (k0_pay10 y) y0 y1 y2) Z (k0_pay14 Z) (k0_pay15 Z) z z0 z1 z2 (ix2 r n)
      = glu (taps (y (ix3 (0 : Fin 1) (0 : Fin 1) n)) (y0 (ix3 (0 : Fin 1) (0 : Fin 1) n)) (y1 (ix3 (0 : Fin 1) (0 : Fin 1) n)) (y2 (ix3 (0 : Fin 1) (0 : Fin 1) n))
            (Y (ix2 (⟨6 + r.val, by omega⟩ : Fin 776) n)) (Y (ix2 (⟨7 + r.val, by omega⟩ : Fin 776) n)) (Y (ix2 (⟨8 + r.val, by omega⟩ : Fin 776) n)))
          (taps (z (ix3 (0 : Fin 1) (0 : Fin 1) n)) (z0 (ix3 (0 : Fin 1) (0 : Fin 1) n)) (z1 (ix3 (0 : Fin 1) (0 : Fin 1) n)) (z2 (ix3 (0 : Fin 1) (0 : Fin 1) n))
            (Z (ix2 (⟨6 + r.val, by omega⟩ : Fin 776) n)) (Z (ix2 (⟨7 + r.val, by omega⟩ : Fin 776) n)) (Z (ix2 (⟨8 + r.val, by omega⟩ : Fin 776) n))) := by
  pointwise [k0_pay2, k0_pay8, k0_pay9, k0_pay10, k0_pay11, k0_pay14, k0_pay15]
  have e6 : ∀ h, (⟨(8 + r.val + 776 - 2) % 776, h⟩ : Fin 776) = ⟨6 + r.val, by omega⟩ := fun _ => Fin.ext (by simp only; omega)
  have e7 : ∀ h, (⟨(8 + r.val + 776 - 1) % 776, h⟩ : Fin 776) = ⟨7 + r.val, by omega⟩ := fun _ => Fin.ext (by simp only; omega)
  simp only [e6, e7]
  rfl

/-! ## The buffer of 776 rows -/

theorem emb_8 (r : Fin 768) (n : Fin 512) :
    (Rect.unit (s := S776x512) ![8, 0] ![768, 512] inb_S776x512_S768x512_8_0).emb (ix2 r n) = ix2 (⟨8 + r.val, by omega⟩ : Fin 776) n := by
  funext a
  refine Fin.ext ((ValueKit.rect_emb_unit_val _ _ _ _ _).trans ?_)
  fin_cases a
  · rfl
  · exact Nat.zero_add _

theorem emb_0 (r : Fin 8) (n : Fin 512) :
    (Rect.unit (s := S776x512) ![0, 0] ![8, 512] inb_S776x512_S8x512_0_0).emb (ix2 r n) = ix2 (⟨r.val, by omega⟩ : Fin 776) n := by
  funext a
  refine Fin.ext ((ValueKit.rect_emb_unit_val _ _ _ _ _).trans ?_)
  fin_cases a
  · exact Nat.zero_add _
  · exact Nat.zero_add _

theorem emb_768 (r : Fin 8) (n : Fin 512) :
    (Rect.unit (s := S776x512) ![768, 0] ![8, 512] inb_S776x512_S8x512_768_0).emb (ix2 r n) = ix2 (⟨768 + r.val, by omega⟩ : Fin 776) n := by
  funext a
  refine Fin.ext ((ValueKit.rect_emb_unit_val _ _ _ _ _).trans ?_)
  fin_cases a
  · rfl
  · exact Nat.zero_add _

theorem emb_all (r : Fin 776) (n : Fin 512) :
    (Rect.unit (s := S776x512) ![0, 0] ![776, 512] inb_S776x512_S776x512_0_0).emb (ix2 r n) = ix2 r n := by
  funext a
  refine Fin.ext ((ValueKit.rect_emb_unit_val _ _ _ _ _).trans ?_)
  fin_cases a
  · exact Nat.zero_add _
  · exact Nat.zero_add _

/-- The rows written at the point. -/
abbrev low (P : Vec Ideal S768x512 .f32) : View.Piece (Elt Ideal) S776x512 .f32 :=
  ⟨Rect.unit (s := S776x512) ![8, 0] ![768, 512] inb_S776x512_S768x512_8_0, P⟩

/-- The rows carried from the point before. -/
abbrev top (Z : Vec Ideal S8x512 .f32) : View.Piece (Elt Ideal) S776x512 .f32 :=
  ⟨Rect.unit (s := S776x512) ![0, 0] ![8, 512] inb_S776x512_S8x512_0_0, Z⟩

theorem canon_low (P : Vec Ideal S768x512 .f32) (L : List (View.Piece (Elt Ideal) S776x512 .f32)) (r : Fin 776) (n : Fin 512) (h : 8 ≤ r.val) :
    View.canon (low P :: L) (ix2 r n) = P (ix2 (⟨r.val - 8, by omega⟩ : Fin 768) n) := by
  have e : (ix2 r n : S776x512.Idx) = (low P).1.emb (ix2 (⟨r.val - 8, by omega⟩ : Fin 768) n) := by
    refine .trans ?_ (emb_8 _ _).symm
    exact congrArg (fun q => ix2 q n) (Fin.ext (by simp only; omega))
  rw [e]
  exact View.canon_cons_emb _ _ _ _

theorem canon_top (Z : Vec Ideal S8x512 .f32) (L : List (View.Piece (Elt Ideal) S776x512 .f32)) (r : Fin 776) (n : Fin 512) (h : r.val < 8) :
    View.canon (top Z :: L) (ix2 r n) = Z (ix2 (⟨r.val, h⟩ : Fin 8) n) := by
  have e : (ix2 r n : S776x512.Idx) = (top Z).1.emb (ix2 (⟨r.val, h⟩ : Fin 8) n) := (emb_0 (⟨r.val, h⟩ : Fin 8) n).symm
  rw [e]
  exact View.canon_cons_emb _ _ _ _

theorem canon_skip (P : Vec Ideal S768x512 .f32) (L : List (View.Piece (Elt Ideal) S776x512 .f32)) (r : Fin 776) (n : Fin 512) (h : r.val < 8) :
    View.canon (low P :: L) (ix2 r n) = View.canon L (ix2 r n) := by
  refine View.canon_cons_of_not_mem _ _ fun hm => ?_
  have h8 : (8 : Nat) ≤ r.val := ((Rect.mem_set_unit (inb := inb_S776x512_S768x512_8_0)).mp hm 0).1
  omega

/-- The buffer where the point zeroes its first rows. -/
theorem full_zero (v : View sig .tc .vmem S776x512 .f32) (P : Vec Ideal S768x512 .f32) (Z : Vec Ideal S8x512 .f32) (r : Fin 776) (n : Fin 512) :
    v.readCov [low P, top Z] (Rect.unit (s := S776x512) ![0, 0] ![776, 512] inb_S776x512_S776x512_0_0).toLoadRect (ix2 r n)
      = if h : 8 ≤ r.val then P (ix2 (⟨r.val - 8, by omega⟩ : Fin 768) n) else Z (ix2 (⟨r.val, by omega⟩ : Fin 8) n) := by
  rw [View.readCov_eq_canon']
  refine (congrArg (View.canon [low P, top Z]) (emb_all r n)).trans ?_
  by_cases h : 8 ≤ r.val
  · rw [dif_pos h, canon_low _ _ _ _ h]
  · rw [dif_neg h, canon_skip _ _ _ _ (by omega), canon_top _ _ _ _ (by omega)]

/-- The buffer where the point carries its first rows. -/
theorem full_carry (v : View sig .tc .vmem S776x512 .f32) (f : v.ty.Contents (Elt Ideal)) (P : Vec Ideal S768x512 .f32) (r : Fin 776) (n : Fin 512) :
    v.read (Elt Ideal) (v.writes (Elt Ideal) f [low P]) (ix2 r n)
      = if h : 8 ≤ r.val then P (ix2 (⟨r.val - 8, by omega⟩ : Fin 768) n) else v.read (Elt Ideal) f (ix2 r n) := by
  by_cases h : 8 ≤ r.val
  · rw [dif_pos h]
    exact View.read_writes_cons_rows_of_mem v f _ P [] (ix2 r n) (ix2 (⟨r.val - 8, by omega⟩ : Fin 768) n) rfl
      (show r.val = 8 + (r.val - 8) by omega) rfl
  · rw [dif_neg h]
    exact View.read_writes_cons_rows_of_not_mem v f (W := 768) _ P [] (ix2 r n) rfl rfl (Or.inl (show r.val < 8 by omega))

/-- The rows handed to the next point. -/
theorem last_rows (v : View sig .tc .vmem S776x512 .f32) (P : Vec Ideal S768x512 .f32) (L : List (View.Piece (Elt Ideal) S776x512 .f32)) (r : Fin 8) (n : Fin 512) :
    v.readCov (low P :: L) (Rect.unit (s := S776x512) ![768, 0] ![8, 512] inb_S776x512_S8x512_768_0).toLoadRect (ix2 r n)
      = P (ix2 (⟨760 + r.val, by omega⟩ : Fin 768) n) := by
  rw [View.readCov_eq_canon']
  refine (congrArg (View.canon (low P :: L)) (emb_768 r n)).trans ((canon_low _ _ _ _ (by simp only; omega)).trans ?_)
  exact congrArg (fun q => P (ix2 q n)) (Fin.ext (by simp only; omega))

/-- A load of one row of the three taps. -/
theorem ld_tap (X : Vec Ideal S1x3x512 .f32) (o : Nat) (ho : o < 3) (inb) (n : Fin 512) :
    View.ld X (Rect.unit (s := S1x3x512) ![0, o, 0] ![1, 1, 512] inb) (ix3 (0 : Fin 1) (0 : Fin 1) n) = X (ix3 (0 : Fin 1) (⟨o, ho⟩ : Fin 3) n) := by
  refine congrArg X (funext fun a => Fin.ext ?_)
  refine (ValueKit.rect_emb_unit_val _ _ _ _ _).trans ?_
  fin_cases a
  · rfl
  · exact Nat.add_zero _
  · exact Nat.zero_add _

end Cert.Kernel5Ideal.Up

end
-- ==== Proof.Up.Value.lean ====
/-
  The up projection with the causal convolution and the gated activation: what the call leaves, point by point.

  The points walk eleven column blocks, and under each the 22 row blocks. The weights are cast once per column block, and the
  last rows of the projection are carried from a row block to the next of the same batch.
-/
module

public import proofs.«01_k».proof.Proof.Up.Tile

@[expose] public section

set_option maxRecDepth 16384

noncomputable section

namespace Cert.Kernel5Ideal.Up

open Cert.Kernel5Ideal Cert.Kernel5Ideal.Gen
open Idealize.ShloMosaic Idealize.ShloMosaic.TcCoe
open Cert.Reference5Ideal.Up (taps glu row act act_at conved_at)

/-- The windows' blocks at a grid point. -/
theorem idx : ∀ t : Fin cfg0.N,
    win0_0.index t = ![t.val % 22, 0] ∧ win0_1.index t = ![0, 0, t.val / 22] ∧ win0_2.index t = ![0, 0, 11 + t.val / 22]
      ∧ win0_3.index t = ![0, 0, t.val / 22] ∧ win0_4.index t = ![0, 0, 11 + t.val / 22] ∧ win0_5.index t = ![0, 0, t.val / 22]
      ∧ win0_6.index t = ![0, 0, 11 + t.val / 22] ∧ win0_7.index t = ![t.val % 22, t.val / 22] :=
  (by decide +kernel : ∀ t : Fin grid0.N, _)

theorem lt (t : Fin cfg0.N) : t.val < 242 := lt_of_lt_of_eq t.isLt (show cfg0.N = 242 from N_0)

/-- A column of a point's first half. -/
def ca (t : Fin cfg0.N) (n : Fin 512) : Fin 11264 := ⟨t.val / 22 * 512 + n.val, by have := lt t; omega⟩

/-- A column of a point's second half. -/
def cg (t : Fin cfg0.N) (n : Fin 512) : Fin 11264 := ⟨5632 + (t.val / 22 * 512 + n.val), by have := lt t; omega⟩

theorem blk_0 (X : FVec Ideal S16896x2048 .bf16) (t : Fin cfg0.N) (r : Fin 768) (k : Fin 2048) :
    ((cfg0.win 0).blk t).view.read (Elt Ideal) X (ix2 r k) = X (ix2 (⟨t.val % 22 * 768 + r.val, by omega⟩ : Fin 16896) k) := by
  blk_ext [idx t]

theorem blk_1 (X : FVec Ideal S2x2048x11264 .f32) (t : Fin cfg0.N) (k : Fin 2048) (n : Fin 512) :
    ((cfg0.win 1).blk t).view.read (Elt Ideal) X (ix3 (0 : Fin 1) k n) = X (ix3 (0 : Fin 2) k (ca t n)) := by
  blk_ext [idx t, ca]

theorem blk_2 (X : FVec Ideal S2x2048x11264 .f32) (t : Fin cfg0.N) (k : Fin 2048) (n : Fin 512) :
    ((cfg0.win 2).blk t).view.read (Elt Ideal) X (ix3 (0 : Fin 1) k n) = X (ix3 (0 : Fin 2) k (cg t n)) := by
  blk_ext [idx t, cg]

theorem blk_3 (X : FVec Ideal S2x3x11264 .f32) (t : Fin cfg0.N) (k : Fin 3) (n : Fin 512) :
    ((cfg0.win 3).blk t).view.read (Elt Ideal) X (ix3 (0 : Fin 1) k n) = X (ix3 (0 : Fin 2) k (ca t n)) := by
  blk_ext [idx t, ca]

theorem blk_4 (X : FVec Ideal S2x3x11264 .f32) (t : Fin cfg0.N) (k : Fin 3) (n : Fin 512) :
    ((cfg0.win 4).blk t).view.read (Elt Ideal) X (ix3 (0 : Fin 1) k n) = X (ix3 (0 : Fin 2) k (cg t n)) := by
  blk_ext [idx t, cg]

theorem blk_5 (X : FVec Ideal S2x1x11264 .f32) (t : Fin cfg0.N) (n : Fin 512) :
    ((cfg0.win 5).blk t).view.read (Elt Ideal) X (ix3 (0 : Fin 1) (0 : Fin 1) n) = X (ix3 (0 : Fin 2) (0 : Fin 1) (ca t n)) := by
  blk_ext [idx t, ca]

theorem blk_6 (X : FVec Ideal S2x1x11264 .f32) (t : Fin cfg0.N) (n : Fin 512) :
    ((cfg0.win 6).blk t).view.read (Elt Ideal) X (ix3 (0 : Fin 1) (0 : Fin 1) n) = X (ix3 (0 : Fin 2) (0 : Fin 1) (cg t n)) := by
  blk_ext [idx t, cg]

variable (m : (ℓ : Loc nD τ sig) → Buf (Elt Ideal) ℓ) (c : Dev nD)

/-- The padded rows and the weights at the kernel's start. -/
abbrev xs : FVec Ideal S16896x2048 .bf16 := V m c main_v1
abbrev ws : FVec Ideal S2x2048x11264 .f32 := V m c main_arg1

/-- The taps and the bias. -/
abbrev ts : FVec Ideal S2x3x11264 .f32 := V m c main_arg2
abbrev zs : FVec Ideal S2x1x11264 .f32 := V m c main_v2

/-- A projected row of a batch of padded rows, eight zero rows in front. -/
def U (b : Nat) (n : Fin 11264) (q : Nat) : EReal :=
  if h : 8 ≤ q ∧ b * 8448 + (q - 8) < 16896 then
    ∑ k : Fin 2048, xs m c (ix2 (⟨b * 8448 + (q - 8), h.2⟩ : Fin 16896) k) * ws m c (ix3 (0 : Fin 2) k n)
  else 0

theorem U_zero (b : Nat) (n : Fin 11264) (q : Nat) (h : q < 8) : U m c b n q = 0 := dif_neg (by omega)

/-- A row of the buffer at a point. -/
abbrev u (t : Fin cfg0.N) (n : Fin 11264) (r : Nat) : EReal := U m c (t.val % 22 / 11) n (t.val % 22 % 11 * 768 + r)

theorem proj (t : Fin cfg0.N) (x : Vec Ideal S768x2048 .bf16)
    (hx : ∀ (r : Fin 768) (k : Fin 2048), x (ix2 r k) = xs m c (ix2 (⟨t.val % 22 * 768 + r.val, by omega⟩ : Fin 16896) k))
    (W : Vec Ideal S2048x512 .bf16) (C : Fin 11264) (n : Fin 512)
    (hW : ∀ k : Fin 2048, W (ix2 k n) = ws m c (ix3 (0 : Fin 2) k C)) (r : Fin 768) :
    ∑ k : Fin 2048, x (ix2 r k) * W (ix2 k n) = u m c t C (8 + r.val) := by
  refine .trans ?_ (dif_pos (by omega)).symm
  refine Finset.sum_congr rfl fun k _ => congrArg₂ (· * ·) ((hx r k).trans ?_) (hW k)
  exact congrArg (fun R => xs m c (ix2 R k)) (Fin.ext (by simp only; omega))

section Buffers

variable (t : Fin cfg0.N) (C : Fin 512 → Fin 11264) (P : Vec Ideal S768x512 .f32)
  (hP : ∀ (r : Fin 768) (n : Fin 512), P (ix2 r n) = u m c t (C n) (8 + r.val))

include hP

theorem zero_rows (h1 : t.val % 11 = 0) (v : View sig .tc .vmem S776x512 .f32) (Z : Vec Ideal S8x512 .f32)
    (hZ : ∀ (r : Fin 8) (n : Fin 512), Z (ix2 r n) = 0) (r : Fin 776) (n : Fin 512) :
    v.readCov [low P, top Z] (Rect.unit (s := S776x512) ![0, 0] ![776, 512] inb_S776x512_S776x512_0_0).toLoadRect (ix2 r n)
      = u m c t (C n) r.val := by
  rw [full_zero]
  by_cases h : 8 ≤ r.val
  · rw [dif_pos h, hP]
    exact congrArg (u m c t (C n)) (by simp only; omega)
  · rw [dif_neg h, hZ]
    exact (U_zero m c _ _ _ (by omega)).symm

theorem carry_rows (v : View sig .tc .vmem S776x512 .f32) (f : v.ty.Contents (Elt Ideal))
    (hf : ∀ (r : Fin 8) (n : Fin 512), v.read (Elt Ideal) f (ix2 (⟨r.val, by omega⟩ : Fin 776) n) = u m c t (C n) r.val)
    (r : Fin 776) (n : Fin 512) :
    v.read (Elt Ideal) (v.writes (Elt Ideal) f [low P]) (ix2 r n) = u m c t (C n) r.val := by
  rw [full_carry]
  by_cases h : 8 ≤ r.val
  · rw [dif_pos h, hP]
    exact congrArg (u m c t (C n)) (by simp only; omega)
  · rw [dif_neg h]
    exact hf ⟨r.val, by omega⟩ n

theorem next_rows (v : View sig .tc .vmem S776x512 .f32) (L L' : List (View.Piece (Elt Ideal) S776x512 .f32)) (Q : Vec Ideal S8x512 .f32)
    (hQ : ∀ (r : Fin 8) (n : Fin 512), Q (ix2 r n)
      = v.readCov (low P :: L) (Rect.unit (s := S776x512) ![768, 0] ![8, 512] inb_S776x512_S8x512_768_0).toLoadRect (ix2 r n))
    (r : Fin 8) (n : Fin 512) :
    View.canon (top Q :: L') (ix2 (⟨r.val, by omega⟩ : Fin 776) n) = u m c t (C n) (768 + r.val) := by
  rw [canon_top _ _ _ _ r.isLt]
  refine (hQ r n).trans ((last_rows v P L r n).trans ((hP _ _).trans (congrArg (u m c t (C n)) ?_)))
  simp only
  omega

end Buffers

/-- What a point leaves in the four buffers that the next one reads. -/
def Left (t : Fin cfg0.N) : Prop :=
  (∀ (k : Fin 2048) (n : Fin 512), (outsAt0 m c t.val t.isLt).2.1 (ix2 k n) = ws m c (ix3 (0 : Fin 2) k (ca t n)))
  ∧ (∀ (k : Fin 2048) (n : Fin 512), (outsAt0 m c t.val t.isLt).2.2.1 (ix2 k n) = ws m c (ix3 (0 : Fin 2) k (cg t n)))
  ∧ (∀ (r : Fin 8) (n : Fin 512), (outsAt0 m c t.val t.isLt).2.2.2.1 (ix2 (⟨r.val, by omega⟩ : Fin 776) n) = u m c t (ca t n) (768 + r.val))
  ∧ (∀ (r : Fin 8) (n : Fin 512), (outsAt0 m c t.val t.isLt).2.2.2.2 (ix2 (⟨r.val, by omega⟩ : Fin 776) n) = u m c t (cg t n) (768 + r.val))

/-- The point before. -/
def prev (t : Fin cfg0.N) : Fin cfg0.N := ⟨t.val - 1, Nat.lt_of_le_of_lt (Nat.sub_le _ _) t.isLt⟩

theorem ca_prev (t : Fin cfg0.N) (h0 : ¬ t.val % 22 = 0) (n : Fin 512) : ca (prev t) n = ca t n :=
  Fin.ext (show (t.val - 1) / 22 * 512 + n.val = t.val / 22 * 512 + n.val by omega)

theorem cg_prev (t : Fin cfg0.N) (h0 : ¬ t.val % 22 = 0) (n : Fin 512) : cg (prev t) n = cg t n :=
  Fin.ext (show 5632 + ((t.val - 1) / 22 * 512 + n.val) = 5632 + (t.val / 22 * 512 + n.val) by omega)

theorem u_prev (t : Fin cfg0.N) (h0 : ¬ t.val % 22 = 0) (h1 : ¬ t.val % 11 = 0) (C : Fin 11264) (r : Nat) :
    u m c (prev t) C (768 + r) = u m c t C r := by
  have e1 : (prev t).val % 22 / 11 = t.val % 22 / 11 := show (t.val - 1) % 22 / 11 = _ by omega
  have e2 : (prev t).val % 22 % 11 * 768 + (768 + r) = t.val % 22 % 11 * 768 + r := show (t.val - 1) % 22 % 11 * 768 + (768 + r) = _ by omega
  unfold u
  rw [e1, e2]

theorem wa_prev (t : Fin cfg0.N) (h0 : ¬ t.val % 22 = 0) (L : Left m c (prev t)) (k : Fin 2048) (n : Fin 512) :
    (outsAt0 m c (t.val - 1) (Nat.lt_of_le_of_lt (Nat.sub_le _ _) t.isLt)).2.1 (ix2 k n) = ws m c (ix3 (0 : Fin 2) k (ca t n)) :=
  (L.1 k n).trans (by rw [ca_prev t h0])

theorem wg_prev (t : Fin cfg0.N) (h0 : ¬ t.val % 22 = 0) (L : Left m c (prev t)) (k : Fin 2048) (n : Fin 512) :
    (outsAt0 m c (t.val - 1) (Nat.lt_of_le_of_lt (Nat.sub_le _ _) t.isLt)).2.2.1 (ix2 k n) = ws m c (ix3 (0 : Fin 2) k (cg t n)) :=
  (L.2.1 k n).trans (by rw [cg_prev t h0])

theorem ba_prev (t : Fin cfg0.N) (h0 : ¬ t.val % 22 = 0) (h1 : ¬ t.val % 11 = 0) (L : Left m c (prev t)) (r : Fin 8) (n : Fin 512) :
    (outsAt0 m c (t.val - 1) (Nat.lt_of_le_of_lt (Nat.sub_le _ _) t.isLt)).2.2.2.1 (ix2 (⟨r.val, by omega⟩ : Fin 776) n) = u m c t (ca t n) r.val :=
  (L.2.2.1 r n).trans (by rw [ca_prev t h0, u_prev m c t h0 h1])

theorem bg_prev (t : Fin cfg0.N) (h0 : ¬ t.val % 22 = 0) (h1 : ¬ t.val % 11 = 0) (L : Left m c (prev t)) (r : Fin 8) (n : Fin 512) :
    (outsAt0 m c (t.val - 1) (Nat.lt_of_le_of_lt (Nat.sub_le _ _) t.isLt)).2.2.2.2 (ix2 (⟨r.val, by omega⟩ : Fin 776) n) = u m c t (cg t n) r.val :=
  (L.2.2.2 r n).trans (by rw [cg_prev t h0, u_prev m c t h0 h1])

/-- A point's rows of the first half, from the weights it reads. -/
theorem pa (t : Fin cfg0.N) (W : Vec Ideal S2048x512 .bf16)
    (hW : ∀ (k : Fin 2048) (n : Fin 512), W (ix2 k n) = ws m c (ix3 (0 : Fin 2) k (ca t n))) (r : Fin 768) (n : Fin 512) :
    k0_pay7 (iblk m c 0 t) W (ix2 r n) = u m c t (ca t n) (8 + r.val) :=
  (pay7_at _ _ _ _).trans (proj m c t _ (blk_0 (V m c main_v1) t) W _ n (fun k => hW k n) r)

theorem pg (t : Fin cfg0.N) (W : Vec Ideal S2048x512 .bf16)
    (hW : ∀ (k : Fin 2048) (n : Fin 512), W (ix2 k n) = ws m c (ix3 (0 : Fin 2) k (cg t n))) (r : Fin 768) (n : Fin 512) :
    k0_pay13 (iblk m c 0 t) W (ix2 r n) = u m c t (cg t n) (8 + r.val) :=
  (pay13_at _ _ _ _).trans (proj m c t _ (blk_0 (V m c main_v1) t) W _ n (fun k => hW k n) r)

theorem wa_new (t : Fin cfg0.N) (k : Fin 2048) (n : Fin 512) : k0_pay3 (iblk m c 1 t) (ix2 k n) = ws m c (ix3 (0 : Fin 2) k (ca t n)) :=
  (pay3_at _ _ _).trans (blk_1 (V m c main_arg1) t k n)

theorem wg_new (t : Fin cfg0.N) (k : Fin 2048) (n : Fin 512) : k0_pay4 (iblk m c 2 t) (ix2 k n) = ws m c (ix3 (0 : Fin 2) k (cg t n)) :=
  (pay4_at _ _ _).trans (blk_2 (V m c main_arg1) t k n)

theorem back (b : Ref sig .tc) (h : (Memref.whole b).IsWhole) (X : b.ty.shape.Idx → Elt Ideal b.ty.elt) :
    View.read (Elt Ideal) (View.whole b) (h.unread X) = X := h.read_unread X

theorem left_A (t : Fin cfg0.N) (h0 : t.val % 22 = 0) (h1 : t.val % 11 = 0) : Left m c t := by
  refine ⟨fun k n => ?_, fun k n => ?_, fun r n => ?_, fun r n => ?_⟩
  · rw [outsAt0_A m c t h0 h1]
    frame_out
    exact wa_new m c t k n
  · rw [outsAt0_A m c t h0 h1]
    frame_out
    exact wg_new m c t k n
  · rw [outsAt0_A m c t h0 h1]
    frame_out
    exact next_rows m c t (ca t) _ (pa m c t _ (wa_new m c t)) _ _ _ _ (fun r n => pay12_at _ r n) r n
  · rw [outsAt0_A m c t h0 h1]
    frame_out
    exact next_rows m c t (cg t) _ (pg m c t _ (wg_new m c t)) _ _ _ _ (fun r n => pay1_at _ r n) r n

theorem left_B (t : Fin cfg0.N) (h0 : ¬ t.val % 22 = 0) (h1 : ¬ t.val % 11 = 0) (L : Left m c (prev t)) : Left m c t := by
  refine ⟨fun k n => ?_, fun k n => ?_, fun r n => ?_, fun r n => ?_⟩
  · rw [outsAt0_B m c t h0 h1]
    exact wa_prev m c t h0 L k n
  · rw [outsAt0_B m c t h0 h1]
    exact wg_prev m c t h0 L k n
  · rw [outsAt0_B m c t h0 h1]
    frame_out
    refine next_rows m c t (ca t) _ (pa m c t _ fun k n => ?_) _ _ _ _ (fun r n => pay12_at _ r n) r n
    rw [back]
    exact wa_prev m c t h0 L k n
  · rw [outsAt0_B m c t h0 h1]
    frame_out
    refine next_rows m c t (cg t) _ (pg m c t _ fun k n => ?_) _ _ _ _ (fun r n => pay1_at _ r n) r n
    rw [back]
    exact wg_prev m c t h0 L k n

theorem left_C (t : Fin cfg0.N) (h0 : ¬ t.val % 22 = 0) (h1 : t.val % 11 = 0) (L : Left m c (prev t)) : Left m c t := by
  refine ⟨fun k n => ?_, fun k n => ?_, fun r n => ?_, fun r n => ?_⟩
  · rw [outsAt0_C m c t h0 h1]
    exact wa_prev m c t h0 L k n
  · rw [outsAt0_C m c t h0 h1]
    exact wg_prev m c t h0 L k n
  · rw [outsAt0_C m c t h0 h1]
    frame_out
    refine next_rows m c t (ca t) _ (pa m c t _ fun k n => ?_) _ _ _ _ (fun r n => pay12_at _ r n) r n
    rw [back]
    exact wa_prev m c t h0 L k n
  · rw [outsAt0_C m c t h0 h1]
    frame_out
    refine next_rows m c t (cg t) _ (pg m c t _ fun k n => ?_) _ _ _ _ (fun r n => pay1_at _ r n) r n
    rw [back]
    exact wg_prev m c t h0 L k n

theorem left (k : Nat) (hk : k < cfg0.N) : Left m c ⟨k, hk⟩ := by
  induction k with
  | zero => exact left_A m c _ rfl rfl
  | succ k ih =>
    have L : Left m c (prev ⟨k + 1, hk⟩) := ih (Nat.lt_of_succ_lt hk)
    by_cases h0 : (k + 1) % 22 = 0
    · exact left_A m c _ h0 (show (k + 1) % 11 = 0 by omega)
    · by_cases h1 : (k + 1) % 11 = 0
      · exact left_C m c _ h0 h1 L
      · exact left_B m c _ h0 h1 L

/-! ## The block a point writes -/

/-- A convolved place of a batch of padded rows. -/
def side (b : Nat) (n : Fin 11264) (q : Nat) : EReal :=
  taps (zs m c (ix3 (0 : Fin 2) (0 : Fin 1) n)) (ts m c (ix3 (0 : Fin 2) (0 : Fin 3) n)) (ts m c (ix3 (0 : Fin 2) (1 : Fin 3) n))
    (ts m c (ix3 (0 : Fin 2) (2 : Fin 3) n)) (U m c b n (q + 6)) (U m c b n (q + 7)) (U m c b n (q + 8))

/-- A gated activation, from the arrays at the kernel's start. -/
def actAt (R : Fin 16896) (N : Fin 5632) : EReal :=
  glu (side m c (R.val / 8448) (⟨N.val, by omega⟩ : Fin 11264) (R.val % 8448))
    (side m c (R.val / 8448) (⟨5632 + N.val, by omega⟩ : Fin 11264) (R.val % 8448))

theorem taps_congr {z z' a a' b b' d d' x x' y y' w w' : EReal} (hz : z = z') (ha : a = a') (hb : b = b') (hd : d = d') (hx : x = x') (hy : y = y')
    (hw : w = w') : taps z a b d x y w = taps z' a' b' d' x' y' w' := by
  subst hz ha hb hd hx hy hw
  rfl

theorem side_eq (t : Fin cfg0.N) (C : Fin 11264) (r : Fin 768) (R : Fin 16896) (hR : R.val = t.val % 22 * 768 + r.val) {z w0 w1 w2 u2 u1 u0 : EReal}
    (hz : z = zs m c (ix3 (0 : Fin 2) (0 : Fin 1) C)) (h0 : w0 = ts m c (ix3 (0 : Fin 2) (0 : Fin 3) C))
    (h1 : w1 = ts m c (ix3 (0 : Fin 2) (1 : Fin 3) C)) (h2 : w2 = ts m c (ix3 (0 : Fin 2) (2 : Fin 3) C))
    (e2 : u2 = u m c t C (6 + r.val)) (e1 : u1 = u m c t C (7 + r.val)) (e0 : u0 = u m c t C (8 + r.val)) :
    taps z w0 w1 w2 u2 u1 u0 = side m c (R.val / 8448) C (R.val % 8448) := by
  have hb : t.val % 22 / 11 = R.val / 8448 := by omega
  have hq : ∀ o : Nat, t.val % 22 % 11 * 768 + (o + r.val) = R.val % 8448 + o := fun o => by omega
  refine taps_congr hz h0 h1 h2 (e2.trans ?_) (e1.trans ?_) (e0.trans ?_)
  all_goals
    unfold u
    rw [hb, hq]

theorem block (t : Fin cfg0.N) (Y Z : Vec Ideal S776x512 .f32) (hY : ∀ (r : Fin 776) (n : Fin 512), Y (ix2 r n) = u m c t (ca t n) r.val)
    (hZ : ∀ (r : Fin 776) (n : Fin 512), Z (ix2 r n) = u m c t (cg t n) r.val) (r : Fin 768) (n : Fin 512) :
    k0_pay2 (k0_pay11 Y (k0_pay8 Y) (k0_pay9 Y) (k0_pay10 (iblk m c 5 t))
        (View.ld (iblk m c 3 t) (Rect.unit (s := S1x3x512) ![0, 0, 0] ![1, 1, 512] inb_S1x3x512_S1x1x512_0_0_0))
        (View.ld (iblk m c 3 t) (Rect.unit (s := S1x3x512) ![0, 1, 0] ![1, 1, 512] inb_S1x3x512_S1x1x512_0_1_0))
        (View.ld (iblk m c 3 t) (Rect.unit (s := S1x3x512) ![0, 2, 0] ![1, 1, 512] inb_S1x3x512_S1x1x512_0_2_0)))
      Z (k0_pay14 Z) (k0_pay15 Z) (iblk m c 6 t)
      (View.ld (iblk m c 4 t) (Rect.unit (s := S1x3x512) ![0, 0, 0] ![1, 1, 512] inb_S1x3x512_S1x1x512_0_0_0))
      (View.ld (iblk m c 4 t) (Rect.unit (s := S1x3x512) ![0, 1, 0] ![1, 1, 512] inb_S1x3x512_S1x1x512_0_1_0))
      (View.ld (iblk m c 4 t) (Rect.unit (s := S1x3x512) ![0, 2, 0] ![1, 1, 512] inb_S1x3x512_S1x1x512_0_2_0)) (ix2 r n)
      = actAt m c ⟨t.val % 22 * 768 + r.val, by omega⟩ ⟨t.val / 22 * 512 + n.val, by have := lt t; omega⟩ := by
  refine (pay2_at Y Z (iblk m c 5 t) (iblk m c 6 t) _ _ _ _ _ _ r n).trans (congrArg₂ glu ?_ ?_)
  · exact side_eq m c t (ca t n) r _ rfl (blk_5 (V m c main_v2) t n)
      ((ld_tap (iblk m c 3 t) 0 (by omega) _ n).trans (blk_3 (V m c main_arg2) t 0 n))
      ((ld_tap (iblk m c 3 t) 1 (by omega) _ n).trans (blk_3 (V m c main_arg2) t 1 n))
      ((ld_tap (iblk m c 3 t) 2 (by omega) _ n).trans (blk_3 (V m c main_arg2) t 2 n)) (hY _ n) (hY _ n) (hY _ n)
  · exact side_eq m c t (cg t n) r _ rfl (blk_6 (V m c main_v2) t n)
      ((ld_tap (iblk m c 4 t) 0 (by omega) _ n).trans (blk_4 (V m c main_arg2) t 0 n))
      ((ld_tap (iblk m c 4 t) 1 (by omega) _ n).trans (blk_4 (V m c main_arg2) t 1 n))
      ((ld_tap (iblk m c 4 t) 2 (by omega) _ n).trans (blk_4 (V m c main_arg2) t 2 n)) (hZ _ n) (hZ _ n) (hZ _ n)

theorem point (t : Fin cfg0.N) (r : Fin 768) (n : Fin 512) : (outsAt0 m c t.val t.isLt).1 (ix2 r n)
      = actAt m c ⟨t.val % 22 * 768 + r.val, by omega⟩ ⟨t.val / 22 * 512 + n.val, by have := lt t; omega⟩ := by
  by_cases h0 : t.val % 22 = 0
  · have h1 : t.val % 11 = 0 := by omega
    rw [outsAt0_A m c t h0 h1]
    frame_out
    exact block m c t _ _ (zero_rows m c t (ca t) _ (pa m c t _ (wa_new m c t)) h1 _ _ pay5_at)
      (zero_rows m c t (cg t) _ (pg m c t _ (wg_new m c t)) h1 _ _ pay6_at) r n
  · have L : Left m c (prev t) := left m c _ _
    by_cases h1 : t.val % 11 = 0
    · rw [outsAt0_C m c t h0 h1]
      frame_out
      refine block m c t _ _ (zero_rows m c t (ca t) _ (pa m c t _ fun k n => ?_) h1 _ _ pay5_at)
        (zero_rows m c t (cg t) _ (pg m c t _ fun k n => ?_) h1 _ _ pay6_at) r n
      · rw [back]
        exact wa_prev m c t h0 L k n
      · rw [back]
        exact wg_prev m c t h0 L k n
    · rw [outsAt0_B m c t h0 h1]
      frame_out
      refine block m c t _ _ (carry_rows m c t (ca t) _ (pa m c t _ fun k n => ?_) _ _ fun r n => ?_)
        (carry_rows m c t (cg t) _ (pg m c t _ fun k n => ?_) _ _ fun r n => ?_) r n
      · rw [back]
        exact wa_prev m c t h0 L k n
      · rw [back]
        exact ba_prev m c t h0 h1 L r n
      · rw [back]
        exact wg_prev m c t h0 L k n
      · rw [back]
        exact bg_prev m c t h0 h1 L r n

end Cert.Kernel5Ideal.Up

end
-- ==== Proof.Up.Run.lean ====
/-
  The up projection's result: the blocks together, without the padding, against the reference.
-/
module

public import proofs.«01_k».proof.Proof.Up.Value

@[expose] public section

set_option maxRecDepth 16384

noncomputable section

namespace Cert.Kernel5Ideal.Up

open Cert.Kernel5Ideal Cert.Kernel5Ideal.Gen
open Idealize.ShloMosaic Idealize.ShloMosaic.TcCoe
open Cert.Reference5Ideal.Up (taps glu row act act_at conved conved_at)

variable (m : (ℓ : Loc nD τ sig) → Buf (Elt Ideal) ℓ) (c : Dev nD)

theorem out7 : (dats m 0 c).arrAt 7 cfg0.N = (fun y : S16896x5632.Idx => actAt m c (y 0) (y 1)) := by
  refine (dats m 0 c).arrAt_eq_of_covers 7 _ (by decide +kernel) fun t _ y => ?_
  have hy0 : (y 0).val < 768 := (y 0).isLt
  have hy1 : (y 1).val < 512 := (y 1).isLt
  have hy : y = ix2 (⟨(y 0).val, hy0⟩ : Fin 768) (⟨(y 1).val, hy1⟩ : Fin 512) := by
    funext a
    fin_cases a <;> rfl
  blk_simp [idx t]
  rw [after0_7]
  refine (congrArg (outsAt0 m c t.val t.isLt).1 hy).trans ((point m c t ⟨_, hy0⟩ ⟨_, hy1⟩).trans
    (congrArg₂ (actAt m c) (Fin.ext ?_) (Fin.ext ?_)))
  · blk_simp [idx t]
  · blk_simp [idx t]

/-! ## The arrays at the kernel's start -/

theorem ix3_eq {p q s : Nat} {a a' : Fin p} {b b' : Fin q} {k : Fin s} (ha : a.val = a'.val) (hb : b.val = b'.val) : ix3 a b k = ix3 a' b' k := by
  rw [Fin.ext ha, Fin.ext hb]

theorem xs_at (b : Fin 2) (i : Fin 8208) (k : Fin 2048) (R : Fin 16896) (h : R.val = b.val * 8448 + i.val) :
    xs m c (ix2 R k) = m ((c : Thread nD τ).loc main_arg0) (ix3 b i k) := by
  show StableHlo.after hostOps0 (fun b => m (c, b)) (Proc.devRef .tc main_v1) _ = _
  after_results
  pointwise
  rw [dif_pos (by omega)]
  exact congrArg _ (ix3_eq (by simp only; omega) (by simp only; omega))

theorem ws_eq : ws m c = m ((c : Thread nD τ).loc main_arg1) := by
  show StableHlo.after hostOps0 (fun b => m (c, b)) (Proc.devRef .tc main_arg1) = _
  after_results

theorem ts_eq : ts m c = m ((c : Thread nD τ).loc main_arg2) := by
  show StableHlo.after hostOps0 (fun b => m (c, b)) (Proc.devRef .tc main_arg2) = _
  after_results

theorem zs_at (n : Fin 11264) : zs m c (ix3 (0 : Fin 2) (0 : Fin 1) n) = m ((c : Thread nD τ).loc main_arg3) (ix2 (0 : Fin 2) n) := by
  show StableHlo.after hostOps0 (fun b => m (c, b)) (Proc.devRef .tc main_v2) _ = _
  after_results
  pointwise

theorem U_eq (b : Fin 2) (n : Fin 11264) (q : Nat) (hq : q < 8210) :
    U m c b.val n (q + 6) = row (m ((c : Thread nD τ).loc main_arg0)) (m ((c : Thread nD τ).loc main_arg1)) b n q := by
  by_cases h : 2 ≤ q
  · refine (dif_pos (by omega)).trans (.trans ?_ (dif_pos (by omega)).symm)
    refine Finset.sum_congr rfl fun k _ => congrArg₂ (· * ·) (xs_at m c b ⟨q - 2, by omega⟩ k _ (by simp only; omega)) ?_
    rw [ws_eq]
  · refine .trans (dif_neg (by omega)) (.symm (?_ : row _ _ b n q = 0))
    exact dif_neg (by omega)

theorem side_at (b : Fin 2) (n : Fin 11264) (i : Fin 8208) :
    side m c b.val n i.val = conved (F := Ideal) (m ((c : Thread nD τ).loc main_arg0)) (m ((c : Thread nD τ).loc main_arg1)) (m ((c : Thread nD τ).loc main_arg2))
      (m ((c : Thread nD τ).loc main_arg3)) (ix3 b i n) := by
  refine .trans ?_ (conved_at _ _ _ _ b i n).symm
  unfold side
  rw [zs_at, ts_eq]
  exact taps_congr rfl rfl rfl rfl (U_eq m c b n i.val (by omega)) (U_eq m c b n (i.val + 1) (by omega)) (U_eq m c b n (i.val + 2) (by omega))

/-! ## The result: the array without the padding -/

/-- The kept rows of an array of padded rows. -/
def crop (X : FVec Ideal S16896x5632 .bf16) : FVec Ideal S2x8208x5632 .bf16 :=
  extractStridedSlice S2x8208x5632 ![0, 0, 0] (shapeCast S2x8448x5632 X shapeCasts_S16896x5632_S2x8448x5632)
    slices_S2x8448x5632_S2x8208x5632_0_0_0

theorem crop_at (X : FVec Ideal S16896x5632 .bf16) (b : Fin 2) (i : Fin 8208) (n : Fin 5632) :
    crop X (ix3 b i n) = X (ix2 (⟨b.val * 8448 + i.val, by omega⟩ : Fin 16896) n) := by
  pointwise [crop]

def result : FVec Ideal S2x8208x5632 .bf16 := crop ((dats m 0 c).arrAt 7 cfg0.N)

theorem result_at (b : Fin 2) (i : Fin 8208) (n : Fin 5632) : result m c (ix3 b i n)
    = act (F := Ideal) (m ((c : Thread nD τ).loc main_arg0)) (m ((c : Thread nD τ).loc main_arg1))
      (m ((c : Thread nD τ).loc main_arg2)) (m ((c : Thread nD τ).loc main_arg3)) (ix3 b i n) := by
  refine (crop_at _ _ _ _).trans ((congrFun (out7 m c) _).trans (.trans ?_ (act_at _ _ _ _ b i n).symm))
  show glu (side m c ((b.val * 8448 + i.val) / 8448) _ ((b.val * 8448 + i.val) % 8448)) (side m c ((b.val * 8448 + i.val) / 8448) _ ((b.val * 8448 + i.val) % 8448)) = _
  rw [show (b.val * 8448 + i.val) / 8448 = b.val by omega, show (b.val * 8448 + i.val) % 8448 = i.val by omega]
  exact congrArg₂ glu (side_at m c b _ i) (side_at m c b _ i)

theorem result_eq : result m c = act (F := Ideal) (m ((c : Thread nD τ).loc main_arg0)) (m ((c : Thread nD τ).loc main_arg1))
    (m ((c : Thread nD τ).loc main_arg2)) (m ((c : Thread nD τ).loc main_arg3)) := by
  funext y
  have hy : y = ix3 (y 0 : Fin 2) (y 1 : Fin 8208) (y 2 : Fin 5632) := by funext a; fin_cases a <;> rfl
  rw [hy]
  exact result_at m c _ _ _

/-! ## The run -/

theorem tail (σ : Valuation τ sig (Elt Ideal)) : StableHlo.after hostOps1 σ (Proc.devRef .tc main_v5) = crop (σ (Proc.devRef .tc main_v3)) := by
  after_results
  rfl

theorem res : Pipeline.afterTail₀ cfgs (dats m) 0 (V0 m) [hostOps1] c main_v5 = result m c := by
  unfold Pipeline.afterTail₀ result
  rw [show [hostOps1 (F := Ideal)].flatten = hostOps1 from rfl]
  exact (tail _).trans (congrArg crop (Pipeline.withArrays_arr_shared spec0 c _ (fun w => (dats m 0 c).arrAt w cfg0.N)
    ((dats m 0 c).arrAt_sharedIn sharedIn0 _ (A_eq m c) cfg0.N) 7))

theorem rest : main_v5 ∈ Pipeline.restRefs sig spec0 := by decide

/-- The program's run, read at its result. -/
theorem run (ρ : Dev nD → PrngReg) : θ_run defs (onTc (τ := τ) (main (F := Ideal))) (s₀ m ρ) fun r =>
    ∀ c : Dev nD, r.2.mem ((c : Thread nD τ).loc main_v5) = result m c :=
  θ_run_mono (run_main m ρ) fun _ hr c => ((hr c).2 main_v5 rest).trans (res m c)

end Cert.Kernel5Ideal.Up

end
-- ==== Proof.Next.Ref.lean ====
/-
  The first layer's down projection and the next layer's norm, as the reference writes them, and their elements.
-/
module

public import proofs.«01_k».proof.Proof.Gen.Reference6Ideal.Run
public import proofs.«01_k».proof.Proof.Rows

@[expose] public section

set_option maxRecDepth 16384

noncomputable section

namespace Cert.Rows

/-- One row after the feed-forward part: the stream, and the projection of the gated activations. -/
def down (a : Fin 5632 → EReal) (h : Fin 2048 → EReal) (w : Fin 5632 → Fin 2048 → EReal) (n : Fin 2048) : EReal :=
  h n + ∑ k : Fin 5632, a k * w k n

theorem down_congr {a a' : Fin 5632 → EReal} {h h' : Fin 2048 → EReal} {w w' : Fin 5632 → Fin 2048 → EReal} (ha : ∀ k, a k = a' k)
    (hh : ∀ n, h n = h' n) (hw : ∀ k n, w k n = w' k n) (n : Fin 2048) : down a h w n = down a' h' w' n := by
  rw [funext ha, funext hh, funext fun k => funext (hw k)]

end Cert.Rows

namespace Cert.Reference6Ideal.Next

open Cert.Reference6Ideal Cert.Reference6Ideal.Gen Cert.Rows
open Idealize.ShloMosaic Idealize.ShloMosaic.TcCoe

variable {F : FTy → Type} [FloatOps F]

/-- The residual stream after the layer. -/
def stream (x0 : FVec F S2x8208x5632 .bf16) (x1 : FVec F S2x8208x2048 .f32) (x2 : FVec F S2x5632x2048 .f32) : FVec F S2x8208x2048 .f32 :=
  addf x1 (Host.dotGeneral dot_S2x8208x5632_S5632x2048_S2x8208x2048_2_0_01_1_n_n none (extf .f32 x0 bitsLt_bf16_f32) (shapeCast _ (extractStridedSlice S1x5632x2048 ![0, 0, 0] x2 slices_S2x5632x2048_S1x5632x2048_0_0_0) shapeCasts_S1x5632x2048_S5632x2048))

/-- Its norm. -/
def normed (x0 : FVec F S2x8208x5632 .bf16) (x1 : FVec F S2x8208x2048 .f32) (x2 : FVec F S2x5632x2048 .f32) (x3 : FVec F S2x2048 .f32) : FVec F S2x8208x2048 .bf16 :=
  truncf .bf16 (mulf (mulf (stream x0 x1 x2) (broadcastInDim S2x8208x2048 ![0, 1, 2] bcast_S2x8208x1_S2x8208x2048_0_1_2 (Host.rsqrt (addf (Host.divf (broadcastInDim S2x8208x1 ![0, 1] bcast_S2x8208_S2x8208x1_0_1 (Host.reduceAdd (mulf (stream x0 x1 x2) (stream x0 x1 x2)) (constant S_ .f32 0x00000000#32) reducesTo_S2x8208x2048_S2x8208_d2 h_S_)) (broadcastInDim S2x8208x1 ![] bcast_S_S2x8208x1 (constant S_ .f32 0x45000000#32))) (broadcastInDim S2x8208x1 ![] bcast_S_S2x8208x1 (constant S_ .f32 0x358637BD#32)))))) (broadcastInDim S2x8208x2048 ![0, 1, 2] bcast_S1x1x2048_S2x8208x2048_0_1_2 (broadcastInDim S1x1x2048 ![2] bcast_S2048_S1x1x2048_2 (shapeCast _ (extractStridedSlice S1x2048 ![1, 0] x3 slices_S2x2048_S1x2048_1_0) shapeCasts_S1x2048_S2048)))) bitsLt_bf16_f32

theorem stream_at (x0 : FVec Ideal S2x8208x5632 .bf16) (x1 : FVec Ideal S2x8208x2048 .f32) (x2 : FVec Ideal S2x5632x2048 .f32) (b : Fin 2) (i : Fin 8208) (n : Fin 2048) :
    stream x0 x1 x2 (ix3 b i n)
      = down (fun k => x0 (ix3 b i k)) (fun k => x1 (ix3 b i k)) (fun k n => x2 (ix3 (0 : Fin 2) k n)) n := by
  pointwise [stream]
  rfl

theorem normed_at (x0 : FVec Ideal S2x8208x5632 .bf16) (x1 : FVec Ideal S2x8208x2048 .f32) (x2 : FVec Ideal S2x5632x2048 .f32) (x3 : FVec Ideal S2x2048 .f32) (b : Fin 2) (i : Fin 8208) (n : Fin 2048) :
    normed x0 x1 x2 x3 (ix3 b i n)
      = norm (fun k => stream x0 x1 x2 (ix3 b i k)) (fun k => x3 (ix2 (1 : Fin 2) k)) n := by
  pointwise [normed]
  rfl

end Cert.Reference6Ideal.Next

end
-- ==== Proof.Next.Value.lean ====
/-
  The first layer's down projection with the residual, and the next layer's norm.

  A grid point reads 256 rows of the padded arrays and the layer's weights, and writes the rows and the normed rows.
-/
module

public import proofs.«01_k».proof.Proof.Next.Ref
public import proofs.«01_k».proof.Proof.Gen.Kernel6Ideal.Frame
public import Idealize.ShloMosaic.Lib.Pipeline.ValueKit

@[expose] public section

set_option maxRecDepth 16384

noncomputable section

namespace Cert.Kernel6Ideal.Next

open Cert.Kernel6Ideal Cert.Kernel6Ideal.Gen Cert.Rows
open Idealize.ShloMosaic Idealize.ShloMosaic.TcCoe
open Cert.Reference6Ideal.Next (stream normed stream_at normed_at)

/-- The windows' blocks at a grid point. -/
theorem idx : ∀ t : Fin cfg0.N,
    win0_0.index t = ![(grid0.coords t 0).val, 0] ∧ win0_1.index t = ![(grid0.coords t 0).val, 0]
      ∧ win0_2.index t = ![0, 0, 0] ∧ win0_3.index t = ![0, 0]
      ∧ win0_4.index t = ![(grid0.coords t 0).val, 0] ∧ win0_5.index t = ![(grid0.coords t 0).val, 0] :=
  (by decide +kernel : ∀ t : Fin grid0.N, _)

theorem coord (t : Fin cfg0.N) : (grid0.coords t 0).val < 66 := (grid0.coords t 0).isLt

theorem ix3_eq {p q s : Nat} {a a' : Fin p} {b b' : Fin q} {k : Fin s} (ha : a.val = a'.val) (hb : b.val = b'.val) : ix3 a b k = ix3 a' b' k := by
  rw [Fin.ext ha, Fin.ext hb]

/-! ## What the body stores -/

theorem pay1_at (v0 : Vec Ideal S256x2048 .f32) (v2 : Vec Ideal S256x5632 .bf16) (v4 : Vec Ideal S1x5632x2048 .bf16) (r : Fin 256)
    (n : Fin 2048) : k0_pay1 v0 v2 v4 (ix2 r n)
      = down (fun k => v2 (ix2 r k)) (fun k => v0 (ix2 r k)) (fun k n => v4 (ix3 (0 : Fin 1) k n)) n := by
  pointwise [k0_pay1]
  rfl

theorem pay2_at (v0 : Vec Ideal S256x2048 .f32) (v2 : Vec Ideal S256x5632 .bf16) (v4 : Vec Ideal S1x5632x2048 .bf16)
    (v9 : Vec Ideal S1x2048 .f32) (r : Fin 256) (n : Fin 2048) : k0_pay2 v0 v2 v4 v9 (ix2 r n)
      = norm (fun k => k0_pay1 v0 v2 v4 (ix2 r k)) (fun k => v9 (ix2 (0 : Fin 1) k)) n := by
  pointwise [k0_pay2]
  rfl

variable (m : (ℓ : Loc nD τ sig) → Buf (Elt Ideal) ℓ) (c : Dev nD)

/-! ## The arrays at the kernel's start -/

theorem v1_at (b : Fin 2) (i : Fin 8208) (k : Fin 5632) (R : Fin 16896) (h : R.val = b.val * 8448 + i.val) :
    V m c main_v1 (ix2 R k) = m ((c : Thread nD τ).loc main_arg0) (ix3 b i k) := by
  show StableHlo.after hostOps0 (fun b => m (c, b)) (Proc.devRef .tc main_v1) _ = _
  after_results
  pointwise
  rw [dif_pos (by omega)]
  exact congrArg _ (ix3_eq (by simp only; omega) (by simp only; omega))

theorem v3_at (b : Fin 2) (i : Fin 8208) (k : Fin 2048) (R : Fin 16896) (h : R.val = b.val * 8448 + i.val) :
    V m c main_v3 (ix2 R k) = m ((c : Thread nD τ).loc main_arg1) (ix3 b i k) := by
  show StableHlo.after hostOps0 (fun b => m (c, b)) (Proc.devRef .tc main_v3) _ = _
  after_results
  pointwise
  rw [dif_pos (by omega)]
  exact congrArg _ (ix3_eq (by simp only; omega) (by simp only; omega))

theorem v4_at (l : Fin 2) (k : Fin 5632) (n : Fin 2048) :
    V m c main_v4 (ix3 l k n) = m ((c : Thread nD τ).loc main_arg2) (ix3 l k n) := by
  show StableHlo.after hostOps0 (fun b => m (c, b)) (Proc.devRef .tc main_v4) _ = _
  after_results
  pointwise

theorem v7_at (n : Fin 2048) : V m c main_v7 (ix2 (0 : Fin 1) n) = m ((c : Thread nD τ).loc main_arg3) (ix2 (1 : Fin 2) n) := by
  show StableHlo.after hostOps0 (fun b => m (c, b)) (Proc.devRef .tc main_v7) _ = _
  after_results
  pointwise

/-! ## The blocks -/

theorem blk_0 (X : FVec Ideal S16896x5632 .bf16) (t : Fin cfg0.N) (r : Fin 256) (k : Fin 5632) :
    ((cfg0.win 0).blk t).view.read (Elt Ideal) X (ix2 r k)
      = X (ix2 (⟨(grid0.coords t 0).val * 256 + r.val, by have := coord t; omega⟩ : Fin 16896) k) := by
  blk_ext [idx t]

theorem blk_1 (X : FVec Ideal S16896x2048 .f32) (t : Fin cfg0.N) (r : Fin 256) (k : Fin 2048) :
    ((cfg0.win 1).blk t).view.read (Elt Ideal) X (ix2 r k)
      = X (ix2 (⟨(grid0.coords t 0).val * 256 + r.val, by have := coord t; omega⟩ : Fin 16896) k) := by
  blk_ext [idx t]

theorem blk_2 (X : FVec Ideal S2x5632x2048 .bf16) (t : Fin cfg0.N) (k : Fin 5632) (n : Fin 2048) :
    ((cfg0.win 2).blk t).view.read (Elt Ideal) X (ix3 (0 : Fin 1) k n) = X (ix3 (0 : Fin 2) k n) := by
  blk_ext [idx t]

theorem blk_3 (X : FVec Ideal S1x2048 .f32) (t : Fin cfg0.N) (n : Fin 2048) :
    ((cfg0.win 3).blk t).view.read (Elt Ideal) X (ix2 (0 : Fin 1) n) = X (ix2 (0 : Fin 1) n) := by
  blk_ext [idx t]

/-! ## The output arrays -/

/-- Row `R` of the stream after the layer, from the arrays at the kernel's start. -/
def row (R : Fin 16896) (n : Fin 2048) : EReal :=
  down (fun k => V m c main_v1 (ix2 R k)) (fun k => V m c main_v3 (ix2 R k)) (fun k n => V m c main_v4 (ix3 (0 : Fin 2) k n)) n

theorem point (t : Fin cfg0.N) (r : Fin 256) (n : Fin 2048) :
    k0_pay1 (iblk m c 1 t) (iblk m c 0 t) (iblk m c 2 t) (ix2 r n)
      = row m c ⟨(grid0.coords t 0).val * 256 + r.val, by have := coord t; omega⟩ n :=
  (pay1_at _ _ _ r n).trans (down_congr (fun k => blk_0 (V m c main_v1) t r k) (fun k => blk_1 (V m c main_v3) t r k)
    (fun k n => blk_2 (V m c main_v4) t k n) n)

theorem out4 : (dats m 0 c).arrAt 4 cfg0.N = (fun y : S16896x2048.Idx => row m c (y 0) (y 1)) := by
  refine (dats m 0 c).arrAt_eq_of_covers 4 _ (by decide +kernel) fun t _ y => ?_
  have hy0 : (y 0).val < 256 := (y 0).isLt
  have hy1 : (y 1).val < 2048 := (y 1).isLt
  have hc := coord t
  rw [after0_4]
  frame_out
  refine (congrArg _ (?_ : y = ix2 (⟨(y 0).val, hy0⟩ : Fin 256) (⟨(y 1).val, hy1⟩ : Fin 2048))).trans
    ((point m c t ⟨_, hy0⟩ ⟨_, hy1⟩).trans (congrArg₂ (row m c) (Fin.ext ?_) (Fin.ext ?_)))
  · funext a
    fin_cases a <;> rfl
  · blk_simp [idx t]
  · blk_simp [idx t]

theorem out5 : (dats m 0 c).arrAt 5 cfg0.N
    = (fun y : S16896x2048.Idx => norm (fun k => row m c (y 0) k) (fun k => V m c main_v7 (ix2 (0 : Fin 1) k)) (y 1)) := by
  refine (dats m 0 c).arrAt_eq_of_covers 5 _ (by decide +kernel) fun t _ y => ?_
  have hy0 : (y 0).val < 256 := (y 0).isLt
  have hy1 : (y 1).val < 2048 := (y 1).isLt
  have hc := coord t
  rw [after0_5]
  frame_out
  refine (congrArg _ (?_ : y = ix2 (⟨(y 0).val, hy0⟩ : Fin 256) (⟨(y 1).val, hy1⟩ : Fin 2048))).trans
    ((pay2_at _ _ _ _ ⟨_, hy0⟩ ⟨_, hy1⟩).trans ?_)
  · funext a
    fin_cases a <;> rfl
  · refine (norm_congr (fun k => point m c t ⟨_, hy0⟩ k) (fun k => blk_3 (V m c main_v7) t k) _).trans ?_
    refine congrArg₂ (fun R n => norm (fun k => row m c R k) (fun k => V m c main_v7 (ix2 (0 : Fin 1) k)) n) (Fin.ext ?_) (Fin.ext ?_)
    · blk_simp [idx t]
    · blk_simp [idx t]

/-! ## The results: the arrays without the padding -/

/-- The kept rows of an array of padded rows. -/
def crop (φ : FTy) (X : FVec Ideal S16896x2048 φ) : FVec Ideal S2x8208x2048 φ :=
  extractStridedSlice S2x8208x2048 ![0, 0, 0] (shapeCast S2x8448x2048 X shapeCasts_S16896x2048_S2x8448x2048)
    slices_S2x8448x2048_S2x8208x2048_0_0_0

theorem crop_at (φ : FTy) (X : FVec Ideal S16896x2048 φ) (b : Fin 2) (i : Fin 8208) (n : Fin 2048) :
    crop φ X (ix3 b i n) = X (ix2 (⟨b.val * 8448 + i.val, by omega⟩ : Fin 16896) n) := by
  pointwise [crop]

/-- A kept row of the stream, from the program's arguments. -/
theorem row_at (b : Fin 2) (i : Fin 8208) (n : Fin 2048) : row m c ⟨b.val * 8448 + i.val, by omega⟩ n
    = stream (F := Ideal) (m ((c : Thread nD τ).loc main_arg0)) (m ((c : Thread nD τ).loc main_arg1)) (m ((c : Thread nD τ).loc main_arg2))
        (ix3 b i n) :=
  .trans (down_congr (fun k => v1_at m c b i k _ rfl) (fun k => v3_at m c b i k _ rfl) (fun k n => v4_at m c 0 k n) n)
    (stream_at _ _ _ b i n).symm

/-- What the program's results hold. -/
def result0 : FVec Ideal S2x8208x2048 .f32 :=
  crop .f32 ((dats m 0 c).arrAt 4 cfg0.N)

def result1 : FVec Ideal S2x8208x2048 .bf16 :=
  crop .bf16 ((dats m 0 c).arrAt 5 cfg0.N)

theorem result0_eq : result0 m c = stream (F := Ideal) (m ((c : Thread nD τ).loc main_arg0)) (m ((c : Thread nD τ).loc main_arg1))
    (m ((c : Thread nD τ).loc main_arg2)) := by
  funext y
  have hy : y = ix3 (y 0 : Fin 2) (y 1 : Fin 8208) (y 2 : Fin 2048) := by funext a; fin_cases a <;> rfl
  rw [hy]
  exact (crop_at .f32 _ _ _ _).trans ((congrFun (out4 m c) _).trans (row_at m c _ _ _))

theorem result1_eq : result1 m c = normed (F := Ideal) (m ((c : Thread nD τ).loc main_arg0)) (m ((c : Thread nD τ).loc main_arg1))
    (m ((c : Thread nD τ).loc main_arg2)) (m ((c : Thread nD τ).loc main_arg3)) := by
  funext y
  have hy : y = ix3 (y 0 : Fin 2) (y 1 : Fin 8208) (y 2 : Fin 2048) := by funext a; fin_cases a <;> rfl
  rw [hy]
  exact (crop_at .bf16 _ _ _ _).trans ((congrFun (out5 m c) _).trans
    (.trans (norm_congr (fun k => row_at m c _ _ k) (fun k => v7_at m c k) _) (normed_at _ _ _ _ _ _ _).symm))

/-! ## The run -/

theorem tail_0 (σ : Valuation τ sig (Elt Ideal)) : StableHlo.after hostOps1 σ (Proc.devRef .tc main_v10)
    = crop .f32 (σ (Proc.devRef .tc main_v8_0)) := by
  after_results
  rfl

theorem tail_1 (σ : Valuation τ sig (Elt Ideal)) : StableHlo.after hostOps1 σ (Proc.devRef .tc main_v12)
    = crop .bf16 (σ (Proc.devRef .tc main_v8_1)) := by
  after_results
  rfl

theorem res_0 : Pipeline.afterTail₀ cfgs (dats m) 0 (V0 m) [hostOps1] c main_v10 = result0 m c := by
  unfold Pipeline.afterTail₀ result0
  rw [show [hostOps1 (F := Ideal)].flatten = hostOps1 from rfl]
  exact (tail_0 _).trans (congrArg (crop .f32) (Pipeline.withArrays_arr spec0 (by decide) c _ (fun w => (dats m 0 c).arrAt w cfg0.N) 4))

theorem res_1 : Pipeline.afterTail₀ cfgs (dats m) 0 (V0 m) [hostOps1] c main_v12 = result1 m c := by
  unfold Pipeline.afterTail₀ result1
  rw [show [hostOps1 (F := Ideal)].flatten = hostOps1 from rfl]
  exact (tail_1 _).trans (congrArg (crop .bf16) (Pipeline.withArrays_arr spec0 (by decide) c _ (fun w => (dats m 0 c).arrAt w cfg0.N) 5))

theorem rest_0 : main_v10 ∈ Pipeline.restRefs sig spec0 := by decide
theorem rest_1 : main_v12 ∈ Pipeline.restRefs sig spec0 := by decide

/-- The program's run, read at its two results: they are the reference's. -/
theorem run (ρ : Dev nD → PrngReg) : θ_run defs (onTc (τ := τ) (main (F := Ideal))) (s₀ m ρ) fun r =>
    ∀ c : Dev nD, r.2.mem ((c : Thread nD τ).loc main_v10) = result0 m c ∧ r.2.mem ((c : Thread nD τ).loc main_v12) = result1 m c :=
  θ_run_mono (run_main m ρ) fun _ hr c =>
    ⟨((hr c).2 main_v10 rest_0).trans (res_0 m c), ((hr c).2 main_v12 rest_1).trans (res_1 m c)⟩

end Cert.Kernel6Ideal.Next

end
-- ==== Proof.Keys.Ref.lean ====
/-
  The projection of keys, as the reference writes it, and its elements.
-/
module

public import proofs.«01_k».proof.Proof.Gen.Reference7Ideal.Run
public import Idealize.ShloMosaic.Lib.Pointwise

@[expose] public section

set_option maxRecDepth 16384

noncomputable section

namespace Cert.Reference7Ideal.Keys

open Cert.Reference7Ideal Cert.Reference7Ideal.Gen
open Idealize.ShloMosaic Idealize.ShloMosaic.TcCoe

variable {F : FTy → Type} [FloatOps F]

/-- The projected rows. -/
def keys (x0 : FVec F S2x8208x2048 .bf16) (x1 : FVec F S2x2048x8000 .f32) : FVec F S2x8208x1024 .bf16 :=
  truncf .bf16 (Host.dotGeneral dot_S2x8208x2048_S2048x1024_S2x8208x1024_2_0_01_1_n_n none (extf .f32 x0 bitsLt_bf16_f32) (shapeCast _ (extractStridedSlice S1x2048x1024 ![0, 0, 1024] x1 slices_S2x2048x8000_S1x2048x1024_0_0_1024) shapeCasts_S1x2048x1024_S2048x1024)) bitsLt_bf16_f32

theorem keys_at (x0 : FVec Ideal S2x8208x2048 .bf16) (x1 : FVec Ideal S2x2048x8000 .f32) (b : Fin 2) (i : Fin 8208) (n : Fin 1024) :
    keys x0 x1 (ix3 b i n) = ∑ k : Fin 2048, (x0 (ix3 b i k) : EReal) * x1 (ix3 (0 : Fin 2) k (⟨1024 + n.val, by omega⟩ : Fin 8000)) := by
  pointwise [keys]

end Cert.Reference7Ideal.Keys

end
-- ==== Proof.Keys.Value.lean ====
/-
  The keys' projection of the normed rows.

  A grid point reads 768 padded rows and the keys' 1024 columns of the weights, and writes the keys in three bands of 256 rows.
-/
module

public import proofs.«01_k».proof.Proof.Keys.Ref
public import proofs.«01_k».proof.Proof.Gen.Kernel7Ideal.Frame
public import Idealize.ShloMosaic.Lib.Pipeline.ValueKit

@[expose] public section

set_option maxRecDepth 16384

noncomputable section

namespace Cert.Kernel7Ideal.Keys

open Cert.Kernel7Ideal Cert.Kernel7Ideal.Gen
open Idealize.ShloMosaic Idealize.ShloMosaic.TcCoe
open Cert.Reference7Ideal.Keys (keys keys_at)

/-- The windows' blocks at a grid point. -/
theorem idx : ∀ t : Fin cfg0.N,
    win0_0.index t = ![(grid0.coords t 1).val, 0] ∧ win0_1.index t = ![0, 0, 1]
      ∧ win0_2.index t = ![(grid0.coords t 1).val, 0] :=
  (by decide +kernel : ∀ t : Fin grid0.N, _)

theorem coord1 (t : Fin cfg0.N) : (grid0.coords t 1).val < 22 := (grid0.coords t 1).isLt

theorem ix3_eq {p q s : Nat} {a a' : Fin p} {b b' : Fin q} {k : Fin s} (ha : a.val = a'.val) (hb : b.val = b'.val) : ix3 a b k = ix3 a' b' k := by
  rw [Fin.ext ha, Fin.ext hb]

/-- An entry, from its row and its column. -/
def entry (x w : Fin 2048 → EReal) : EReal := ∑ k : Fin 2048, x k * w k

theorem pay1_at (x : Vec Ideal S256x2048 .bf16) (w : Vec Ideal S1x2048x1024 .bf16) (r : Fin 256) (n : Fin 1024) :
    k0_pay1 x w (ix2 r n) = entry (fun k => x (ix2 r k)) (fun k => w (ix3 (0 : Fin 1) k n)) := by
  pointwise [k0_pay1]
  rfl

theorem pay2_at (x : Vec Ideal S256x2048 .bf16) (w : Vec Ideal S1x2048x1024 .bf16) (r : Fin 256) (n : Fin 1024) :
    k0_pay2 x w (ix2 r n) = entry (fun k => x (ix2 r k)) (fun k => w (ix3 (0 : Fin 1) k n)) := by
  pointwise [k0_pay2]
  rfl

theorem pay3_at (x : Vec Ideal S256x2048 .bf16) (w : Vec Ideal S1x2048x1024 .bf16) (r : Fin 256) (n : Fin 1024) :
    k0_pay3 x w (ix2 r n) = entry (fun k => x (ix2 r k)) (fun k => w (ix3 (0 : Fin 1) k n)) := by
  pointwise [k0_pay3]
  rfl

variable (m : (ℓ : Loc nD τ sig) → Buf (Elt Ideal) ℓ) (c : Dev nD)

theorem v3_at (b : Fin 2) (i : Fin 8208) (k : Fin 2048) (R : Fin 16896) (h : R.val = b.val * 8448 + i.val) :
    V m c main_v3 (ix2 R k) = m ((c : Thread nD τ).loc main_arg0) (ix3 b i k) := by
  show StableHlo.after hostOps0 (fun b => m (c, b)) (Proc.devRef .tc main_v3) _ = _
  after_results
  pointwise
  rw [dif_pos (by omega)]
  exact congrArg _ (ix3_eq (by simp only; omega) (by simp only; omega))

theorem v1_at (k : Fin 2048) (n : Fin 3072) :
    V m c main_v1 (ix3 (0 : Fin 2) k n) = m ((c : Thread nD τ).loc main_arg1) (ix3 (0 : Fin 2) k (⟨n.val, by omega⟩ : Fin 8000)) := by
  show StableHlo.after hostOps0 (fun b => m (c, b)) (Proc.devRef .tc main_v1) _ = _
  after_results
  pointwise

theorem blk_0 (X : FVec Ideal S16896x2048 .bf16) (t : Fin cfg0.N) (r : Fin 768) (k : Fin 2048) :
    ((cfg0.win 0).blk t).view.read (Elt Ideal) X (ix2 r k)
      = X (ix2 (⟨(grid0.coords t 1).val * 768 + r.val, by have := coord1 t; omega⟩ : Fin 16896) k) := by
  blk_ext [idx t]

theorem blk_1 (X : FVec Ideal S2x2048x3072 .bf16) (t : Fin cfg0.N) (k : Fin 2048) (n : Fin 1024) :
    ((cfg0.win 1).blk t).view.read (Elt Ideal) X (ix3 (0 : Fin 1) k n)
      = X (ix3 (0 : Fin 2) k (⟨1024 + n.val, by omega⟩ : Fin 3072)) := by
  blk_ext [idx t]

theorem ld_1 (X : Vec Ideal S1x2048x1024 .bf16) : View.ld X r0_1 = X :=
  View.ld_unit_zero (by funext a; fin_cases a <;> rfl) _ X

/-- A load of 256 rows of a block of 768. -/
theorem ld_rows (X : Vec Ideal S768x2048 .bf16) (o : Nat) (inb) (r : Fin 256) (k : Fin 2048) (R : Fin 768) (h : R.val = o + r.val) :
    View.ld X (Rect.unit (s := S768x2048) ![o, 0] S256x2048.size inb) (ix2 r k) = X (ix2 R k) := by
  refine congrArg X (funext fun a => Fin.ext ?_)
  refine (ValueKit.rect_emb_unit_val _ _ _ _ _).trans ?_
  fin_cases a
  · exact h.symm
  · exact Nat.zero_add _

theorem entry_congr {x x' w w' : Fin 2048 → EReal} (hx : ∀ k, x k = x' k) (hw : ∀ k, w k = w' k) : entry x w = entry x' w' := by
  rw [funext hx, funext hw]

/-- What the body stores, at a place of the block. -/
theorem block_at (x : Vec Ideal S768x2048 .bf16) (w : Vec Ideal S1x2048x1024 .bf16) (R : Fin 768) (n : Fin 1024) :
    out0_2 x w (ix2 R n) = entry (fun k => x (ix2 R k)) (fun k => w (ix3 (0 : Fin 1) k n)) := by
  canon_tiles y h
  all_goals
    have hy : y = ix2 (y 0 : Fin 256) (y 1 : Fin 1024) := by funext a; fin_cases a <;> rfl
    have hn : (y 1 : Fin 1024) = n := Fin.ext h1.symm
    rw [hy, hn, ld_1]
  · exact (pay3_at _ _ _ _).trans (entry_congr (fun k => ld_rows x 512 _ _ k R h0) fun _ => rfl)
  · exact (pay2_at _ _ _ _).trans (entry_congr (fun k => ld_rows x 256 _ _ k R h0) fun _ => rfl)
  · exact (pay1_at _ _ _ _).trans (entry_congr (fun k => ld_rows x 0 _ _ k R (h0.trans (Nat.zero_add _).symm)) fun _ => rfl)

/-- The entry at a place of the padded array, from the arrays at the kernel's start. -/
def entryAt (R : Fin 16896) (n : Fin 1024) : EReal :=
  entry (fun k => V m c main_v3 (ix2 R k)) (fun k => V m c main_v1 (ix3 (0 : Fin 2) k (⟨1024 + n.val, by omega⟩ : Fin 3072)))

theorem point (t : Fin cfg0.N) (r : Fin 768) (n : Fin 1024) :
    out0_2 (iblk m c 0 t) (iblk m c 1 t) (ix2 r n)
      = entryAt m c ⟨(grid0.coords t 1).val * 768 + r.val, by have := coord1 t; omega⟩
          n :=
  (block_at _ _ r n).trans (entry_congr (fun k => blk_0 (V m c main_v3) t r k) (fun k => blk_1 (V m c main_v1) t k n))

theorem out2 : (dats m 0 c).arrAt 2 cfg0.N = (fun y : S16896x1024.Idx => entryAt m c (y 0) (y 1)) := by
  refine (dats m 0 c).arrAt_eq_of_covers 2 _ (by decide +kernel) fun t _ y => ?_
  have hy0 : (y 0).val < 768 := (y 0).isLt
  have hy1 : (y 1).val < 1024 := (y 1).isLt
  have hy : y = ix2 (⟨(y 0).val, hy0⟩ : Fin 768) (⟨(y 1).val, hy1⟩ : Fin 1024) := by
    funext a
    fin_cases a <;> rfl
  blk_simp [idx t]
  rw [after0_2]
  refine (congrArg (out0_2 (iblk m c 0 t) (iblk m c 1 t)) hy).trans ((point m c t ⟨_, hy0⟩ ⟨_, hy1⟩).trans
    (congrArg₂ (entryAt m c) (Fin.ext ?_) (Fin.ext ?_)))
  · blk_simp [idx t]
  · blk_simp [idx t]

/-! ## The result: the array without the padding -/

/-- The kept rows of an array of padded rows. -/
def crop (X : FVec Ideal S16896x1024 .bf16) : FVec Ideal S2x8208x1024 .bf16 :=
  extractStridedSlice S2x8208x1024 ![0, 0, 0] (shapeCast S2x8448x1024 X shapeCasts_S16896x1024_S2x8448x1024)
    slices_S2x8448x1024_S2x8208x1024_0_0_0

theorem crop_at (X : FVec Ideal S16896x1024 .bf16) (b : Fin 2) (i : Fin 8208) (n : Fin 1024) :
    crop X (ix3 b i n) = X (ix2 (⟨b.val * 8448 + i.val, by omega⟩ : Fin 16896) n) := by
  pointwise [crop]

def result : FVec Ideal S2x8208x1024 .bf16 := crop ((dats m 0 c).arrAt 2 cfg0.N)

theorem result_eq : result m c = keys (F := Ideal) (m ((c : Thread nD τ).loc main_arg0)) (m ((c : Thread nD τ).loc main_arg1)) := by
  funext y
  have hy : y = ix3 (y 0 : Fin 2) (y 1 : Fin 8208) (y 2 : Fin 1024) := by funext a; fin_cases a <;> rfl
  rw [hy]
  exact (crop_at _ _ _ _).trans ((congrFun (out2 m c) _).trans
    (.trans (entry_congr (fun k => v3_at m c _ _ k _ rfl) (fun k => v1_at m c k _)) (keys_at _ _ _ _ _).symm))

/-! ## The run -/

theorem tail (σ : Valuation τ sig (Elt Ideal)) : StableHlo.after hostOps1 σ (Proc.devRef .tc main_v6) = crop (σ (Proc.devRef .tc main_v4)) := by
  after_results
  rfl

theorem res : Pipeline.afterTail₀ cfgs (dats m) 0 (V0 m) [hostOps1] c main_v6 = result m c := by
  unfold Pipeline.afterTail₀ result
  rw [show [hostOps1 (F := Ideal)].flatten = hostOps1 from rfl]
  exact (tail _).trans (congrArg crop (Pipeline.withArrays_arr spec0 (by decide) c _ (fun w => (dats m 0 c).arrAt w cfg0.N) 2))

theorem rest : main_v6 ∈ Pipeline.restRefs sig spec0 := by decide

/-- The program's run, read at its result. -/
theorem run (ρ : Dev nD → PrngReg) : θ_run defs (onTc (τ := τ) (main (F := Ideal))) (s₀ m ρ) fun r =>
    ∀ c : Dev nD, r.2.mem ((c : Thread nD τ).loc main_v6) = result m c :=
  θ_run_mono (run_main m ρ) fun _ hr c => ((hr c).2 main_v6 rest).trans (res m c)

end Cert.Kernel7Ideal.Keys

end
-- ==== Proof.Queries.Ref.lean ====
/-
  The projection of queries, as the reference writes it, and its elements.
-/
module

public import proofs.«01_k».proof.Proof.Gen.Reference8Ideal.Run
public import Idealize.ShloMosaic.Lib.Pointwise

@[expose] public section

set_option maxRecDepth 16384

noncomputable section

namespace Cert.Reference8Ideal.Queries

open Cert.Reference8Ideal Cert.Reference8Ideal.Gen
open Idealize.ShloMosaic Idealize.ShloMosaic.TcCoe

variable {F : FTy → Type} [FloatOps F]

/-- The projected rows. -/
def queries (x0 : FVec F S2x8208x2048 .bf16) (x1 : FVec F S2x2048x8000 .f32) : FVec F S2x8208x1024 .bf16 :=
  truncf .bf16 (Host.dotGeneral dot_S2x8208x2048_S2048x1024_S2x8208x1024_2_0_01_1_n_n none (extf .f32 x0 bitsLt_bf16_f32) (shapeCast _ (extractStridedSlice S1x2048x1024 ![0, 0, 0] x1 slices_S2x2048x8000_S1x2048x1024_0_0_0) shapeCasts_S1x2048x1024_S2048x1024)) bitsLt_bf16_f32

theorem queries_at (x0 : FVec Ideal S2x8208x2048 .bf16) (x1 : FVec Ideal S2x2048x8000 .f32) (b : Fin 2) (i : Fin 8208) (n : Fin 1024) :
    queries x0 x1 (ix3 b i n) = ∑ k : Fin 2048, (x0 (ix3 b i k) : EReal) * x1 (ix3 (0 : Fin 2) k (⟨n.val, by omega⟩ : Fin 8000)) := by
  pointwise [queries]

end Cert.Reference8Ideal.Queries

end
-- ==== Proof.Queries.Value.lean ====
/-
  The queries' projection, transposed: the values' projection is the same call over other columns of the weights.

  The first point turns the weights into a buffer, 256 columns at a time; every point multiplies the buffer with three tiles of
  256 rows, and writes each tile's projection with its rows along the last axis.
-/
module

public import proofs.«01_k».proof.Proof.Queries.Ref
public import proofs.«01_k».proof.Proof.Gen.Kernel8Ideal.Frame
public import Idealize.ShloMosaic.Lib.Pipeline.ValueKit

@[expose] public section

set_option maxRecDepth 16384

noncomputable section

namespace Cert.Kernel8Ideal.Queries

open Cert.Kernel8Ideal Cert.Kernel8Ideal.Gen
open Idealize.ShloMosaic Idealize.ShloMosaic.TcCoe
open Cert.Reference8Ideal.Queries (queries queries_at)

/-- The windows' blocks at a grid point. -/
theorem idx : ∀ t : Fin cfg0.N,
    win0_0.index t = ![t.val, 0] ∧ win0_1.index t = ![0, 0, 0] ∧ win0_2.index t = ![t.val, 0, 0] :=
  (by decide +kernel : ∀ t : Fin grid0.N, _)

theorem lt (t : Fin cfg0.N) : t.val < 22 := lt_of_lt_of_eq t.isLt (show cfg0.N = 22 from N_0)

theorem ix3_eq {p q s : Nat} {a a' : Fin p} {b b' : Fin q} {k : Fin s} (ha : a.val = a'.val) (hb : b.val = b'.val) : ix3 a b k = ix3 a' b' k := by
  rw [Fin.ext ha, Fin.ext hb]

/-- An entry, from its column of the weights and its row. -/
def entry (w x : Fin 2048 → EReal) : EReal := ∑ k : Fin 2048, w k * x k

theorem entry_congr {x x' w w' : Fin 2048 → EReal} (hw : ∀ k, w k = w' k) (hx : ∀ k, x k = x' k) : entry w x = entry w' x' := by
  rw [funext hx, funext hw]

theorem pay5_at (w : Vec Ideal S1024x2048 .bf16) (x : Vec Ideal S256x2048 .bf16) (n : Fin 1024) (r : Fin 256) :
    k0_pay5 w x (ix3 (0 : Fin 1) n r) = entry (fun k => w (ix2 n k)) (fun k => x (ix2 r k)) := by
  pointwise [k0_pay5]
  rfl

theorem pay6_at (w : Vec Ideal S1024x2048 .bf16) (x : Vec Ideal S256x2048 .bf16) (n : Fin 1024) (r : Fin 256) :
    k0_pay6 w x (ix3 (0 : Fin 1) n r) = entry (fun k => w (ix2 n k)) (fun k => x (ix2 r k)) := by
  pointwise [k0_pay6]
  rfl

theorem pay7_at (w : Vec Ideal S1024x2048 .bf16) (x : Vec Ideal S256x2048 .bf16) (n : Fin 1024) (r : Fin 256) :
    k0_pay7 w x (ix3 (0 : Fin 1) n r) = entry (fun k => w (ix2 n k)) (fun k => x (ix2 r k)) := by
  pointwise [k0_pay7]
  rfl

theorem pay1_at (w : Vec Ideal S1x256x1024 .bf16) (n : Fin 1024) (k : Fin 256) :
    k0_pay1 w (ix2 n k) = w (ix3 (0 : Fin 1) k n) := by
  pointwise [k0_pay1]

theorem pay2_at (w : Vec Ideal S1x256x1024 .bf16) (n : Fin 1024) (k : Fin 256) :
    k0_pay2 w (ix2 n k) = w (ix3 (0 : Fin 1) k n) := by
  pointwise [k0_pay2]

theorem pay3_at (w : Vec Ideal S1x256x1024 .bf16) (n : Fin 1024) (k : Fin 256) :
    k0_pay3 w (ix2 n k) = w (ix3 (0 : Fin 1) k n) := by
  pointwise [k0_pay3]

theorem pay4_at (w : Vec Ideal S1x256x1024 .bf16) (n : Fin 1024) (k : Fin 256) :
    k0_pay4 w (ix2 n k) = w (ix3 (0 : Fin 1) k n) := by
  pointwise [k0_pay4]

theorem pay8_at (w : Vec Ideal S1x256x1024 .bf16) (n : Fin 1024) (k : Fin 256) :
    k0_pay8 w (ix2 n k) = w (ix3 (0 : Fin 1) k n) := by
  pointwise [k0_pay8]

theorem pay9_at (w : Vec Ideal S1x256x1024 .bf16) (n : Fin 1024) (k : Fin 256) :
    k0_pay9 w (ix2 n k) = w (ix3 (0 : Fin 1) k n) := by
  pointwise [k0_pay9]

theorem pay10_at (w : Vec Ideal S1x256x1024 .bf16) (n : Fin 1024) (k : Fin 256) :
    k0_pay10 w (ix2 n k) = w (ix3 (0 : Fin 1) k n) := by
  pointwise [k0_pay10]

theorem pay11_at (w : Vec Ideal S1x256x1024 .bf16) (n : Fin 1024) (k : Fin 256) :
    k0_pay11 w (ix2 n k) = w (ix3 (0 : Fin 1) k n) := by
  pointwise [k0_pay11]

variable (m : (ℓ : Loc nD τ sig) → Buf (Elt Ideal) ℓ) (c : Dev nD)

theorem v3_at (b : Fin 2) (i : Fin 8208) (k : Fin 2048) (R : Fin 16896) (h : R.val = b.val * 8448 + i.val) :
    V m c main_v3 (ix2 R k) = m ((c : Thread nD τ).loc main_arg0) (ix3 b i k) := by
  show StableHlo.after hostOps0 (fun b => m (c, b)) (Proc.devRef .tc main_v3) _ = _
  after_results
  pointwise
  rw [dif_pos (by omega)]
  exact congrArg _ (ix3_eq (by simp only; omega) (by simp only; omega))

theorem v1_at (k : Fin 2048) (n : Fin 3072) :
    V m c main_v1 (ix3 (0 : Fin 2) k n) = m ((c : Thread nD τ).loc main_arg1) (ix3 (0 : Fin 2) k (⟨n.val, by omega⟩ : Fin 8000)) := by
  show StableHlo.after hostOps0 (fun b => m (c, b)) (Proc.devRef .tc main_v1) _ = _
  after_results
  pointwise

theorem blk_0 (X : FVec Ideal S16896x2048 .bf16) (t : Fin cfg0.N) (r : Fin 768) (k : Fin 2048) :
    ((cfg0.win 0).blk t).view.read (Elt Ideal) X (ix2 r k) = X (ix2 (⟨t.val * 768 + r.val, by have := lt t; omega⟩ : Fin 16896) k) := by
  blk_ext [idx t]

theorem blk_1 (X : FVec Ideal S2x2048x3072 .bf16) (t : Fin cfg0.N) (k : Fin 2048) (n : Fin 1024) :
    ((cfg0.win 1).blk t).view.read (Elt Ideal) X (ix3 (0 : Fin 1) k n) = X (ix3 (0 : Fin 2) k (⟨n.val, by omega⟩ : Fin 3072)) := by
  blk_ext [idx t]

/-- A load of 256 rows of a block of 768. -/
theorem ld_rows (X : Vec Ideal S768x2048 .bf16) (o : Nat) (inb) (r : Fin 256) (k : Fin 2048) (R : Fin 768) (h : R.val = o + r.val) :
    View.ld X (Rect.unit (s := S768x2048) ![o, 0] S256x2048.size inb) (ix2 r k) = X (ix2 R k) := by
  refine congrArg X (funext fun a => Fin.ext ?_)
  refine (ValueKit.rect_emb_unit_val _ _ _ _ _).trans ?_
  fin_cases a
  · exact h.symm
  · exact Nat.zero_add _

/-- A load of 256 rows of the block of the weights. -/
theorem ld_weights (X : Vec Ideal S1x2048x1024 .bf16) (o : Nat) (inb) (k : Fin 256) (n : Fin 1024) (K : Fin 2048) (h : K.val = o + k.val) :
    View.ld X (Rect.unit (s := S1x2048x1024) ![0, o, 0] S1x256x1024.size inb) (ix3 (0 : Fin 1) k n) = X (ix3 (0 : Fin 1) K n) := by
  refine congrArg X (funext fun a => Fin.ext ?_)
  refine (ValueKit.rect_emb_unit_val _ _ _ _ _).trans ?_
  fin_cases a
  · rfl
  · exact h.symm
  · exact Nat.zero_add _

/-- The buffer after the first point's stores. -/
abbrev turned (w : Vec Ideal S1x2048x1024 .bf16) : List (View.Piece (Elt Ideal) S1024x2048 .bf16) :=
  [⟨Rect.unit (s := S1024x2048) ![0, 1792] ![1024, 256] inb_S1024x2048_S1024x256_0_1792,
      k0_pay4 (View.ld w (Rect.unit ![0, 1792, 0] ![1, 256, 1024] inb_S1x2048x1024_S1x256x1024_0_1792_0))⟩,
    ⟨Rect.unit (s := S1024x2048) ![0, 1536] ![1024, 256] inb_S1024x2048_S1024x256_0_1536,
      k0_pay3 (View.ld w (Rect.unit ![0, 1536, 0] ![1, 256, 1024] inb_S1x2048x1024_S1x256x1024_0_1536_0))⟩,
    ⟨Rect.unit (s := S1024x2048) ![0, 1280] ![1024, 256] inb_S1024x2048_S1024x256_0_1280,
      k0_pay2 (View.ld w (Rect.unit ![0, 1280, 0] ![1, 256, 1024] inb_S1x2048x1024_S1x256x1024_0_1280_0))⟩,
    ⟨Rect.unit (s := S1024x2048) ![0, 1024] ![1024, 256] inb_S1024x2048_S1024x256_0_1024,
      k0_pay1 (View.ld w (Rect.unit ![0, 1024, 0] ![1, 256, 1024] inb_S1x2048x1024_S1x256x1024_0_1024_0))⟩,
    ⟨Rect.unit (s := S1024x2048) ![0, 768] ![1024, 256] inb_S1024x2048_S1024x256_0_768,
      k0_pay11 (View.ld w (Rect.unit ![0, 768, 0] ![1, 256, 1024] inb_S1x2048x1024_S1x256x1024_0_768_0))⟩,
    ⟨Rect.unit (s := S1024x2048) ![0, 512] ![1024, 256] inb_S1024x2048_S1024x256_0_512,
      k0_pay10 (View.ld w (Rect.unit ![0, 512, 0] ![1, 256, 1024] inb_S1x2048x1024_S1x256x1024_0_512_0))⟩,
    ⟨Rect.unit (s := S1024x2048) ![0, 256] ![1024, 256] inb_S1024x2048_S1024x256_0_256,
      k0_pay9 (View.ld w (Rect.unit ![0, 256, 0] ![1, 256, 1024] inb_S1x2048x1024_S1x256x1024_0_256_0))⟩,
    ⟨Rect.unit (s := S1024x2048) ![0, 0] ![1024, 256] inb_S1024x2048_S1024x256_0_0,
      k0_pay8 (View.ld w (Rect.unit ![0, 0, 0] ![1, 256, 1024] inb_S1x2048x1024_S1x256x1024_0_0_0))⟩]

theorem turned_at (w : Vec Ideal S1x2048x1024 .bf16) (n : Fin 1024) (k : Fin 2048) :
    View.canon (turned w) (ix2 n k) = w (ix3 (0 : Fin 1) k n) := by
  unfold turned
  canon_tiles y h
  all_goals
    have hy : y = ix2 (y 0 : Fin 1024) (y 1 : Fin 256) := by funext a; fin_cases a <;> rfl
    have hn : (y 0 : Fin 1024) = n := Fin.ext h0.symm
    rw [hy, hn]
  · exact (pay4_at _ _ _).trans (ld_weights w 1792 _ _ n k h1)
  · exact (pay3_at _ _ _).trans (ld_weights w 1536 _ _ n k h1)
  · exact (pay2_at _ _ _).trans (ld_weights w 1280 _ _ n k h1)
  · exact (pay1_at _ _ _).trans (ld_weights w 1024 _ _ n k h1)
  · exact (pay11_at _ _ _).trans (ld_weights w 768 _ _ n k h1)
  · exact (pay10_at _ _ _).trans (ld_weights w 512 _ _ n k h1)
  · exact (pay9_at _ _ _).trans (ld_weights w 256 _ _ n k h1)
  · exact (pay8_at _ _ _).trans (ld_weights w 0 _ _ n k (h1.trans (Nat.zero_add _).symm))

/-- The block after a point's stores. -/
abbrev tiles (w : Vec Ideal S1024x2048 .bf16) (x : Vec Ideal S768x2048 .bf16) : List (View.Piece (Elt Ideal) S3x1024x256 .bf16) :=
  [⟨Rect.unit (s := S3x1024x256) ![2, 0, 0] ![1, 1024, 256] inb_S3x1024x256_S1x1024x256_2_0_0,
      k0_pay7 w (View.ld x (Rect.unit ![512, 0] ![256, 2048] inb_S768x2048_S256x2048_512_0))⟩,
    ⟨Rect.unit (s := S3x1024x256) ![1, 0, 0] ![1, 1024, 256] inb_S3x1024x256_S1x1024x256_1_0_0,
      k0_pay6 w (View.ld x (Rect.unit ![256, 0] ![256, 2048] inb_S768x2048_S256x2048_256_0))⟩,
    ⟨Rect.unit (s := S3x1024x256) ![0, 0, 0] ![1, 1024, 256] inb_S3x1024x256_S1x1024x256_0_0_0,
      k0_pay5 w (View.ld x (Rect.unit ![0, 0] ![256, 2048] inb_S768x2048_S256x2048_0_0))⟩]

theorem tiles_at (w : Vec Ideal S1024x2048 .bf16) (x : Vec Ideal S768x2048 .bf16) (a : Fin 3) (n : Fin 1024) (r : Fin 256) :
    View.canon (tiles w x) (ix3 a n r) = entry (fun k => w (ix2 n k)) (fun k => x (ix2 (⟨a.val * 256 + r.val, by omega⟩ : Fin 768) k)) := by
  unfold tiles
  canon_tiles y h
  all_goals
    have hy : y = ix3 (0 : Fin 1) (y 1 : Fin 1024) (y 2 : Fin 256) := by
      funext a
      fin_cases a
      · exact Fin.ext (Nat.lt_one_iff.mp y0_lt)
      · rfl
      · rfl
    have hn : (y 1 : Fin 1024) = n := Fin.ext h1.symm
    have ha : a.val = (ix3 a n r 0).val := rfl
    have hr : r.val = (y 2).val := h2
    rw [hy, hn]
  · exact (pay7_at _ _ _ _).trans (entry_congr (fun _ => rfl) fun k => ld_rows x 512 _ _ k _ (by simp only; omega))
  · exact (pay6_at _ _ _ _).trans (entry_congr (fun _ => rfl) fun k => ld_rows x 256 _ _ k _ (by simp only; omega))
  · exact (pay5_at _ _ _ _).trans (entry_congr (fun _ => rfl) fun k => ld_rows x 0 _ _ k _ (by simp only; omega))

theorem emb_all (n : Fin 1024) (k : Fin 2048) :
    (Rect.unit (s := S1024x2048) ![0, 0] ![1024, 2048] inb_S1024x2048_S1024x2048_0_0).emb (ix2 n k) = ix2 n k := by
  funext a
  refine Fin.ext ((ValueKit.rect_emb_unit_val _ _ _ _ _).trans ?_)
  fin_cases a
  · exact Nat.zero_add _
  · exact Nat.zero_add _

/-- The first point's load of what it stored. -/
theorem turned_load (v : View sig .tc .vmem S1024x2048 .bf16) (w : Vec Ideal S1x2048x1024 .bf16) (n : Fin 1024) (k : Fin 2048) :
    v.readCov (turned w) (Rect.unit (s := S1024x2048) ![0, 0] ![1024, 2048] inb_S1024x2048_S1024x2048_0_0).toLoadRect (ix2 n k)
      = w (ix3 (0 : Fin 1) k n) := by
  rw [View.readCov_eq_canon']
  exact (congrArg (View.canon (turned w)) (emb_all n k)).trans (turned_at w n k)

/-- A weight of the buffer, from the array at the kernel's start. -/
def weight (n : Fin 1024) (k : Fin 2048) : EReal := V m c main_v1 (ix3 (0 : Fin 2) k (⟨n.val, by omega⟩ : Fin 3072))

/-- What a point leaves in the buffer. -/
def Left (t : Fin cfg0.N) : Prop := ∀ (n : Fin 1024) (k : Fin 2048), (outsAt0 m c t.val t.isLt).2 (ix2 n k) = weight m c n k

/-- The point before. -/
def prev (t : Fin cfg0.N) : Fin cfg0.N := ⟨t.val - 1, Nat.lt_of_le_of_lt (Nat.sub_le _ _) t.isLt⟩

theorem back (b : Ref sig .tc) (h : (Memref.whole b).IsWhole) (X : b.ty.shape.Idx → Elt Ideal b.ty.elt) :
    View.read (Elt Ideal) (View.whole b) (h.unread X) = X := h.read_unread X

theorem left_A (t : Fin cfg0.N) (h0 : t.val % 22 = 0) : Left m c t := by
  intro n k
  rw [outsAt0_A m c t h0]
  frame_out
  exact (turned_at (iblk m c 1 t) n k).trans (blk_1 (V m c main_v1) t k n)

theorem left_B (t : Fin cfg0.N) (h0 : ¬ t.val % 22 = 0) (L : Left m c (prev t)) : Left m c t := by
  intro n k
  rw [outsAt0_B m c t h0]
  exact L n k

theorem left (k : Nat) (hk : k < cfg0.N) : Left m c ⟨k, hk⟩ := by
  induction k with
  | zero => exact left_A m c _ rfl
  | succ k ih =>
    have L : Left m c (prev ⟨k + 1, hk⟩) := ih (Nat.lt_of_succ_lt hk)
    have h := lt ⟨k + 1, hk⟩
    have h' : k + 1 < 22 := h
    exact left_B m c _ (show ¬ (k + 1) % 22 = 0 by omega) L

/-- The entry of a row of the padded array, from the arrays at the kernel's start. -/
def entryAt (R : Fin 16896) (n : Fin 1024) : EReal := entry (weight m c n) (fun k => V m c main_v3 (ix2 R k))

theorem row_lt (t : Fin cfg0.N) (a : Fin 3) (r : Fin 256) : (t.val * 3 + a.val) * 256 + r.val < 16896 := by
  have := lt t
  omega

theorem row_at (t : Fin cfg0.N) (a : Fin 3) (r : Fin 256) (k : Fin 2048) (h) :
    iblk m c 0 t (ix2 (⟨a.val * 256 + r.val, h⟩ : Fin 768) k) = V m c main_v3 (ix2 (⟨(t.val * 3 + a.val) * 256 + r.val, row_lt t a r⟩ : Fin 16896) k) :=
  (blk_0 (V m c main_v3) t _ k).trans (congrArg (fun q => V m c main_v3 (ix2 q k)) (Fin.ext (by simp only; omega)))

theorem point (t : Fin cfg0.N) (a : Fin 3) (n : Fin 1024) (r : Fin 256) :
    (outsAt0 m c t.val t.isLt).1 (ix3 a n r) = entryAt m c ⟨(t.val * 3 + a.val) * 256 + r.val, row_lt t a r⟩ n := by
  by_cases h0 : t.val % 22 = 0
  · rw [outsAt0_A m c t h0]
    frame_out
    refine (tiles_at _ (iblk m c 0 t) a n r).trans (entry_congr (fun k => ?_) fun k => row_at m c t a r k _)
    exact (turned_load _ (iblk m c 1 t) n k).trans (blk_1 (V m c main_v1) t k n)
  · rw [outsAt0_B m c t h0]
    frame_out
    refine (tiles_at _ (iblk m c 0 t) a n r).trans (entry_congr (fun k => ?_) fun k => row_at m c t a r k _)
    rw [back]
    exact left m c (t.val - 1) (prev t).isLt n k

/-- The array the kernel leaves. -/
def outAt (q : Fin 66) (n : Fin 1024) (r : Fin 256) : EReal := entryAt m c ⟨q.val * 256 + r.val, by omega⟩ n

theorem outAt_congr {q q' : Fin 66} {n n' : Fin 1024} {r r' : Fin 256} (hq : q.val = q'.val) (hn : n.val = n'.val) (hr : r.val = r'.val) :
    outAt m c q n r = outAt m c q' n' r' := by
  rw [Fin.ext hq, Fin.ext hn, Fin.ext hr]

theorem out2 : (dats m 0 c).arrAt 2 cfg0.N = (fun y : S66x1024x256.Idx => outAt m c (y 0) (y 1) (y 2)) := by
  refine (dats m 0 c).arrAt_eq_of_covers 2 _ (by decide +kernel) fun t _ y => ?_
  have hy0 : (y 0).val < 3 := (y 0).isLt
  have hy1 : (y 1).val < 1024 := (y 1).isLt
  have hy2 : (y 2).val < 256 := (y 2).isLt
  have hy : y = ix3 (⟨(y 0).val, hy0⟩ : Fin 3) (⟨(y 1).val, hy1⟩ : Fin 1024) (⟨(y 2).val, hy2⟩ : Fin 256) := by
    funext a
    fin_cases a <;> rfl
  have ht := lt t
  blk_simp [idx t]
  rw [after0_2]
  refine (congrArg (outsAt0 m c t.val t.isLt).1 hy).trans ((point m c t ⟨_, hy0⟩ ⟨_, hy1⟩ ⟨_, hy2⟩).trans
    (.trans (show _ = outAt m c (⟨t.val * 3 + (y 0).val, by omega⟩ : Fin 66) ⟨_, hy1⟩ ⟨_, hy2⟩ from rfl) (outAt_congr m c ?_ ?_ ?_)))
  · blk_simp [idx t]
  · blk_simp [idx t]
  · blk_simp [idx t]

/-! ## The result: the array turned back, without the padding -/

/-- The kept rows of an array of turned tiles. -/
def crop (X : FVec Ideal S66x1024x256 .bf16) : FVec Ideal S2x8208x1024 .bf16 :=
  extractStridedSlice S2x8208x1024 ![0, 0, 0] (shapeCast S2x8448x1024 (shapeCast S16896x1024
    (transpose S66x256x1024 [0, 2, 1] X transposes_S66x1024x256_S66x256x1024_0_2_1) shapeCasts_S66x256x1024_S16896x1024)
    shapeCasts_S16896x1024_S2x8448x1024) slices_S2x8448x1024_S2x8208x1024_0_0_0

theorem crop_at (X : FVec Ideal S66x1024x256 .bf16) (b : Fin 2) (i : Fin 8208) (n : Fin 1024) :
    crop X (ix3 b i n) = X (ix3 (⟨b.val * 33 + i.val / 256, by omega⟩ : Fin 66) n (⟨i.val % 256, by omega⟩ : Fin 256)) := by
  pointwise [crop]

def result : FVec Ideal S2x8208x1024 .bf16 := crop ((dats m 0 c).arrAt 2 cfg0.N)

theorem swap (w x : Fin 2048 → EReal) : entry w x = ∑ k : Fin 2048, x k * w k := Finset.sum_congr rfl fun _ _ => mul_comm _ _

theorem row_of (b : Fin 2) (i : Fin 8208) : (b.val * 33 + i.val / 256) * 256 + i.val % 256 = b.val * 8448 + i.val := by omega

theorem outAt_eq (b : Fin 2) (i : Fin 8208) (n : Fin 1024) (h h') :
    outAt m c ⟨b.val * 33 + i.val / 256, h⟩ n ⟨i.val % 256, h'⟩
      = queries (F := Ideal) (m ((c : Thread nD τ).loc main_arg0)) (m ((c : Thread nD τ).loc main_arg1)) (ix3 b i n) := by
  unfold outAt entryAt
  rw [queries_at]
  refine .trans (entry_congr (fun k => v1_at m c k (⟨n.val, by omega⟩ : Fin 3072)) (fun k => v3_at m c b i k _ (row_of b i))) ?_
  exact swap _ _

theorem result_at (b : Fin 2) (i : Fin 8208) (n : Fin 1024) :
    result m c (ix3 b i n) = queries (F := Ideal) (m ((c : Thread nD τ).loc main_arg0)) (m ((c : Thread nD τ).loc main_arg1)) (ix3 b i n) := by
  unfold result
  rw [crop_at, out2]
  exact outAt_eq m c b i n _ _

theorem result_eq : result m c = queries (F := Ideal) (m ((c : Thread nD τ).loc main_arg0)) (m ((c : Thread nD τ).loc main_arg1)) := by
  funext y
  have hy : y = ix3 (y 0 : Fin 2) (y 1 : Fin 8208) (y 2 : Fin 1024) := by funext a; fin_cases a <;> rfl
  rw [hy]
  exact result_at m c _ _ _

/-! ## The run -/

theorem tail (σ : Valuation τ sig (Elt Ideal)) : StableHlo.after hostOps1 σ (Proc.devRef .tc main_v8) = crop (σ (Proc.devRef .tc main_v4)) := by
  after_results
  rfl

theorem res : Pipeline.afterTail₀ cfgs (dats m) 0 (V0 m) [hostOps1] c main_v8 = result m c := by
  unfold Pipeline.afterTail₀ result
  rw [show [hostOps1 (F := Ideal)].flatten = hostOps1 from rfl]
  exact (tail _).trans (congrArg crop (Pipeline.withArrays_arr spec0 (by decide) c _ (fun w => (dats m 0 c).arrAt w cfg0.N) 2))

theorem rest : main_v8 ∈ Pipeline.restRefs sig spec0 := by decide

/-- The program's run, read at its result. -/
theorem run (ρ : Dev nD → PrngReg) : θ_run defs (onTc (τ := τ) (main (F := Ideal))) (s₀ m ρ) fun r =>
    ∀ c : Dev nD, r.2.mem ((c : Thread nD τ).loc main_v8) = result m c :=
  θ_run_mono (run_main m ρ) fun _ hr c => ((hr c).2 main_v8 rest).trans (res m c)

end Cert.Kernel8Ideal.Queries

end
-- ==== Proof.Start.Ref.lean ====
/-
  The rows of the first layer, the meta tokens in front of the tokens, and their norm, as the reference writes them.
-/
module

public import proofs.«01_k».proof.Proof.Gen.Reference9Ideal.Run
public import proofs.«01_k».proof.Proof.Rows

@[expose] public section

set_option maxRecDepth 16384

noncomputable section

namespace Cert.Reference9Ideal.Start

open Cert.Reference9Ideal Cert.Reference9Ideal.Gen Cert.Rows
open Idealize.ShloMosaic Idealize.ShloMosaic.TcCoe

variable {F : FTy → Type} [FloatOps F]

/-- The rows: the meta tokens, then the tokens. -/
def stream (x0 : FVec F S2x8192x2048 .f32) (x1 : FVec F S16x2048 .f32) : FVec F S2x8208x2048 .f32 :=
  concatenate S2x8208x2048 1 [⟨S2x16x2048, (broadcastInDim S2x16x2048 ![0, 1, 2] bcast_S1x16x2048_S2x16x2048_0_1_2 (broadcastInDim S1x16x2048 ![1, 2] bcast_S16x2048_S1x16x2048_1_2 x1))⟩, ⟨S2x8192x2048, x0⟩] concatenates_S2x16x2048_S2x8192x2048_S2x8208x2048_d1

/-- Their norm. -/
def normed (x0 : FVec F S2x8192x2048 .f32) (x1 : FVec F S16x2048 .f32) (g : FVec F S2x2048 .f32) : FVec F S2x8208x2048 .bf16 :=
  truncf .bf16 (mulf (mulf (stream x0 x1) (broadcastInDim S2x8208x2048 ![0, 1, 2] bcast_S2x8208x1_S2x8208x2048_0_1_2 (Host.rsqrt (addf (Host.divf (broadcastInDim S2x8208x1 ![0, 1] bcast_S2x8208_S2x8208x1_0_1 (Host.reduceAdd (mulf (stream x0 x1) (stream x0 x1)) (constant S_ .f32 0x00000000#32) reducesTo_S2x8208x2048_S2x8208_d2 h_S_)) (broadcastInDim S2x8208x1 ![] bcast_S_S2x8208x1 (constant S_ .f32 0x45000000#32))) (broadcastInDim S2x8208x1 ![] bcast_S_S2x8208x1 (constant S_ .f32 0x358637BD#32)))))) (broadcastInDim S2x8208x2048 ![0, 1, 2] bcast_S1x1x2048_S2x8208x2048_0_1_2 (broadcastInDim S1x1x2048 ![2] bcast_S2048_S1x1x2048_2 (shapeCast _ (extractStridedSlice S1x2048 ![0, 0] g slices_S2x2048_S1x2048_0_0) shapeCasts_S1x2048_S2048)))) bitsLt_bf16_f32

theorem stream_at (x0 : FVec Ideal S2x8192x2048 .f32) (x1 : FVec Ideal S16x2048 .f32) (b : Fin 2) (i : Fin 8208) (n : Fin 2048) :
    stream x0 x1 (ix3 b i n)
      = if h : i.val < 16 then x1 (ix2 (⟨i.val, h⟩ : Fin 16) n) else x0 (ix3 b (⟨i.val - 16, by omega⟩ : Fin 8192) n) := by
  pointwise [stream]

theorem normed_at (x0 : FVec Ideal S2x8192x2048 .f32) (x1 : FVec Ideal S16x2048 .f32) (g : FVec Ideal S2x2048 .f32) (b : Fin 2) (i : Fin 8208) (n : Fin 2048) :
    normed x0 x1 g (ix3 b i n)
      = norm (fun k => stream x0 x1 (ix3 b i k)) (fun k => g (ix2 (0 : Fin 2) k)) n := by
  pointwise [normed]
  rfl

end Cert.Reference9Ideal.Start

end
-- ==== Proof.Start.Value.lean ====
/-
  The first call: the rows of the first layer, the meta tokens in front of the tokens, and their norm.

  A grid point reads 256 rows of the tokens and writes 256 rows of the stream: the first point of a sequence puts the meta tokens
  in front and moves its tokens down, the last moves the last tokens up, and the points between read their rows where they stand.
-/
module

public import proofs.«01_k».proof.Proof.Start.Ref
public import proofs.«01_k».proof.Proof.Gen.Kernel9Ideal.Frame
public import Idealize.ShloMosaic.Lib.Pipeline.ValueKit

@[expose] public section

set_option maxRecDepth 16384

noncomputable section

namespace Cert.Kernel9Ideal.Start

open Cert.Kernel9Ideal Cert.Kernel9Ideal.Gen Cert.Rows
open Idealize.ShloMosaic Idealize.ShloMosaic.TcCoe
open Cert.Reference9Ideal.Start (stream normed stream_at normed_at)

/-- The token row at which a grid point begins to read. -/
def start (t : Nat) : Nat := t / 33 * 8192 + min (t % 33 * 256 - 16) 7936

/-- The windows' blocks at a grid point. -/
theorem idx : ∀ t : Fin cfg0.N,
    win0_0.index t = ![start t.val, 0] ∧ win0_1.index t = ![0, 0] ∧ win0_2.index t = ![0, 0]
      ∧ win0_3.index t = ![t.val, 0] ∧ win0_4.index t = ![t.val, 0] :=
  (by decide +kernel : ∀ t : Fin grid0.N, _)

theorem lt (t : Fin cfg0.N) : t.val < 66 := lt_of_lt_of_eq t.isLt (show cfg0.N = 66 from N_0)

theorem start_lt (t : Fin cfg0.N) (r : Fin 256) : start t.val + r.val < 16384 := by
  have := lt t
  unfold start
  omega

theorem ix3_eq {p q s : Nat} {a a' : Fin p} {b b' : Fin q} {k : Fin s} (ha : a.val = a'.val) (hb : b.val = b'.val) : ix3 a b k = ix3 a' b' k := by
  rw [Fin.ext ha, Fin.ext hb]

variable (m : (ℓ : Loc nD τ sig) → Buf (Elt Ideal) ℓ) (c : Dev nD)

/-! ## What the body stores -/

/-- A grid point's place in its sequence, as the body computes it. -/
def word (i : grid0.Coords) : BitVec 32 :=
  let v1 : BitVec 32 := Scalar.select (Scalar.cmpi .eq 33#32 0#32) 1#32 33#32
  let v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32)) (Scalar.addi v2 v1) v2

theorem word_first : ∀ t : Fin cfg0.N, Scalar.cmpi .eq (word (grid0.coords t)) 0#32 = if t.val % 33 = 0 then 1#1 else 0#1 :=
  (by decide +kernel : ∀ t : Fin grid0.N, _)

theorem word_last : ∀ t : Fin cfg0.N, Scalar.cmpi .eq (word (grid0.coords t)) 32#32 = if t.val % 33 = 32 then 1#1 else 0#1 :=
  (by decide +kernel : ∀ t : Fin grid0.N, _)

theorem head_bit : ∀ r : Fin 256, IntOp.cmpi .slt (BitVec.ofNat 32 r.val) 16#32 = if r.val < 16 then 1#1 else 0#1 := by decide +kernel

theorem select_if (p : Prop) [Decidable p] (a b : EReal) : Scalar.select (if p then 1#1 else 0#1) a b = if p then a else b := by
  split <;> rfl

/-- The row sixteen places before, around the end of the tile. -/
def moved (r : Fin 256) : Fin 256 := ⟨(r.val + 256 - 16) % 256, by omega⟩

theorem pay2_at (t : Fin cfg0.N) (x : Vec Ideal S256x2048 .f32) (y : Vec Ideal S256x2048 .f32) (r : Fin 256) (n : Fin 2048) :
    k0_pay2 (grid0.coords t) x y (ix2 r n)
      = if t.val % 33 = 0 then (if r.val < 16 then y (ix2 r n) else x (ix2 (moved r) n))
        else if t.val % 33 = 32 then (if r.val < 16 then x (ix2 (moved r) n) else (0 : EReal)) else x (ix2 r n) := by
  pointwise [k0_pay2]
  refine (show _ = Scalar.select (Scalar.cmpi .eq (word (grid0.coords t)) 0#32)
    (Scalar.select (IntOp.cmpi .slt (BitVec.ofNat 32 r.val) 16#32) (y (ix2 r n) : EReal) (x (ix2 (moved r) n)))
    (Scalar.select (Scalar.cmpi .eq (word (grid0.coords t)) 32#32)
      (Scalar.select (IntOp.cmpi .slt (BitVec.ofNat 32 r.val) 16#32) (x (ix2 (moved r) n) : EReal) (0 : EReal)) (x (ix2 r n))) from rfl).trans ?_
  rw [word_first, word_last, head_bit]
  simp only [select_if]

theorem pay1_at (g : Vec Ideal S1x2048 .f32) (t : Fin cfg0.N) (x : Vec Ideal S256x2048 .f32)
    (y : Vec Ideal S256x2048 .f32) (r : Fin 256) (n : Fin 2048) :
    k0_pay1 (k0_pay2 (grid0.coords t) x y) (k0_pay3 g) (k0_pay4 (grid0.coords t) x y) (ix2 r n)
      = norm (fun k => k0_pay2 (grid0.coords t) x y (ix2 r k)) (fun k => g (ix2 (0 : Fin 1) k)) n := by
  pointwise [k0_pay1, k0_pay3, k0_pay4]
  rfl

/-! ## The arrays at the kernel's start -/

theorem pad_at (X : FVec Ideal S16x2048 .f32) (v : FVec Ideal S_ .f32) (r : Fin 256) (n : Fin 2048) (h : r.val < 16) :
    pad S256x2048 ![0, 0] ![240, 0] ![0, 0] X v pads_S16x2048_S256x2048_02400_000 h_S_ (ix2 r n) = X (ix2 (⟨r.val, h⟩ : Fin 16) n) := by
  pointwise
  rw [dif_pos (by omega)]

theorem v0_at (r : Fin 256) (n : Fin 2048) (h : r.val < 16) :
    V m c main_v0 (ix2 r n) = m ((c : Thread nD τ).loc main_arg1) (ix2 (⟨r.val, h⟩ : Fin 16) n) := by
  show StableHlo.after (List.flatten [hostOps0, hostOps0_1, hostOps0_2]) (fun b => m (c, b)) (Proc.devRef .tc main_v0) _ = _
  simp only [hostOps0, hostOps0_1, hostOps0_2, List.flatten_cons, List.flatten_nil, List.append_nil, List.cons_append, List.nil_append]
  after_results
  exact pad_at _ _ r n h

theorem v1_at (b : Fin 2) (i : Fin 8192) (n : Fin 2048) (R : Fin 16384) (h : R.val = b.val * 8192 + i.val) :
    V m c main_v1 (ix2 R n) = m ((c : Thread nD τ).loc main_arg0) (ix3 b i n) := by
  show StableHlo.after (List.flatten [hostOps0, hostOps0_1, hostOps0_2]) (fun b => m (c, b)) (Proc.devRef .tc main_v1) _ = _
  simp only [hostOps0, hostOps0_1, hostOps0_2, List.flatten_cons, List.flatten_nil, List.append_nil, List.cons_append, List.nil_append]
  after_results
  pointwise
  exact congrArg _ (ix3_eq (by simp only; omega) (by simp only; omega))

theorem v4_at (n : Fin 2048) : V m c main_v4 (ix2 (0 : Fin 1) n) = m ((c : Thread nD τ).loc main_arg2) (ix2 (0 : Fin 2) n) := by
  show StableHlo.after (List.flatten [hostOps0, hostOps0_1, hostOps0_2]) (fun b => m (c, b)) (Proc.devRef .tc main_v4) _ = _
  simp only [hostOps0, hostOps0_1, hostOps0_2, List.flatten_cons, List.flatten_nil, List.append_nil, List.cons_append, List.nil_append]
  after_results
  pointwise

/-! ## The blocks -/

theorem blk_0 (X : FVec Ideal S16384x2048 .f32) (t : Fin cfg0.N) (r : Fin 256) (n : Fin 2048) :
    ((cfg0.win 0).blk t).view.read (Elt Ideal) X (ix2 r n) = X (ix2 (⟨start t.val + r.val, start_lt t r⟩ : Fin 16384) n) := by
  refine congrArg X (funext fun a => Fin.ext ?_)
  refine (ValueKit.rect_emb_unit_val _ _ _ _ _).trans ?_
  fin_cases a
  · exact congrArg (· + r.val) (congrFun (idx t).1 0)
  · exact (congrArg (· + n.val) (congrFun (idx t).1 1)).trans (Nat.zero_add _)

theorem blk_1 (X : FVec Ideal S256x2048 .f32) (t : Fin cfg0.N) (r : Fin 256) (n : Fin 2048) :
    ((cfg0.win 1).blk t).view.read (Elt Ideal) X (ix2 r n) = X (ix2 r n) := by
  blk_ext [idx t]

theorem blk_2 (X : FVec Ideal S1x2048 .f32) (t : Fin cfg0.N) (n : Fin 2048) :
    ((cfg0.win 2).blk t).view.read (Elt Ideal) X (ix2 (0 : Fin 1) n) = X (ix2 (0 : Fin 1) n) := by
  blk_ext [idx t]

/-! ## The output arrays -/

/-- The grid point of a row of the padded array. -/
def pt (R : Fin 16896) : Fin cfg0.N := ⟨R.val / 256, lt_of_lt_of_eq (by omega) (show 66 = cfg0.N from N_0.symm)⟩

/-- A row of the padded array, from the arrays at the kernel's start. -/
def row (R : Fin 16896) (n : Fin 2048) : EReal :=
  k0_pay2 (F := Ideal) (grid0.coords (pt R)) (iblk m c 0 (pt R)) (iblk m c 1 (pt R)) (ix2 (⟨R.val % 256, by omega⟩ : Fin 256) n)

theorem row_lt (t : Fin cfg0.N) (r : Fin 256) : t.val * 256 + r.val < 16896 := by
  have := lt t
  omega

theorem point (t : Fin cfg0.N) (r : Fin 256) (n : Fin 2048) :
    k0_pay2 (grid0.coords t) (iblk m c 0 t) (iblk m c 1 t) (ix2 r n) = row m c ⟨t.val * 256 + r.val, row_lt t r⟩ n := by
  unfold row
  have ht : pt ⟨t.val * 256 + r.val, row_lt t r⟩ = t := Fin.ext (show (t.val * 256 + r.val) / 256 = t.val by omega)
  have hr : (⟨(t.val * 256 + r.val) % 256, by omega⟩ : Fin 256) = r := Fin.ext (by simp only; omega)
  rw [ht, hr]

theorem out3 : (dats m 0 c).arrAt 3 cfg0.N = (fun y : S16896x2048.Idx => row m c (y 0) (y 1)) := by
  refine (dats m 0 c).arrAt_eq_of_covers 3 _ (by decide +kernel) fun t _ y => ?_
  have hy0 : (y 0).val < 256 := (y 0).isLt
  have hy1 : (y 1).val < 2048 := (y 1).isLt
  have hc := lt t
  rw [after0_3]
  frame_out
  refine (congrArg _ (?_ : y = ix2 (⟨(y 0).val, hy0⟩ : Fin 256) (⟨(y 1).val, hy1⟩ : Fin 2048))).trans
    ((point m c t ⟨_, hy0⟩ ⟨_, hy1⟩).trans (congrArg₂ (row m c) (Fin.ext ?_) (Fin.ext ?_)))
  · funext a
    fin_cases a <;> rfl
  · blk_simp [idx t]
  · blk_simp [idx t]

theorem out4 : (dats m 0 c).arrAt 4 cfg0.N
    = (fun y : S16896x2048.Idx => norm (fun k => row m c (y 0) k) (fun k => V m c main_v4 (ix2 (0 : Fin 1) k)) (y 1)) := by
  refine (dats m 0 c).arrAt_eq_of_covers 4 _ (by decide +kernel) fun t _ y => ?_
  have hy0 : (y 0).val < 256 := (y 0).isLt
  have hy1 : (y 1).val < 2048 := (y 1).isLt
  have hc := lt t
  rw [after0_4]
  frame_out
  refine (congrArg _ (?_ : y = ix2 (⟨(y 0).val, hy0⟩ : Fin 256) (⟨(y 1).val, hy1⟩ : Fin 2048))).trans
    ((pay1_at _ t _ _ ⟨_, hy0⟩ ⟨_, hy1⟩).trans ?_)
  · funext a
    fin_cases a <;> rfl
  · refine (norm_congr (fun k => point m c t ⟨_, hy0⟩ k) (fun k => blk_2 (V m c main_v4) t k) _).trans ?_
    refine congrArg₂ (fun R n => norm (fun k => row m c R k) (fun k => V m c main_v4 (ix2 (0 : Fin 1) k)) n) (Fin.ext ?_) (Fin.ext ?_)
    · blk_simp [idx t]
    · blk_simp [idx t]

/-! ## The results: the arrays without the padding -/

/-- The kept rows of an array of padded rows. -/
def crop (φ : FTy) (X : FVec Ideal S16896x2048 φ) : FVec Ideal S2x8208x2048 φ :=
  extractStridedSlice S2x8208x2048 ![0, 0, 0] (shapeCast S2x8448x2048 X shapeCasts_S16896x2048_S2x8448x2048)
    slices_S2x8448x2048_S2x8208x2048_0_0_0

theorem crop_at (φ : FTy) (X : FVec Ideal S16896x2048 φ) (b : Fin 2) (i : Fin 8208) (n : Fin 2048) :
    crop φ X (ix3 b i n) = X (ix2 (⟨b.val * 8448 + i.val, by omega⟩ : Fin 16896) n) := by
  pointwise [crop]

/-- A token's row, as a point reads it. -/
theorem token_at (t : Fin cfg0.N) (r : Fin 256) (n : Fin 2048) (b : Fin 2) (i : Fin 8192) (h : start t.val + r.val = b.val * 8192 + i.val) :
    iblk m c 0 t (ix2 r n) = m ((c : Thread nD τ).loc main_arg0) (ix3 b i n) :=
  (blk_0 (V m c main_v1) t r n).trans (v1_at m c b i n _ h)

/-- A meta token's row, as a point reads it. -/
theorem meta_at (t : Fin cfg0.N) (r : Fin 256) (n : Fin 2048) (j : Fin 16) (h : r.val = j.val) :
    iblk m c 1 t (ix2 r n) = m ((c : Thread nD τ).loc main_arg1) (ix2 j n) :=
  (blk_1 (V m c main_v0) t r n).trans ((v0_at m c r n (by omega)).trans (congrArg (fun q => m ((c : Thread nD τ).loc main_arg1) (ix2 q n)) (Fin.ext h)))

/-- A kept row, from the program's arguments. -/
theorem row_at (b : Fin 2) (i : Fin 8208) (n : Fin 2048) : row m c ⟨b.val * 8448 + i.val, by omega⟩ n
    = stream (F := Ideal) (m ((c : Thread nD τ).loc main_arg0)) (m ((c : Thread nD τ).loc main_arg1)) (ix3 b i n) := by
  unfold row
  rw [stream_at]
  have ht : (pt ⟨b.val * 8448 + i.val, by omega⟩).val = b.val * 33 + i.val / 256 := show (b.val * 8448 + i.val) / 256 = _ by omega
  generalize pt ⟨b.val * 8448 + i.val, by omega⟩ = t at ht
  have hr : (⟨(b.val * 8448 + i.val) % 256, by omega⟩ : Fin 256).val = i.val % 256 := by simp only; omega
  generalize (⟨(b.val * 8448 + i.val) % 256, by omega⟩ : Fin 256) = r at hr
  refine (pay2_at t _ _ r n).trans ?_
  have hm : (moved r).val = (r.val + 256 - 16) % 256 := rfl
  by_cases h0 : t.val % 33 = 0
  · rw [if_pos h0]
    by_cases h1 : i.val < 16
    · rw [if_pos (by omega), dif_pos h1]
      exact meta_at m c t r n _ (by simp only; omega)
    · rw [if_neg (by omega), dif_neg h1]
      exact token_at m c t _ n _ _ (by unfold start; simp only; omega)
  · rw [if_neg h0, dif_neg (by omega)]
    by_cases h2 : t.val % 33 = 32
    · rw [if_pos h2, if_pos (by omega)]
      exact token_at m c t _ n _ _ (by unfold start; simp only; omega)
    · rw [if_neg h2]
      exact token_at m c t _ n _ _ (by unfold start; simp only; omega)

/-- What the program's results hold. -/
def result0 : FVec Ideal S2x8208x2048 .f32 :=
  crop .f32 ((dats m 0 c).arrAt 3 cfg0.N)

def result1 : FVec Ideal S2x8208x2048 .bf16 :=
  crop .bf16 ((dats m 0 c).arrAt 4 cfg0.N)

theorem result0_eq : result0 m c = stream (F := Ideal) (m ((c : Thread nD τ).loc main_arg0)) (m ((c : Thread nD τ).loc main_arg1)) := by
  funext y
  have hy : y = ix3 (y 0 : Fin 2) (y 1 : Fin 8208) (y 2 : Fin 2048) := by funext a; fin_cases a <;> rfl
  rw [hy]
  exact (crop_at .f32 _ _ _ _).trans ((congrFun (out3 m c) _).trans (row_at m c _ _ _))

theorem result1_eq : result1 m c = normed (F := Ideal) (m ((c : Thread nD τ).loc main_arg0)) (m ((c : Thread nD τ).loc main_arg1))
    (m ((c : Thread nD τ).loc main_arg2)) := by
  funext y
  have hy : y = ix3 (y 0 : Fin 2) (y 1 : Fin 8208) (y 2 : Fin 2048) := by funext a; fin_cases a <;> rfl
  rw [hy]
  exact (crop_at .bf16 _ _ _ _).trans ((congrFun (out4 m c) _).trans
    (.trans (norm_congr (fun k => row_at m c _ _ k) (fun k => v4_at m c k) _) (normed_at _ _ _ _ _ _).symm))

/-! ## The run -/

theorem tail_0 (σ : Valuation τ sig (Elt Ideal)) : StableHlo.after hostOps1 σ (Proc.devRef .tc main_v7)
    = crop .f32 (σ (Proc.devRef .tc main_v5_0)) := by
  after_results
  rfl

theorem tail_1 (σ : Valuation τ sig (Elt Ideal)) : StableHlo.after hostOps1 σ (Proc.devRef .tc main_v9)
    = crop .bf16 (σ (Proc.devRef .tc main_v5_1)) := by
  after_results
  rfl

theorem res_0 : Pipeline.afterTail₀ cfgs (dats m) 0 (V0 m) [hostOps1] c main_v7 = result0 m c := by
  unfold Pipeline.afterTail₀ result0
  rw [show [hostOps1 (F := Ideal)].flatten = hostOps1 from rfl]
  exact (tail_0 _).trans (congrArg (crop .f32) (Pipeline.withArrays_arr spec0 (by decide) c _ (fun w => (dats m 0 c).arrAt w cfg0.N) 3))

theorem res_1 : Pipeline.afterTail₀ cfgs (dats m) 0 (V0 m) [hostOps1] c main_v9 = result1 m c := by
  unfold Pipeline.afterTail₀ result1
  rw [show [hostOps1 (F := Ideal)].flatten = hostOps1 from rfl]
  exact (tail_1 _).trans (congrArg (crop .bf16) (Pipeline.withArrays_arr spec0 (by decide) c _ (fun w => (dats m 0 c).arrAt w cfg0.N) 4))

theorem rest_0 : main_v7 ∈ Pipeline.restRefs sig spec0 := by decide
theorem rest_1 : main_v9 ∈ Pipeline.restRefs sig spec0 := by decide

/-- The program's run, read at its two results: they are the reference's. -/
theorem run (ρ : Dev nD → PrngReg) : θ_run defs (onTc (τ := τ) (main (F := Ideal))) (s₀ m ρ) fun r =>
    ∀ c : Dev nD, r.2.mem ((c : Thread nD τ).loc main_v7) = result0 m c ∧ r.2.mem ((c : Thread nD τ).loc main_v9) = result1 m c :=
  θ_run_mono (run_main m ρ) fun _ hr c =>
    ⟨((hr c).2 main_v7 rest_0).trans (res_0 m c), ((hr c).2 main_v9 rest_1).trans (res_1 m c)⟩

end Cert.Kernel9Ideal.Start

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Value
public import proofs.«01_k».proof.Proof.Ref.Value
public import proofs.«01_k».proof.Proof.Finite
public import proofs.«01_k».proof.Proof.Gen.Pre_finite_args
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel2.Launch
public import proofs.«01_k».proof.Proof.Gen.Kernel2.Points
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Kernel2.Skeleton
public import proofs.«01_k».proof.Proof.Gen.Kernel2Ideal.Skeleton
public import proofs.«01_k».proof.Proof.Gen.Kernel3.Frame
public import proofs.«01_k».proof.Proof.Gen.Kernel3Ideal.Frame
public import proofs.«01_k».proof.Proof.Gen.Kernel3.Launch
public import proofs.«01_k».proof.Proof.Gen.Kernel3.Points
public import proofs.«01_k».proof.Proof.Gen.Kernel3Ideal.Launch
public import proofs.«01_k».proof.Proof.Gen.Kernel3Ideal.Points
public import proofs.«01_k».proof.Proof.Gen.Reference3Ideal.Run
public import proofs.«01_k».proof.Proof.Gen.Kernel3.Skeleton
public import proofs.«01_k».proof.Proof.Gen.Kernel3Ideal.Skeleton
public import proofs.«01_k».proof.Proof.Gen.Kernel4.Frame
public import proofs.«01_k».proof.Proof.Gen.Kernel4Ideal.Frame
public import proofs.«01_k».proof.Proof.Gen.Kernel4.Launch
public import proofs.«01_k».proof.Proof.Gen.Kernel4.Points
public import proofs.«01_k».proof.Proof.Gen.Kernel4Ideal.Launch
public import proofs.«01_k».proof.Proof.Gen.Kernel4Ideal.Points
public import proofs.«01_k».proof.Proof.Gen.Reference4Ideal.Run
public import proofs.«01_k».proof.Proof.Gen.Kernel4.Skeleton
public import proofs.«01_k».proof.Proof.Gen.Kernel4Ideal.Skeleton
public import proofs.«01_k».proof.Proof.Gen.Kernel5.Frame
public import proofs.«01_k».proof.Proof.Gen.Kernel5Ideal.Frame
public import proofs.«01_k».proof.Proof.Gen.Kernel5.Launch
public import proofs.«01_k».proof.Proof.Gen.Kernel5.Points
public import proofs.«01_k».proof.Proof.Gen.Kernel5Ideal.Launch
public import proofs.«01_k».proof.Proof.Gen.Kernel5Ideal.Points
public import proofs.«01_k».proof.Proof.Gen.Reference5Ideal.Run
public import proofs.«01_k».proof.Proof.Gen.Kernel5.Skeleton
public import proofs.«01_k».proof.Proof.Gen.Kernel5Ideal.Skeleton
public import proofs.«01_k».proof.Proof.Gen.Kernel6.Frame
public import proofs.«01_k».proof.Proof.Gen.Kernel7.Frame
public import proofs.«01_k».proof.Proof.Gen.Kernel8.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel6.Launch
public import proofs.«01_k».proof.Proof.Gen.Kernel7.Launch
public import proofs.«01_k».proof.Proof.Gen.Kernel8.Launch
public import proofs.«01_k».proof.Proof.Gen.Kernel6.Points
public import proofs.«01_k».proof.Proof.Gen.Kernel7.Points
public import proofs.«01_k».proof.Proof.Gen.Kernel8.Points
public import proofs.«01_k».proof.Proof.Gen.Kernel6Ideal.Launch
public import proofs.«01_k».proof.Proof.Gen.Kernel7Ideal.Launch
public import proofs.«01_k».proof.Proof.Gen.Kernel8Ideal.Launch
public import proofs.«01_k».proof.Proof.Gen.Kernel6Ideal.Points
public import proofs.«01_k».proof.Proof.Gen.Kernel7Ideal.Points
public import proofs.«01_k».proof.Proof.Gen.Kernel8Ideal.Points
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Kernel6.Skeleton
public import proofs.«01_k».proof.Proof.Gen.Kernel7.Skeleton
public import proofs.«01_k».proof.Proof.Gen.Kernel8.Skeleton
public import proofs.«01_k».proof.Proof.Gen.Kernel6Ideal.Skeleton
public import proofs.«01_k».proof.Proof.Gen.Kernel9.Frame
public import proofs.«01_k».proof.Proof.Gen.Kernel10.Frame
public import proofs.«01_k».proof.Proof.Gen.Kernel10Ideal.Frame
public import proofs.«01_k».proof.Proof.Gen.Reference10Ideal.Run
public import proofs.«01_k».proof.Proof.Latents.Value
public import proofs.«01_k».proof.Proof.Gen.Kernel9Ideal.Frame
public import proofs.«01_k».proof.Proof.Gen.Kernel9.Launch
public import proofs.«01_k».proof.Proof.Gen.Kernel9.Points
public import proofs.«01_k».proof.Proof.Gen.Kernel9Ideal.Launch
public import proofs.«01_k».proof.Proof.Gen.Kernel9Ideal.Points
public import proofs.«01_k».proof.Proof.Gen.Reference9Ideal.Run
public import proofs.«01_k».proof.Proof.Gen.Kernel9.Skeleton
public import proofs.«01_k».proof.Proof.Gen.Kernel9Ideal.Skeleton
public import proofs.«01_k».proof.Proof.Gen.Kernel7Ideal.Skeleton
public import proofs.«01_k».proof.Proof.Gen.Kernel8Ideal.Skeleton
public import Idealize.ShloMosaic.Adequacy
public import Idealize.ShloMosaic.Init
public import proofs.«01_k».proof.Proof.Rows
public import proofs.«01_k».proof.Proof.Down.Ref
public import proofs.«01_k».proof.Proof.Down.Value
public import proofs.«01_k».proof.Proof.Merge.Ref
public import proofs.«01_k».proof.Proof.Merge.Value
public import proofs.«01_k».proof.Proof.Gates.Ref
public import proofs.«01_k».proof.Proof.Gates.Value
public import proofs.«01_k».proof.Proof.Up.Ref
public import proofs.«01_k».proof.Proof.Up.Tile
public import proofs.«01_k».proof.Proof.Up.Value
public import proofs.«01_k».proof.Proof.Up.Run
public import proofs.«01_k».proof.Proof.Next.Ref
public import proofs.«01_k».proof.Proof.Next.Value
public import proofs.«01_k».proof.Proof.Keys.Ref
public import proofs.«01_k».proof.Proof.Keys.Value
public import proofs.«01_k».proof.Proof.Queries.Ref
public import proofs.«01_k».proof.Proof.Queries.Value
public import proofs.«01_k».proof.Proof.Start.Ref
public import proofs.«01_k».proof.Proof.Start.Value

@[expose] public section

noncomputable section

namespace Cert.Proof

open Idealize.ShloMosaic Idealize.SL.Sem Cert.Kernel

set_option maxRecDepth 16384

theorem frame_kernel : Cert.quiescent_Kernel := fun m ρ _ =>
  θ_run_mono (Cert.Kernel.Att.run (F := Bits) m ρ) fun _ h => ⟨fun c => (h.1 c).2, h.2⟩

theorem frame_ideal : Cert.quiescent_KernelIdeal := fun m ρ _ =>
  θ_run_mono (Cert.KernelIdeal.Att.run (F := Ideal) m ρ) fun _ h => ⟨fun c => (h.1 c).2, h.2⟩

theorem frame_reference : Cert.quiescent_ReferenceIdeal := fun m ρ _ =>
  θ_run_mono (Cert.ReferenceIdeal.Value.run (F := Ideal) m ρ) fun r h =>
    ⟨fun c => (h c).2, Idealize.ShloMosaic.sem_eq_zero_of_no_sems (by decide) r.2⟩

theorem preserves : Cert.preserves_Kernel_KernelIdeal :=
  IdealRules.named_const.statement _ _ _ _ _ (by rfl)

theorem frame_ideal_pre [Cert.Pre_finite_args.Facts] : Cert.quiescent_KernelIdeal_pre_finite_args := fun m ρ _ => frame_ideal m ρ trivial

theorem frame_reference_pre [Cert.Pre_finite_args.Facts] : Cert.quiescent_ReferenceIdeal_pre_finite_args := fun m ρ _ =>
  frame_reference m ρ trivial

/-- At real arguments both results are the stick-breaking attention. -/
theorem results_eq [Cert.Pre_finite_args.Facts] (m : (ℓ : Loc Cert.KernelIdeal.nD Cert.KernelIdeal.τ Cert.KernelIdeal.sig) → Buf (Elt Ideal) ℓ)
    (h : Cert.Pre_KernelIdeal_finite_args m) (c : Dev Cert.KernelIdeal.nD) :
    Cert.ReferenceIdeal.Att.REF (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = Cert.KernelIdeal.Att.result m c := by
  obtain ⟨hq, hk, hv⟩ := Cert.Finite.entries _ _ _ (h c)
  funext j
  obtain ⟨b, i, n, rfl⟩ : ∃ (b : Fin 2) (i : Fin 8208) (n : Fin 1024), j = ix3 b i n := ⟨j 0, j 1, j 2, ValueIdx.eq_ix3 j⟩
  exact (Cert.ReferenceIdeal.Att.REF_real hq.1 hk.1 hv.1 b i n).trans
    (Cert.KernelIdeal.Att.result_at m c _ _ _ hq hk hv b i n).symm

theorem algebraic [Cert.Pre_finite_args.Facts] : Cert.algebraic_KernelIdeal_ReferenceIdeal_pre_finite_args := by
  intro m g m' g' hpre hagree
  refine ⟨fun c => Cert.KernelIdeal.Att.result m c, θ_run_mono (Cert.KernelIdeal.Att.run (F := Ideal) m g) fun _ h => h.1,
    θ_run_mono (Cert.ReferenceIdeal.Value.run (F := Ideal) m' g') fun r h c => ⟨(h c).1.trans ?_, (h c).2⟩⟩
  rw [Cert.ReferenceIdeal.Att.res_eq]
  rw [(hagree c).1, (hagree c).2.1, (hagree c).2.2]
  exact results_eq m hpre c

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  θ_run_mono (Cert.Reference2Ideal.Value.run (F := Ideal) m ρ) fun r h =>
    ⟨fun c => (h c).2, Idealize.ShloMosaic.sem_eq_zero_of_no_sems (by decide) r.2⟩

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  θ_run_mono (Cert.Reference3Ideal.Value.run (F := Ideal) m ρ) fun r h =>
    ⟨fun c => (h c).2.2, Idealize.ShloMosaic.sem_eq_zero_of_no_sems (by decide) r.2⟩

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  θ_run_mono (Cert.Reference4Ideal.Value.run (F := Ideal) m ρ) fun r h =>
    ⟨fun c => (h c).2, Idealize.ShloMosaic.sem_eq_zero_of_no_sems (by decide) r.2⟩

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  θ_run_mono (Cert.Reference5Ideal.Value.run (F := Ideal) m ρ) fun r h =>
    ⟨fun c => (h c).2, Idealize.ShloMosaic.sem_eq_zero_of_no_sems (by decide) r.2⟩

/-- The down projection of the feed-forward part with the residual and the final norm. -/
theorem algebraic2 : Cert.algebraic_Kernel2Ideal_Reference2Ideal := by
  intro m g m' g' _ hagree
  refine ⟨fun c => (Cert.Kernel2Ideal.Gen.dats m 0 c).arrAt 4 Cert.Kernel2Ideal.cfg0.N, Cert.Kernel2Ideal.Value.run_blocks m g,
    θ_run_mono (Cert.Reference2Ideal.Value.run (F := Ideal) m' g') fun r h c => ⟨(h c).1.trans ?_, (h c).2⟩⟩
  refine Eq.trans ?_ (Cert.Kernel2Ideal.Down.final m c).symm
  rw [← (hagree c).1, ← (hagree c).2.1, ← (hagree c).2.2.1, ← (hagree c).2.2.2]
  rfl

/-- The gated merge of the two attentions, and the norm after it. -/
theorem algebraic3 : Cert.algebraic_Kernel3Ideal_Reference3Ideal := by
  intro m g m' g' _ hagree
  refine ⟨fun c => Cert.Kernel3Ideal.Merge.result0 m c, fun c => Cert.Kernel3Ideal.Merge.result1 m c,
    θ_run_mono (θ_run_and (Cert.Kernel3Ideal.Merge.run m g) (Cert.Kernel3Ideal.Gen.unchanged (F := Ideal) m g))
      fun r h c => ⟨(h.1 c).1, (h.1 c).2, h.2 c⟩,
    θ_run_mono (Cert.Reference3Ideal.Value.run (F := Ideal) m' g') fun r h c => ⟨(h c).1.trans ?_, (h c).2.1.trans ?_, (h c).2.2⟩⟩
  · refine Eq.trans ?_ (Cert.Kernel3Ideal.Merge.result0_eq m c).symm
    rw [← (hagree c).1, ← (hagree c).2.1, ← (hagree c).2.2.1, ← (hagree c).2.2.2.1,
      ← (hagree c).2.2.2.2.1, ← (hagree c).2.2.2.2.2.1, ← (hagree c).2.2.2.2.2.2.1]
    rfl
  · refine Eq.trans ?_ (Cert.Kernel3Ideal.Merge.result1_eq m c).symm
    rw [← (hagree c).1, ← (hagree c).2.1, ← (hagree c).2.2.1, ← (hagree c).2.2.2.1,
      ← (hagree c).2.2.2.2.1, ← (hagree c).2.2.2.2.2.1, ← (hagree c).2.2.2.2.2.2.1, ← (hagree c).2.2.2.2.2.2.2]
    exact Cert.Reference3Ideal.Merge.res_eq m' c

/-- The gates' projection. -/
theorem algebraic4 : Cert.algebraic_Kernel4Ideal_Reference4Ideal := by
  intro m g m' g' _ hagree
  refine ⟨fun c => Cert.Kernel4Ideal.Gates.result m c,
    θ_run_mono (θ_run_and (Cert.Kernel4Ideal.Gates.run m g) (Cert.Kernel4Ideal.Gen.unchanged (F := Ideal) m g))
      fun r h c => ⟨h.1 c, h.2 c⟩,
    θ_run_mono (Cert.Reference4Ideal.Value.run (F := Ideal) m' g') fun r h c => ⟨(h c).1.trans ?_, (h c).2⟩⟩
  refine Eq.trans ?_ (Cert.Kernel4Ideal.Gates.result_eq m c).symm
  rw [← (hagree c).1, ← (hagree c).2]
  rfl

/-- The up projection of the feed-forward part, its convolution and its gating. -/
theorem algebraic5 : Cert.algebraic_Kernel5Ideal_Reference5Ideal := by
  intro m g m' g' _ hagree
  refine ⟨fun c => Cert.Kernel5Ideal.Up.result m c,
    θ_run_mono (θ_run_and (Cert.Kernel5Ideal.Up.run m g) (Cert.Kernel5Ideal.Gen.unchanged (F := Ideal) m g))
      fun r h c => ⟨h.1 c, h.2 c⟩,
    θ_run_mono (Cert.Reference5Ideal.Value.run (F := Ideal) m' g') fun r h c => ⟨(h c).1.trans ?_, (h c).2⟩⟩
  refine Eq.trans ?_ (Cert.Kernel5Ideal.Up.result_eq m c).symm
  rw [← (hagree c).1, ← (hagree c).2.1, ← (hagree c).2.2.1, ← (hagree c).2.2.2]
  exact Cert.Reference5Ideal.Up.res_eq m' c

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  θ_run_mono (Cert.Reference6Ideal.Value.run (F := Ideal) m ρ) fun r h =>
    ⟨fun c => (h c).2.2, Idealize.ShloMosaic.sem_eq_zero_of_no_sems (by decide) r.2⟩

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

theorem frame_reference7 : Cert.quiescent_Reference7Ideal := fun m ρ _ =>
  θ_run_mono (Cert.Reference7Ideal.Value.run (F := Ideal) m ρ) fun r h =>
    ⟨fun c => (h c).2, Idealize.ShloMosaic.sem_eq_zero_of_no_sems (by decide) r.2⟩

theorem frame_kernel8 : Cert.quiescent_Kernel8 := fun m ρ _ => Cert.Kernel8.Gen.frame (F := Bits) m ρ

theorem frame_ideal8 : Cert.quiescent_Kernel8Ideal := fun m ρ _ => Cert.Kernel8Ideal.Gen.frame (F := Ideal) m ρ

theorem frame_reference8 : Cert.quiescent_Reference8Ideal := fun m ρ _ =>
  θ_run_mono (Cert.Reference8Ideal.Value.run (F := Ideal) m ρ) fun r h =>
    ⟨fun c => (h c).2, Idealize.ShloMosaic.sem_eq_zero_of_no_sems (by decide) r.2⟩

/-- The first layer's down projection with the residual, and the next layer's norm. -/
theorem algebraic6 : Cert.algebraic_Kernel6Ideal_Reference6Ideal := by
  intro m g m' g' _ hagree
  refine ⟨fun c => Cert.Kernel6Ideal.Next.result0 m c, fun c => Cert.Kernel6Ideal.Next.result1 m c,
    θ_run_mono (θ_run_and (Cert.Kernel6Ideal.Next.run m g) (Cert.Kernel6Ideal.Gen.unchanged (F := Ideal) m g))
      fun r h c => ⟨(h.1 c).1, (h.1 c).2, h.2 c⟩,
    θ_run_mono (Cert.Reference6Ideal.Value.run (F := Ideal) m' g') fun r h c => ⟨(h c).1.trans ?_, (h c).2.1.trans ?_, (h c).2.2⟩⟩
  · refine Eq.trans ?_ (Cert.Kernel6Ideal.Next.result0_eq m c).symm
    rw [← (hagree c).1, ← (hagree c).2.1, ← (hagree c).2.2.1]
    rfl
  · refine Eq.trans ?_ (Cert.Kernel6Ideal.Next.result1_eq m c).symm
    rw [← (hagree c).1, ← (hagree c).2.1, ← (hagree c).2.2.1, ← (hagree c).2.2.2]
    rfl

/-- The keys' projection. -/
theorem algebraic7 : Cert.algebraic_Kernel7Ideal_Reference7Ideal := by
  intro m g m' g' _ hagree
  refine ⟨fun c => Cert.Kernel7Ideal.Keys.result m c,
    θ_run_mono (θ_run_and (Cert.Kernel7Ideal.Keys.run m g) (Cert.Kernel7Ideal.Gen.unchanged (F := Ideal) m g))
      fun r h c => ⟨h.1 c, h.2 c⟩,
    θ_run_mono (Cert.Reference7Ideal.Value.run (F := Ideal) m' g') fun r h c => ⟨(h c).1.trans ?_, (h c).2⟩⟩
  refine Eq.trans ?_ (Cert.Kernel7Ideal.Keys.result_eq m c).symm
  rw [← (hagree c).1, ← (hagree c).2]
  rfl

/-- The queries' projection. -/
theorem algebraic8 : Cert.algebraic_Kernel8Ideal_Reference8Ideal := by
  intro m g m' g' _ hagree
  refine ⟨fun c => Cert.Kernel8Ideal.Queries.result m c,
    θ_run_mono (θ_run_and (Cert.Kernel8Ideal.Queries.run m g) (Cert.Kernel8Ideal.Gen.unchanged (F := Ideal) m g))
      fun r h c => ⟨h.1 c, h.2 c⟩,
    θ_run_mono (Cert.Reference8Ideal.Value.run (F := Ideal) m' g') fun r h c => ⟨(h c).1.trans ?_, (h c).2⟩⟩
  refine Eq.trans ?_ (Cert.Kernel8Ideal.Queries.result_eq m c).symm
  rw [← (hagree c).1, ← (hagree c).2]
  rfl

theorem frame_kernel9 : Cert.quiescent_Kernel9 := fun m ρ _ => Cert.Kernel9.Gen.frame (F := Bits) m ρ

theorem frame_ideal9 : Cert.quiescent_Kernel9Ideal := fun m ρ _ => Cert.Kernel9Ideal.Gen.frame (F := Ideal) m ρ

theorem frame_reference9 : Cert.quiescent_Reference9Ideal := fun m ρ _ =>
  θ_run_mono (Cert.Reference9Ideal.Value.run (F := Ideal) m ρ) fun r h =>
    ⟨fun c => (h c).2.2, Idealize.ShloMosaic.sem_eq_zero_of_no_sems (by decide) r.2⟩

/-- The first call: the meta tokens in front of the tokens, and the first norm. -/
theorem algebraic9 : Cert.algebraic_Kernel9Ideal_Reference9Ideal := by
  intro m g m' g' _ hagree
  refine ⟨fun c => Cert.Kernel9Ideal.Start.result0 m c, fun c => Cert.Kernel9Ideal.Start.result1 m c,
    θ_run_mono (θ_run_and (Cert.Kernel9Ideal.Start.run m g) (Cert.Kernel9Ideal.Gen.unchanged (F := Ideal) m g))
      fun r h c => ⟨(h.1 c).1, (h.1 c).2, h.2 c⟩,
    θ_run_mono (Cert.Reference9Ideal.Value.run (F := Ideal) m' g') fun r h c => ⟨(h c).1.trans ?_, (h c).2.1.trans ?_, (h c).2.2⟩⟩
  · refine Eq.trans ?_ (Cert.Kernel9Ideal.Start.result0_eq m c).symm
    rw [← (hagree c).1, ← (hagree c).2.1]
    rfl
  · refine Eq.trans ?_ (Cert.Kernel9Ideal.Start.result1_eq m c).symm
    rw [← (hagree c).1, ← (hagree c).2.1, ← (hagree c).2.2]
    rfl

theorem frame_kernel10 : Cert.quiescent_Kernel10 := fun m ρ _ => Cert.Kernel10.Gen.frame (F := Bits) m ρ

theorem frame_ideal10 : Cert.quiescent_Kernel10Ideal := fun m ρ _ => Cert.Kernel10Ideal.Gen.frame (F := Ideal) m ρ

theorem frame_reference10 : Cert.quiescent_Reference10Ideal := fun m ρ _ =>
  θ_run_mono (Cert.Reference10Ideal.Value.run (F := Ideal) m ρ) fun r h =>
    ⟨fun c => (h c).2.2.2, Idealize.ShloMosaic.sem_eq_zero_of_no_sems (by decide) r.2⟩

/-- The latents' projections are the reference's: queries, scaled keys and values of the parts without positions. -/
theorem algebraic10 : Cert.algebraic_Kernel10Ideal_Reference10Ideal := by
  intro m g m' g' _ hagree
  refine ⟨fun c => Cert.Kernel10Ideal.Latents.resultQ m c, fun c => Cert.Kernel10Ideal.Latents.resultK m c,
    fun c => Cert.Kernel10Ideal.Latents.resultV m c,
    θ_run_mono (θ_run_and (Cert.Kernel10Ideal.Latents.run m g) (Cert.Kernel10Ideal.Gen.unchanged (F := Ideal) m g))
      fun r h c => ⟨(h.1 c).1, (h.1 c).2.1, (h.1 c).2.2, h.2 c⟩,
    θ_run_mono (Cert.Reference10Ideal.Value.run (F := Ideal) m' g') fun r h c =>
      ⟨(h c).1.trans ?_, (h c).2.1.trans ?_, (h c).2.2.1.trans ?_, (h c).2.2.2⟩⟩
  · refine Eq.trans ?_ (Cert.Kernel10Ideal.Latents.resultQ_eq m c).symm
    unfold Cert.Kernel10Ideal.Latents.hn Cert.Kernel10Ideal.Latents.wIn Cert.Kernel10Ideal.Latents.gQ Cert.Kernel10Ideal.Latents.wQ
    rw [← (hagree c).1, ← (hagree c).2.1, ← (hagree c).2.2.1, ← (hagree c).2.2.2.1]
    rfl
  · refine Eq.trans ?_ (Cert.Kernel10Ideal.Latents.resultK_eq m c).symm
    unfold Cert.Kernel10Ideal.Latents.hn Cert.Kernel10Ideal.Latents.wIn Cert.Kernel10Ideal.Latents.gK Cert.Kernel10Ideal.Latents.wKV
    rw [← (hagree c).1, ← (hagree c).2.1, ← (hagree c).2.2.2.2.1, ← (hagree c).2.2.2.2.2]
    rfl
  · refine Eq.trans ?_ (Cert.Kernel10Ideal.Latents.resultV_eq m c).symm
    unfold Cert.Kernel10Ideal.Latents.hn Cert.Kernel10Ideal.Latents.wIn Cert.Kernel10Ideal.Latents.gK Cert.Kernel10Ideal.Latents.wKV
    rw [← (hagree c).1, ← (hagree c).2.1, ← (hagree c).2.2.2.2.1, ← (hagree c).2.2.2.2.2]
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_finite_args.Gen.facts,
  frame_kernel, frame_ideal, letI := Cert.Pre_finite_args.Gen.facts; frame_ideal_pre, frame_reference,
  letI := Cert.Pre_finite_args.Gen.facts; frame_reference_pre, frame_kernel2, frame_ideal2, frame_reference2, frame_kernel3, frame_ideal3, frame_reference3, frame_kernel4, frame_ideal4, frame_reference4, frame_kernel5, frame_ideal5, frame_reference5,
  frame_kernel6, frame_ideal6, frame_reference6, frame_kernel7, frame_ideal7, frame_reference7, frame_kernel8, frame_ideal8, frame_reference8, frame_kernel9, frame_ideal9, frame_reference9,
  frame_kernel10, frame_ideal10, frame_reference10,
  preserves, letI := Cert.Pre_finite_args.Gen.facts; algebraic, trivial, algebraic2, trivial, algebraic3, trivial, algebraic4, trivial, algebraic5,
  trivial, algebraic6, trivial, algebraic7, trivial, algebraic8, trivial, algebraic9, trivial, algebraic10⟩

end Cert.Proof

end
